-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_layer_in_range : Cert.Pre_layer_in_range.Facts] (m : (ℓ : Loc Cert.Kernel2.nD Cert.Kernel2.τ Cert.Kernel2.sig) → Buf (Elt Bits) ℓ) : Prop :=
  ∀ c : Dev Cert.Kernel2.nD,
    (Cert.Pre_layer_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))) = (fun _ => 1#1)

def Pre_Kernel2Ideal [hPre_layer_in_range : Cert.Pre_layer_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_layer_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal [hPre_layer_in_range : Cert.Pre_layer_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_layer_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 [hPre_layer_in_range_too : Cert.Pre_layer_in_range_too.Facts] (m : (ℓ : Loc Cert.Kernel3.nD Cert.Kernel3.τ Cert.Kernel3.sig) → Buf (Elt Bits) ℓ) : Prop :=
  ∀ c : Dev Cert.Kernel3.nD,
    (Cert.Pre_layer_in_range_too.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8)) (m ((c.tc : Thread Cert.Kernel3.nD Cert.Kernel3.τ).loc Cert.Kernel3.main_arg9)) (m ((c.tc : Thread Cert.Kernel3.nD Cert.Kernel3.τ).loc Cert.Kernel3.main_arg10)) (m ((c.tc : Thread Cert.Kernel3.nD Cert.Kernel3.τ).loc Cert.Kernel3.main_arg11))) = (fun _ => 1#1)

def Pre_Kernel3Ideal [hPre_layer_in_range_too : Cert.Pre_layer_in_range_too.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_layer_in_range_too.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal [hPre_layer_in_range_too : Cert.Pre_layer_in_range_too.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_layer_in_range_too.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_layer_in_range : Cert.Pre_layer_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_layer_in_range : Cert.Pre_layer_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_layer_in_range : Cert.Pre_layer_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_layer_in_range_too : Cert.Pre_layer_in_range_too.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] [hPre_layer_in_range_too : Cert.Pre_layer_in_range_too.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] [hPre_layer_in_range_too : Cert.Pre_layer_in_range_too.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "query_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] [hPre_layer_in_range : Cert.Pre_layer_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v51_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v51_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v168) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_layer_in_range_too : Cert.Pre_layer_in_range_too.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_tables_in_range : Cert.Pre_tables_in_range.Facts) (hPre_layer_in_range : Cert.Pre_layer_in_range.Facts) (hPre_layer_in_range_too : Cert.Pre_layer_in_range_too.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2) (hPre_layer_in_range := hPre_layer_in_range)
    ∧ quiescent_Kernel2Ideal (hKernel2Ideal := hKernel2Ideal) (hPre_layer_in_range := hPre_layer_in_range)
    ∧ quiescent_Reference2Ideal (hReference2Ideal := hReference2Ideal) (hPre_layer_in_range := hPre_layer_in_range)
    ∧ quiescent_Kernel3 (hKernel3 := hKernel3) (hPre_layer_in_range_too := hPre_layer_in_range_too)
    ∧ quiescent_Kernel3Ideal (hKernel3Ideal := hKernel3Ideal) (hPre_layer_in_range_too := hPre_layer_in_range_too)
    ∧ quiescent_Reference3Ideal (hReference3Ideal := hReference3Ideal) (hPre_layer_in_range_too := hPre_layer_in_range_too)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal) (hPre_layer_in_range := hPre_layer_in_range)
    ∧ preserves_Kernel3_Kernel3Ideal
    ∧ algebraic_Kernel3Ideal_Reference3Ideal (hKernel3Ideal := hKernel3Ideal) (hReference3Ideal := hReference3Ideal) (hPre_layer_in_range_too := hPre_layer_in_range_too)
-- ==== Pre_layer_in_range.lean ====
abbrev S32768x1024 : Shape := ⟨2, ![32768, 1024]⟩
abbrev S16384x1024 : Shape := ⟨2, ![16384, 1024]⟩
abbrev S1 : Shape := ⟨1, ![1]⟩
abbrev S4x1024 : Shape := ⟨2, ![4, 1024]⟩
abbrev S4x1024x3072 : Shape := ⟨3, ![4, 1024, 3072]⟩
abbrev S4x64 : Shape := ⟨2, ![4, 64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S32768x1024 .f32) (main_arg1 : FVec F S16384x1024 .f32) (main_arg2 : IVec S1 32) (main_arg3 : FVec F S4x1024 .f32) (main_arg4 : FVec F S4x1024x3072 .f32) (main_arg5 : FVec F S4x64 .f32) (main_arg6 : FVec F S4x64 .f32) (main_arg7 : FVec F S4x64 .f32) (main_arg8 : FVec F S4x64 .f32) : IVec S_ 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_layer_in_range_too.lean ====
abbrev S4x49152x128 : Shape := ⟨3, ![4, 49152, 128]⟩
abbrev S49152x512 : Shape := ⟨2, ![49152, 512]⟩
abbrev S32768x1024 : Shape := ⟨2, ![32768, 1024]⟩
abbrev S16384x1024 : Shape := ⟨2, ![16384, 1024]⟩
abbrev S1 : Shape := ⟨1, ![1]⟩
abbrev S4x512 : Shape := ⟨2, ![4, 512]⟩
abbrev S4x1024x1024 : Shape := ⟨3, ![4, 1024, 1024]⟩
abbrev S4x1024 : Shape := ⟨2, ![4, 1024]⟩
abbrev S4x1024x256 : Shape := ⟨3, ![4, 1024, 256]⟩
abbrev S4x1x128 : Shape := ⟨3, ![4, 1, 128]⟩
abbrev S512x512 : Shape := ⟨2, ![512, 512]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S4x49152x128 .f32) (main_arg1 : FVec F S49152x512 .f32) (main_arg2 : FVec F S32768x1024 .f32) (main_arg3 : FVec F S16384x1024 .f32) (main_arg4 : IVec S1 32) (main_arg5 : FVec F S4x512 .f32) (main_arg6 : FVec F S4x512 .f32) (main_arg7 : FVec F S4x1024x1024 .f32) (main_arg8 : FVec F S4x1024 .f32) (main_arg9 : FVec F S4x1024x256 .bf16) (main_arg10 : FVec F S4x1x128 .f32) (main_arg11 : FVec F S512x512 .bf16) : IVec S_ 1 :=
  let main_c : IVec S_ 32 := constantI S_ 32 0#32
  let main_v0 : IVec S1 32 := broadcastInDim S1 ![] bcast_S_S1 main_c
  let main_v1 : IVec S1 1 := cmpi .sge main_arg4 main_v0
  let main_c_0 : IVec S_ 32 := constantI S_ 32 4#32
  let main_v2 : IVec S1 32 := broadcastInDim S1 ![] bcast_S_S1 main_c_0
  let main_v3 : IVec S1 1 := cmpi .slt main_arg4 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  main_v5
-- ==== Pre_tables_in_range.lean ====
abbrev S114688x1024 : Shape := ⟨2, ![114688, 1024]⟩
abbrev S1 : Shape := ⟨1, ![1]⟩
abbrev S224 : Shape := ⟨1, ![224]⟩
abbrev S4x32x1024x512 : Shape := ⟨4, ![4, 32, 1024, 512]⟩
abbrev S4x32x512x1024 : Shape := ⟨4, ![4, 32, 512, 1024]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S224 : S_.BroadcastsInDim S224 (![] : Fin 0 → Fin S224.rank)
  reducesTo_S224_S_d0 : S224.ReducesTo [0] S_

variable [Facts]

def fn {F : FTy → Type} [FloatOps F] (main_arg0 : FVec F S114688x1024 .bf16) (main_arg1 : IVec S1 32) (main_arg2 : IVec S224 32) (main_arg3 : IVec S1 32) (main_arg4 : FVec F S4x32x1024x512 .f32) (main_arg5 : FVec F S4x32x1024x512 .f32) (main_arg6 : FVec F S4x32x512x1024 .f32) : IVec S_ 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 4#32
  let main_v2 : IVec S1 32 := broadcastInDim S1 ![] bcast_S_S1 main_c_0
  let main_v3 : IVec S1 1 := cmpi .slt main_arg1 main_v2
  let main_v4 : IVec S1 1 := andi main_v1 main_v3
  let main_c_1 : IVec S_ 1 := constantI S_ 1 1#1
  let main_v5 : IVec S_ 1 := (fun x v => Host.reduce IntOp.andi x v reducesTo_S1_S_d0 h_S_) main_v4 main_c_1
  let main_c_2 : IVec S_ 32 := constantI S_ 32 0#32
  let main_v6 : IVec S224 32 := broadcastInDim S224 ![] bcast_S_S224 main_c_2
  let main_v7 : IVec S224 1 := cmpi .sge main_arg2 main_v6
  let main_c_3 : IVec S_ 32 := constantI S_ 32 32#32
  let main_v8 : IVec S224 32 := broadcastInDim S224 ![] bcast_S_S224 main_c_3
  let main_v9 : IVec S224 1 := cmpi .slt main_arg2 main_v8
  let main_v10 : IVec S224 1 := andi main_v7 main_v9
  let main_c_4 : IVec S_ 1 := constantI S_ 1 1#1
  let main_v11 : IVec S_ 1 := (fun x v => Host.reduce IntOp.andi x v reducesTo_S224_S_d0 h_S_) main_v10 main_c_4
  let main_v12 : IVec S_ 1 := andi main_v5 main_v11
  main_v12
-- ==== Kernel.lean ====
abbrev S114688x1024 : Shape := ⟨2, ![114688, 1024]⟩
abbrev S1 : Shape := ⟨1, ![1]⟩
abbrev S224 : Shape := ⟨1, ![224]⟩
abbrev S4x32x1024x512 : Shape := ⟨4, ![4, 32, 1024, 512]⟩
abbrev S4x32x512x1024 : Shape := ⟨4, ![4, 32, 512, 1024]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S256x1024 : Shape := ⟨2, ![256, 1024]⟩
abbrev S256x512 : Shape := ⟨2, ![256, 512]⟩

abbrev nBuf : Space → Nat
  | .hbm => 5
  | .vmem => 13
  | .smem => 3
  | _ => 0

abbrev bufTy : (tb : Table) → Fin (tcTables nBuf tb) → BufTy
  | .hbm, ⟨0, _⟩ => ⟨S114688x1024, .bf16⟩
  | .hbm, ⟨1, _⟩ => ⟨S4x32x1024x512, .f32⟩
  | .hbm, ⟨2, _⟩ => ⟨S4x32x1024x512, .f32⟩
  | .hbm, ⟨3, _⟩ => ⟨S4x32x512x1024, .f32⟩
  | .hbm, ⟨4, _⟩ => ⟨S114688x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S1, .i32⟩
  | .local _ .smem, ⟨1, _⟩ => ⟨S224, .i32⟩
  | .local _ .smem, ⟨2, _⟩ => ⟨S1, .i32⟩
  | _, _ => ⟨S114688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![224], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (k0_off1_inb : ∀ i : grid0.Coords, ∀ a, (k0_off1 i) a + S1.size a ≤ S224.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : Index := Scalar.indexCast arg0
  let v2 : BitVec 32 := pf.at 1 (Rect.unit (s := S224) ![v1.toNat] S1.size (k0_off1_inb i)) numel1_S1
  let c0_i32 : BitVec 32 := 0#32
  let c0_i32_0 : BitVec 32 := 0#32
  let c0_i32_1 : BitVec 32 := 0#32
  ![v0.toNat, v2.toNat, c0_i32.toNat, c0_i32_0.toNat]

def cc0_transform_2 (inb_S1_S1_0 : ∀ a, (![0] : Fin 1 → Nat) a + S1.size a ≤ S1.size a) (numel1_S1 : S1.numel = 1) (k0_off1_inb : ∀ i : grid0.Coords, ∀ a, (k0_off1 i) a + S1.size a ≤ S224.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : Index := Scalar.indexCast arg0
  let v2 : BitVec 32 := pf.at 1 (Rect.unit (s := S224) ![v1.toNat] S1.size (k0_off1_inb i)) numel1_S1
  let c0_i32 : BitVec 32 := 0#32
  let c0_i32_0 : BitVec 32 := 0#32
  let c0_i32_1 : BitVec 32 := 0#32
  ![v0.toNat, v2.toNat, c0_i32.toNat, c0_i32_0.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S224.size a) (pf : pre0.Contents (Elt F)) (i : grid0.Coords) : Fin 4 → Nat :=
  let arg0 : BitVec 32 := BitVec.ofNat 32 (i 0).val
  let c0 : Index := 0#32
  let v0 : BitVec 32 := pf.at 0 (Rect.unit (s := S1) ![0] S1.size inb_S1_S1_0) numel1_S1
  let v1 : Index := Scalar.indexCast arg0
  let v2 : BitVec 32 := pf.at 1 (Rect.unit (s := S224) ![v1.toNat] S1.size (k0_off1_inb i)) numel1_S1
  let c0_i32 : BitVec 32 := 0#32
  let c0_i32_0 : BitVec 32 := 0#32
  let c0_i32_1 : BitVec 32 := 0#32
  ![v0.toNat, v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S114688x1024 : Shape := ⟨2, ![114688, 1024]⟩
abbrev S1 : Shape := ⟨1, ![1]⟩
abbrev S224 : Shape := ⟨1, ![224]⟩
abbrev S4x32x1024x512 : Shape := ⟨4, ![4, 32, 1024, 512]⟩
abbrev S4x32x512x1024 : Shape := ⟨4, ![4, 32, 512, 1024]⟩
abbrev S224x512x1024 : Shape := ⟨3, ![224, 512, 1024]⟩
abbrev S_ : Shape := ⟨0, ![]⟩
abbrev S32x1024x512 : Shape := ⟨3, ![32, 1024, 512]⟩
abbrev S224x1 : Shape := ⟨2, ![224, 1]⟩
abbrev S224x1024x512 : Shape := ⟨3, ![224, 1024, 512]⟩
abbrev S224x512x512 : Shape := ⟨3, ![224, 512, 512]⟩
abbrev S32x512x1024 : Shape := ⟨3, ![32, 512, 1024]⟩

abbrev nBuf : Space → Nat
  | .hbm => 46
  | .vmem => 0
  | .smem => 0
  | _ => 0

abbrev bufTy : (tb : Table) → Fin (tcTables nBuf tb) → BufTy
  | .hbm, ⟨0, _⟩ => ⟨S114688x1024, .bf16⟩
  | .hbm, ⟨1, _⟩ => ⟨S1, .i32⟩
  | .hbm, ⟨2, _⟩ => ⟨S224, .i32⟩
  | .hbm, ⟨3, _⟩ => ⟨S1, .i32⟩
  | .hbm, ⟨4, _⟩ => ⟨S4x32x1024x512, .f32⟩
  | .hbm, ⟨5, _⟩ => ⟨S4x32x1024x512, .f32⟩
  | .hbm, ⟨6, _⟩ => ⟨S4x32x512x1024, .f32⟩
  | .hbm, ⟨7, _⟩ => ⟨S114688x1024, .f32⟩
  | .hbm, ⟨8, _⟩ => ⟨S224x512x1024, .f32⟩
  | .hbm, ⟨9, _⟩ => ⟨S_, .i32⟩
  | .hbm, ⟨10, _⟩ => ⟨S1, .i32⟩
  | .hbm, ⟨11, _⟩ => ⟨S32x1024x512, .f32⟩
  | .hbm, ⟨12, _⟩ => ⟨S224x1, .i32⟩
  | .hbm, ⟨13, _⟩ => ⟨S224x1024x512, .f32⟩
  | .hbm, ⟨14, _⟩ => ⟨S224x512x512, .f32⟩
  | .hbm, ⟨15, _⟩ => ⟨S224x512x512, .f32⟩
  | .hbm, ⟨16, _⟩ => ⟨S224x512x512, .f32⟩
  | .hbm, ⟨17, _⟩ => ⟨S_, .f32⟩
  | .hbm, ⟨18, _⟩ => ⟨S224x512x512, .f32⟩
  | .hbm, ⟨19, _⟩ => ⟨S224x512x512, .f32⟩
  | .hbm, ⟨20, _⟩ => ⟨S_, .f32⟩
  | .hbm, ⟨21, _⟩ => ⟨S224x512x512, .f32⟩
  | .hbm, ⟨22, _⟩ => ⟨S224x512x512, .f32⟩
  | .hbm, ⟨23, _⟩ => ⟨S224x512x512, .f32⟩
  | .hbm, ⟨24, _⟩ => ⟨S_, .i32⟩
  | .hbm, ⟨25, _⟩ => ⟨S1, .i32⟩
  | .hbm, ⟨26, _⟩ => ⟨S32x1024x512, .f32⟩
  | .hbm, ⟨27, _⟩ => ⟨S224x1, .i32⟩
  | .hbm, ⟨28, _⟩ => ⟨S224x1024x512, .f32⟩
  | .hbm, ⟨29, _⟩ => ⟨S224x512x512, .f32⟩
  | .hbm, ⟨30, _⟩ => ⟨S224x512x512, .f32⟩
  | .hbm, ⟨31, _⟩ => ⟨S_, .i32⟩
  | .hbm, ⟨32, _⟩ => ⟨S1, .i32⟩
  | .hbm, ⟨33, _⟩ => ⟨S32x512x1024, .f32⟩
  | .hbm, ⟨34, _⟩ => ⟨S224x1, .i32⟩
  | .hbm, ⟨35, _⟩ => ⟨S224x512x1024, .f32⟩
  | .hbm, ⟨36, _⟩ => ⟨S224x512x1024, .f32⟩
  | .hbm, ⟨37, _⟩ => ⟨S224x512x1024, .i32⟩
  | .hbm, ⟨38, _⟩ => ⟨S_, .i32⟩
  | .hbm, ⟨39, _⟩ => ⟨S224x512x1024, .i32⟩
  | .hbm, ⟨40, _⟩ => ⟨S224x512x1024, .i1⟩
  | .hbm, ⟨41, _⟩ => ⟨S_, .f32⟩
  | .hbm, ⟨42, _⟩ => ⟨S224x512x1024, .f32⟩
  | .hbm, ⟨43, _⟩ => ⟨S224x512x1024, .f32⟩
  | .hbm, ⟨44, _⟩ => ⟨S114688x1024, .f32⟩
  | .hbm, ⟨45, _⟩ => ⟨S114688x1024, .bf16⟩
  | _, _ => ⟨S114688x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_v3 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call2_v0 : Ref sig .tc := ⟨.hbm, 25, rfl⟩
abbrev main_v14 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call4_v0 : Ref sig .tc := ⟨.hbm, 32, rfl⟩
abbrev main_v19 : Ref sig .tc := ⟨.hbm, 33, rfl⟩
abbrev main_call5_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== Kernel2.lean ====
abbrev S32768x1024 : Shape := ⟨2, ![32768, 1024]⟩
abbrev S16384x1024 : Shape := ⟨2, ![16384, 1024]⟩
abbrev S1 : Shape := ⟨1, ![1]⟩
abbrev S4x1024 : Shape := ⟨2, ![4, 1024]⟩
abbrev S4x1024x3072 : Shape := ⟨3, ![4, 1024, 3072]⟩
abbrev S4x64 : Shape := ⟨2, ![4, 64]⟩
abbrev S256x256 : Shape := ⟨2, ![256, 256]⟩
abbrev S1x4x1x64 : Shape := ⟨4, ![1, 4, 1, 64]⟩
abbrev S1x4x8x64 : Shape := ⟨4, ![1, 4, 8, 64]⟩
abbrev S4x512 : Shape := ⟨2, ![4, 512]⟩
abbrev S4x1x512 : Shape := ⟨3, ![4, 1, 512]⟩
abbrev S4x4x512 : Shape := ⟨3, ![4, 4, 512]⟩
abbrev S4x1x1024 : Shape := ⟨3, ![4, 1, 1024]⟩
abbrev S8 : Shape := ⟨1, ![8]⟩
abbrev S_ : Shape := ⟨0, ![]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x384 : Shape := ⟨2, ![16384, 384]⟩
abbrev S49152x3072 : Shape := ⟨2, ![49152, 3072]⟩
abbrev S12288x6144 : Shape := ⟨2, ![12288, 6144]⟩
abbrev S3072x24576 : Shape := ⟨2, ![3072, 24576]⟩
abbrev S512x1024 : Shape := ⟨2, ![512, 1024]⟩
abbrev S1x1x1024 : Shape := ⟨3, ![1, 1, 1024]⟩
abbrev S1x1024x3072 : Shape := ⟨3, ![1, 1024, 3072]⟩
abbrev S1x4x512 : Shape := ⟨3, ![1, 4, 512]⟩
abbrev S512x384 : Shape := ⟨2, ![512, 384]⟩
abbrev S512x3072 : Shape := ⟨2, ![512, 3072]⟩
abbrev S128x6144 : Shape := ⟨2, ![128, 6144]⟩
abbrev S32x24576 : Shape := ⟨2, ![32, 24576]⟩
abbrev S4x512x128 : Shape := ⟨3, ![4, 512, 128]⟩
abbrev S512 : Shape := ⟨1, ![512]⟩
abbrev S512x1 : Shape := ⟨2, ![512, 1]⟩
abbrev S1x1024 : Shape := ⟨2, ![1, 1024]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x1x512 : Shape := ⟨3, ![1, 1, 512]⟩
abbrev S1x512 : Shape := ⟨2, ![1, 512]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 68
  | .vmem => 17
  | .smem => 1
  | _ => 0

abbrev bufTy : (tb : Table) → Fin (tcTables nBuf tb) → BufTy
  | .hbm, ⟨0, _⟩ => ⟨S32768x1024, .f32⟩
  | .hbm, ⟨1, _⟩ => ⟨S16384x1024, .f32⟩
  | .hbm, ⟨2, _⟩ => ⟨S4x1024, .f32⟩
  | .hbm, ⟨3, _⟩ => ⟨S4x1024x3072, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S4x64, .f32⟩
  | .hbm, ⟨8, _⟩ => ⟨S256x256, .bf16⟩
  | .hbm, ⟨9, _⟩ => ⟨S1x4x1x64, .f32⟩
  | .hbm, ⟨10, _⟩ => ⟨S1x4x8x64, .f32⟩
  | .hbm, ⟨11, _⟩ => ⟨S4x512, .f32⟩
  | .hbm, ⟨12, _⟩ => ⟨S1x4x1x64, .f32⟩
  | .hbm, ⟨13, _⟩ => ⟨S1x4x8x64, .f32⟩
  | .hbm, ⟨14, _⟩ => ⟨S4x512, .f32⟩
  | .hbm, ⟨15, _⟩ => ⟨S1x4x1x64, .f32⟩
  | .hbm, ⟨16, _⟩ => ⟨S1x4x8x64, .f32⟩
  | .hbm, ⟨17, _⟩ => ⟨S4x512, .f32⟩
  | .hbm, ⟨18, _⟩ => ⟨S1x4x1x64, .f32⟩
  | .hbm, ⟨19, _⟩ => ⟨S1x4x8x64, .f32⟩
  | .hbm, ⟨20, _⟩ => ⟨S4x512, .f32⟩
  | .hbm, ⟨21, _⟩ => ⟨S4x1x512, .f32⟩
  | .hbm, ⟨22, _⟩ => ⟨S4x1x512, .f32⟩
  | .hbm, ⟨23, _⟩ => ⟨S4x1x512, .f32⟩
  | .hbm, ⟨24, _⟩ => ⟨S4x1x512, .f32⟩
  | .hbm, ⟨25, _⟩ => ⟨S4x4x512, .f32⟩
  | .hbm, ⟨26, _⟩ => ⟨S4x1x1024, .f32⟩
  | .hbm, ⟨27, _⟩ => ⟨S4x1024x3072, .bf16⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S16384, .i32⟩
  | .hbm, ⟨37, _⟩ => ⟨S16384, .f32⟩
  | .hbm, ⟨38, _⟩ => ⟨S16384x1, .f32⟩
  | .hbm, ⟨39, _⟩ => ⟨S1x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S_, .f32⟩
  | .hbm, ⟨46, _⟩ => ⟨S16384x48, .f32⟩
  | .hbm, ⟨47, _⟩ => ⟨S_, .f32⟩
  | .hbm, ⟨48, _⟩ => ⟨S16384x48, .f32⟩
  | .hbm, ⟨49, _⟩ => ⟨S_, .f32⟩
  | .hbm, ⟨50, _⟩ => ⟨S16384x8, .f32⟩
  | .hbm, ⟨51, _⟩ => ⟨S16384x64, .f32⟩
  | .hbm, ⟨52, _⟩ => ⟨S16384x8, .f32⟩
  | .hbm, ⟨53, _⟩ => ⟨S16384x64, .f32⟩
  | .hbm, ⟨54, _⟩ => ⟨S16384x64, .f32⟩
  | .hbm, ⟨55, _⟩ => ⟨S1x16384x1x64, .f32⟩
  | .hbm, ⟨56, _⟩ => ⟨S1x16384x2x64, .f32⟩
  | .hbm, ⟨57, _⟩ => ⟨S16384x128, .f32⟩
  | .hbm, ⟨58, _⟩ => ⟨S1x16384x1x64, .f32⟩
  | .hbm, ⟨59, _⟩ => ⟨S1x16384x2x64, .f32⟩
  | .hbm, ⟨60, _⟩ => ⟨S16384x128, .f32⟩
  | .hbm, ⟨61, _⟩ => ⟨S1x16384x1x64, .f32⟩
  | .hbm, ⟨62, _⟩ => ⟨S1x16384x2x64, .f32⟩
  | .hbm, ⟨63, _⟩ => ⟨S16384x128, .f32⟩
  | .hbm, ⟨64, _⟩ => ⟨S16384x384, .f32⟩
  | .hbm, ⟨65, _⟩ => ⟨S49152x3072, .bf16⟩
  | .hbm, ⟨66, _⟩ => ⟨S12288x6144, .bf16⟩
  | .hbm, ⟨67, _⟩ => ⟨S3072x24576, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1024x3072, .bf16⟩
  | .local _ .vmem, ⟨6, _⟩ => ⟨S1x4x512, .f32⟩
  | .local _ .vmem, ⟨7, _⟩ => ⟨S256x256, .bf16⟩
  | .local _ .vmem, ⟨8, _⟩ => ⟨S512x384, .f32⟩
  | .local _ .vmem, ⟨9, _⟩ => ⟨S512x384, .f32⟩
  | .local _ .vmem, ⟨10, _⟩ => ⟨S512x3072, .bf16⟩
  | .local _ .vmem, ⟨11, _⟩ => ⟨S512x3072, .bf16⟩
  | .local _ .vmem, ⟨12, _⟩ => ⟨S128x6144, .bf16⟩
  | .local _ .vmem, ⟨13, _⟩ => ⟨S128x6144, .bf16⟩
  | .local _ .vmem, ⟨14, _⟩ => ⟨S32x24576, .bf16⟩
  | .local _ .vmem, ⟨15, _⟩ => ⟨S32x24576, .bf16⟩
  | .local _ .vmem, ⟨16, _⟩ => ⟨S4x512x128, .f32⟩
  | .local _ .smem, ⟨0, _⟩ => ⟨S1, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51_0 : Ref sig .tc := ⟨.hbm, 65, rfl⟩
abbrev main_v51_1 : Ref sig .tc := ⟨.hbm, 66, rfl⟩
abbrev main_v51_2 : Ref sig .tc := ⟨.hbm, 67, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x24576 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel2Ideal.lean ====
variable {F : FTy → Type} [FloatOps F] [Named F]
def κ : String → Option EReal := fun
  | "query_scale" => some (((8 * (Real.log 2))⁻¹ : ℝ) : EReal)
  | _ => none
-- ==== Reference2Ideal.lean ====
abbrev S32768x1024 : Shape := ⟨2, ![32768, 1024]⟩
abbrev S16384x1024 : Shape := ⟨2, ![16384, 1024]⟩
abbrev S1 : Shape := ⟨1, ![1]⟩
abbrev S4x1024 : Shape := ⟨2, ![4, 1024]⟩
abbrev S4x1024x3072 : Shape := ⟨3, ![4, 1024, 3072]⟩
abbrev S4x64 : Shape := ⟨2, ![4, 64]⟩
abbrev S_ : Shape := ⟨0, ![]⟩
abbrev S49152x1024 : Shape := ⟨2, ![49152, 1024]⟩
abbrev S1024 : Shape := ⟨1, ![1024]⟩
abbrev S49152 : Shape := ⟨1, ![49152]⟩
abbrev S49152x1 : Shape := ⟨2, ![49152, 1]⟩
abbrev S1x1024 : Shape := ⟨2, ![1, 1024]⟩
abbrev S1024x3072 : Shape := ⟨2, ![1024, 3072]⟩
abbrev S49152x3072 : Shape := ⟨2, ![49152, 3072]⟩
abbrev S3x16384x6x8x64 : Shape := ⟨5, ![3, 16384, 6, 8, 64]⟩
abbrev S3x16384x1x8x64 : Shape := ⟨5, ![3, 16384, 1, 8, 64]⟩
abbrev S3x16384x8x64 : Shape := ⟨4, ![3, 16384, 8, 64]⟩
abbrev S64 : Shape := ⟨1, ![64]⟩
abbrev S3x16384x8 : Shape := ⟨3, ![3, 16384, 8]⟩
abbrev S3x16384x8x1 : Shape := ⟨4, ![3, 16384, 8, 1]⟩
abbrev S1x1x1x64 : Shape := ⟨4, ![1, 1, 1, 64]⟩
abbrev S8 : Shape := ⟨1, ![8]⟩
abbrev S16384 : Shape := ⟨1, ![16384]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S3x16384x8x8 : Shape := ⟨4, ![3, 16384, 8, 8]⟩
abbrev S3x16384x8x48 : Shape := ⟨4, ![3, 16384, 8, 48]⟩

abbrev nBuf : Space → Nat
  | .hbm => 205
  | .vmem => 0
  | .smem => 0
  | _ => 0

abbrev hbmTy0_0 (i : Nat) : BufTy := match i % 128 with
  | 0 => ⟨S32768x1024, .f32⟩
  | 1 => ⟨S16384x1024, .f32⟩
  | 2 => ⟨S1, .i32⟩
  | 3 => ⟨S4x1024, .f32⟩
  | 4 => ⟨S4x1024x3072, .f32⟩
  | 5 => ⟨S4x64, .f32⟩
  | 6 => ⟨S4x64, .f32⟩
  | 7 => ⟨S4x64, .f32⟩
  | 8 => ⟨S4x64, .f32⟩
  | 9 => ⟨S_, .f32⟩
  | 10 => ⟨S_, .f32⟩
  | 11 => ⟨S_, .f32⟩
  | 12 => ⟨S_, .f32⟩
  | 13 => ⟨S49152x1024, .f32⟩
  | 14 => ⟨S_, .i32⟩
  | 15 => ⟨S1, .i32⟩
  | 16 => ⟨S1024, .f32⟩
  | 17 => ⟨S49152x1024, .f32⟩
  | 18 => ⟨S_, .f32⟩
  | 19 => ⟨S49152, .f32⟩
  | 20 => ⟨S49152x1, .f32⟩
  | 21 => ⟨S_, .f32⟩
  | 22 => ⟨S49152x1, .f32⟩
  | 23 => ⟨S49152x1, .f32⟩
  | 24 => ⟨S_, .f32⟩
  | 25 => ⟨S49152x1, .f32⟩
  | 26 => ⟨S49152x1, .f32⟩
  | 27 => ⟨S49152x1, .f32⟩
  | 28 => ⟨S49152x1024, .f32⟩
  | 29 => ⟨S49152x1024, .f32⟩
  | 30 => ⟨S1x1024, .f32⟩
  | 31 => ⟨S49152x1024, .f32⟩
  | 32 => ⟨S49152x1024, .f32⟩
  | 33 => ⟨S_, .i32⟩
  | 34 => ⟨S1, .i32⟩
  | 35 => ⟨S1024x3072, .f32⟩
  | 36 => ⟨S49152x3072, .f32⟩
  | 37 => ⟨S3x16384x6x8x64, .f32⟩
  | 38 => ⟨S3x16384x1x8x64, .f32⟩
  | 39 => ⟨S3x16384x8x64, .f32⟩
  | 40 => ⟨S_, .i32⟩
  | 41 => ⟨S1, .i32⟩
  | 42 => ⟨S64, .f32⟩
  | 43 => ⟨S3x16384x8x64, .f32⟩
  | 44 => ⟨S_, .f32⟩
  | 45 => ⟨S3x16384x8, .f32⟩
  | 46 => ⟨S3x16384x8x1, .f32⟩
  | 47 => ⟨S_, .f32⟩
  | 48 => ⟨S3x16384x8x1, .f32⟩
  | 49 => ⟨S3x16384x8x1, .f32⟩
  | 50 => ⟨S_, .f32⟩
  | 51 => ⟨S3x16384x8x1, .f32⟩
  | 52 => ⟨S3x16384x8x1, .f32⟩
  | 53 => ⟨S3x16384x8x1, .f32⟩
  | 54 => ⟨S3x16384x8x64, .f32⟩
  | 55 => ⟨S3x16384x8x64, .f32⟩
  | 56 => ⟨S1x1x1x64, .f32⟩
  | 57 => ⟨S3x16384x8x64, .f32⟩
  | 58 => ⟨S3x16384x8x64, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S16384, .i32⟩
  | 68 => ⟨S16384, .f32⟩
  | 69 => ⟨S16384x1, .f32⟩
  | 70 => ⟨S1x8, .f32⟩
  | 71 => ⟨S16384x8, .f32⟩
  | 72 => ⟨S16384x8, .f32⟩
  | 73 => ⟨S16384x8, .f32⟩
  | 74 => ⟨S16384x8, .f32⟩
  | 75 => ⟨S1x16384x1x8, .f32⟩
  | 76 => ⟨S16384x8, .f32⟩
  | 77 => ⟨S1x16384x1x8, .f32⟩
  | 78 => ⟨S3x16384x8x8, .f32⟩
  | 79 => ⟨S3x16384x8x8, .f32⟩
  | 80 => ⟨S3x16384x8x8, .f32⟩
  | 81 => ⟨S3x16384x8x8, .f32⟩
  | 82 => ⟨S3x16384x8x8, .f32⟩
  | 83 => ⟨S3x16384x8x8, .f32⟩
  | 84 => ⟨S3x16384x8x8, .f32⟩
  | 85 => ⟨S3x16384x8x8, .f32⟩
  | 86 => ⟨S3x16384x8x8, .f32⟩
  | 87 => ⟨S3x16384x8x8, .f32⟩
  | 88 => ⟨S3x16384x8x8, .f32⟩
  | 89 => ⟨S3x16384x8x8, .f32⟩
  | 90 => ⟨S3x16384x8x48, .f32⟩
  | 91 => ⟨S3x16384x8x64, .f32⟩
  | 92 => ⟨S3x16384x8x64, .f32⟩
  | 93 => ⟨S3x16384x8x64, .f32⟩
  | 94 => ⟨S3x16384x1x8x64, .f32⟩
  | 95 => ⟨S3x16384x8x64, .f32⟩
  | 96 => ⟨S_, .i32⟩
  | 97 => ⟨S1, .i32⟩
  | 98 => ⟨S64, .f32⟩
  | 99 => ⟨S3x16384x8x64, .f32⟩
  | 100 => ⟨S_, .f32⟩
  | 101 => ⟨S3x16384x8, .f32⟩
  | 102 => ⟨S3x16384x8x1, .f32⟩
  | 103 => ⟨S_, .f32⟩
  | 104 => ⟨S3x16384x8x1, .f32⟩
  | 105 => ⟨S3x16384x8x1, .f32⟩
  | 106 => ⟨S_, .f32⟩
  | 107 => ⟨S3x16384x8x1, .f32⟩
  | 108 => ⟨S3x16384x8x1, .f32⟩
  | 109 => ⟨S3x16384x8x1, .f32⟩
  | 110 => ⟨S3x16384x8x64, .f32⟩
  | 111 => ⟨S3x16384x8x64, .f32⟩
  | 112 => ⟨S1x1x1x64, .f32⟩
  | 113 => ⟨S3x16384x8x64, .f32⟩
  | 114 => ⟨S3x16384x8x64, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S16384, .i32⟩
  | 124 => ⟨S16384, .f32⟩
  | 125 => ⟨S16384x1, .f32⟩
  | 126 => ⟨S1x8, .f32⟩
  | 127 => ⟨S16384x8, .f32⟩
  | _ => ⟨S32768x1024, .f32⟩

abbrev hbmTy0_1 (i : Nat) : BufTy := match i % 128 with
  | 0 => ⟨S16384x8, .f32⟩
  | 1 => ⟨S16384x8, .f32⟩
  | 2 => ⟨S16384x8, .f32⟩
  | 3 => ⟨S1x16384x1x8, .f32⟩
  | 4 => ⟨S16384x8, .f32⟩
  | 5 => ⟨S1x16384x1x8, .f32⟩
  | 6 => ⟨S3x16384x8x8, .f32⟩
  | 7 => ⟨S3x16384x8x8, .f32⟩
  | 8 => ⟨S3x16384x8x8, .f32⟩
  | 9 => ⟨S3x16384x8x8, .f32⟩
  | 10 => ⟨S3x16384x8x8, .f32⟩
  | 11 => ⟨S3x16384x8x8, .f32⟩
  | 12 => ⟨S3x16384x8x8, .f32⟩
  | 13 => ⟨S3x16384x8x8, .f32⟩
  | 14 => ⟨S3x16384x8x8, .f32⟩
  | 15 => ⟨S3x16384x8x8, .f32⟩
  | 16 => ⟨S3x16384x8x8, .f32⟩
  | 17 => ⟨S3x16384x8x8, .f32⟩
  | 18 => ⟨S3x16384x8x48, .f32⟩
  | 19 => ⟨S3x16384x8x64, .f32⟩
  | 20 => ⟨S3x16384x1x8x64, .f32⟩
  | 21 => ⟨S3x16384x8x64, .f32⟩
  | 22 => ⟨S3x16384x1x8x64, .f32⟩
  | 23 => ⟨S3x16384x8x64, .f32⟩
  | 24 => ⟨S_, .i32⟩
  | 25 => ⟨S1, .i32⟩
  | 26 => ⟨S64, .f32⟩
  | 27 => ⟨S3x16384x8x64, .f32⟩
  | 28 => ⟨S_, .f32⟩
  | 29 => ⟨S3x16384x8, .f32⟩
  | 30 => ⟨S3x16384x8x1, .f32⟩
  | 31 => ⟨S_, .f32⟩
  | 32 => ⟨S3x16384x8x1, .f32⟩
  | 33 => ⟨S3x16384x8x1, .f32⟩
  | 34 => ⟨S_, .f32⟩
  | 35 => ⟨S3x16384x8x1, .f32⟩
  | 36 => ⟨S3x16384x8x1, .f32⟩
  | 37 => ⟨S3x16384x8x1, .f32⟩
  | 38 => ⟨S3x16384x8x64, .f32⟩
  | 39 => ⟨S3x16384x8x64, .f32⟩
  | 40 => ⟨S1x1x1x64, .f32⟩
  | 41 => ⟨S3x16384x8x64, .f32⟩
  | 42 => ⟨S3x16384x8x64, .f32⟩
  | 43 => ⟨S3x16384x8x64, .f32⟩
  | 44 => ⟨S3x16384x8x64, .f32⟩
  | 45 => ⟨S3x16384x1x8x64, .f32⟩
  | 46 => ⟨S3x16384x8x64, .f32⟩
  | 47 => ⟨S_, .i32⟩
  | 48 => ⟨S1, .i32⟩
  | 49 => ⟨S64, .f32⟩
  | 50 => ⟨S3x16384x8x64, .f32⟩
  | 51 => ⟨S_, .f32⟩
  | 52 => ⟨S3x16384x8, .f32⟩
  | 53 => ⟨S3x16384x8x1, .f32⟩
  | 54 => ⟨S_, .f32⟩
  | 55 => ⟨S3x16384x8x1, .f32⟩
  | 56 => ⟨S3x16384x8x1, .f32⟩
  | 57 => ⟨S_, .f32⟩
  | 58 => ⟨S3x16384x8x1, .f32⟩
  | 59 => ⟨S3x16384x8x1, .f32⟩
  | 60 => ⟨S3x16384x8x1, .f32⟩
  | 61 => ⟨S3x16384x8x64, .f32⟩
  | 62 => ⟨S3x16384x8x64, .f32⟩
  | 63 => ⟨S1x1x1x64, .f32⟩
  | 64 => ⟨S3x16384x8x64, .f32⟩
  | 65 => ⟨S3x16384x8x64, .f32⟩
  | 66 => ⟨S3x16384x1x8x64, .f32⟩
  | 67 => ⟨S3x16384x8x64, .f32⟩
  | 68 => ⟨S3x16384x1x8x64, .f32⟩
  | 69 => ⟨S3x16384x1x8x64, .f32⟩
  | 70 => ⟨S3x16384x1x8x64, .f32⟩
  | 71 => ⟨S3x16384x1x8x64, .f32⟩
  | 72 => ⟨S3x16384x1x8x64, .f32⟩
  | 73 => ⟨S3x16384x1x8x64, .f32⟩
  | 74 => ⟨S3x16384x6x8x64, .f32⟩
  | 75 => ⟨S49152x3072, .f32⟩
  | 76 => ⟨S49152x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call3_v0 : Ref sig .tc := ⟨.hbm, 97, rfl⟩
abbrev main_v75 : Ref sig .tc := ⟨.hbm, 98, rfl⟩
abbrev main_v76 : Ref sig .tc := ⟨.hbm, 99, rfl⟩
abbrev main_cst_9 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_12 : Ref sig .tc := ⟨.hbm, 117, rfl⟩
abbrev main_v91 : Ref sig .tc := ⟨.hbm, 118, rfl⟩
abbrev main_v92 : Ref sig .tc := ⟨.hbm, 119, rfl⟩
abbrev main_cst_13 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_call4_v0 : Ref sig .tc := ⟨.hbm, 153, rfl⟩
abbrev main_v125 : Ref sig .tc := ⟨.hbm, 154, rfl⟩
abbrev main_v126 : Ref sig .tc := ⟨.hbm, 155, rfl⟩
abbrev main_cst_14 : Ref sig .tc := ⟨.hbm, 156, rfl⟩
abbrev main_v127 : Ref sig .tc := ⟨.hbm, 157, rfl⟩
abbrev main_v128 : Ref sig .tc := ⟨.hbm, 158, rfl⟩
abbrev main_cst_15 : Ref sig .tc := ⟨.hbm, 159, rfl⟩
abbrev main_v129 : Ref sig .tc := ⟨.hbm, 160, rfl⟩
abbrev main_v130 : Ref sig .tc := ⟨.hbm, 161, rfl⟩
abbrev main_cst_16 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_call5_v0 : Ref sig .tc := ⟨.hbm, 176, rfl⟩
abbrev main_v144 : Ref sig .tc := ⟨.hbm, 177, rfl⟩
abbrev main_v145 : Ref sig .tc := ⟨.hbm, 178, rfl⟩
abbrev main_cst_17 : Ref sig .tc := ⟨.hbm, 179, rfl⟩
abbrev main_v146 : Ref sig .tc := ⟨.hbm, 180, rfl⟩
abbrev main_v147 : Ref sig .tc := ⟨.hbm, 181, rfl⟩
abbrev main_cst_18 : Ref sig .tc := ⟨.hbm, 182, rfl⟩
abbrev main_v148 : Ref sig .tc := ⟨.hbm, 183, rfl⟩
abbrev main_v149 : Ref sig .tc := ⟨.hbm, 184, rfl⟩
abbrev main_cst_19 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩

abbrev nD : Nat := 1
abbrev τ : Topo := Topo.v7x

variable {F : FTy → Type} [FloatOps F]
-- ==== Kernel3.lean ====
abbrev S4x49152x128 : Shape := ⟨3, ![4, 49152, 128]⟩
abbrev S49152x512 : Shape := ⟨2, ![49152, 512]⟩
abbrev S32768x1024 : Shape := ⟨2, ![32768, 1024]⟩
abbrev S16384x1024 : Shape := ⟨2, ![16384, 1024]⟩
abbrev S1 : Shape := ⟨1, ![1]⟩
abbrev S4x512 : Shape := ⟨2, ![4, 512]⟩
abbrev S4x1024x1024 : Shape := ⟨3, ![4, 1024, 1024]⟩
abbrev S4x1024 : Shape := ⟨2, ![4, 1024]⟩
abbrev S4x1024x256 : Shape := ⟨3, ![4, 1024, 256]⟩
abbrev S4x1x128 : Shape := ⟨3, ![4, 1, 128]⟩
abbrev S512x512 : Shape := ⟨2, ![512, 512]⟩
abbrev S4x1x512 : Shape := ⟨3, ![4, 1, 512]⟩
abbrev S4x1x1024 : Shape := ⟨3, ![4, 1, 1024]⟩
abbrev S49152x1024 : Shape := ⟨2, ![49152, 1024]⟩
abbrev S2x49152 : Shape := ⟨2, ![2, 49152]⟩
abbrev S49152x128 : Shape := ⟨2, ![49152, 128]⟩
abbrev S32x128 : Shape := ⟨2, ![32, 128]⟩
abbrev S4x512x128 : Shape := ⟨3, ![4, 512, 128]⟩
abbrev S512x1024 : Shape := ⟨2, ![512, 1024]⟩
abbrev S1x1x512 : Shape := ⟨3, ![1, 1, 512]⟩
abbrev S1x1024x1024 : Shape := ⟨3, ![1, 1024, 1024]⟩
abbrev S1x1x1024 : Shape := ⟨3, ![1, 1, 1024]⟩
abbrev S1x1024x256 : Shape := ⟨3, ![1, 1024, 256]⟩
abbrev S1x1x128 : Shape := ⟨3, ![1, 1, 128]⟩
abbrev S2x512 : Shape := ⟨2, ![2, 512]⟩
abbrev S512x128 : Shape := ⟨2, ![512, 128]⟩
abbrev S1x512x128 : Shape := ⟨3, ![1, 512, 128]⟩
abbrev S1x512 : Shape := ⟨2, ![1, 512]⟩
abbrev S512 : Shape := ⟨1, ![512]⟩
abbrev S512x1 : Shape := ⟨2, ![512, 1]⟩
abbrev S1x512x1024 : Shape := ⟨3, ![1, 512, 1024]⟩
abbrev S1x1024 : Shape := ⟨2, ![1, 1024]⟩
abbrev S1024x256 : Shape := ⟨2, ![1024, 256]⟩
abbrev S512x256 : Shape := ⟨2, ![512, 256]⟩
abbrev S1x1024x128 : Shape := ⟨3, ![1, 1024, 128]⟩
abbrev S1024x128 : Shape := ⟨2, ![1024, 128]⟩
abbrev S1x128 : Shape := ⟨2, ![1, 128]⟩
abbrev S128x512 : Shape := ⟨2, ![128, 512]⟩
abbrev S8x512 : Shape := ⟨2, ![8, 512]⟩
abbrev S126x512 : Shape := ⟨2, ![126, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩

abbrev nBuf : Space → Nat
  | .hbm => 22
  | .vmem => 29
  | .smem => 1
  | _ => 0

abbrev bufTy : (tb : Table) → Fin (tcTables nBuf tb) → BufTy
  | .hbm, ⟨0, _⟩ => ⟨S4x49152x128, .f32⟩
  | .hbm, ⟨1, _⟩ => ⟨S49152x512, .f32⟩
  | .hbm, ⟨2, _⟩ => ⟨S32768x1024, .f32⟩
  | .hbm, ⟨3, _⟩ => ⟨S16384x1024, .f32⟩
  | .hbm, ⟨4, _⟩ => ⟨S4x512, .f32⟩
  | .hbm, ⟨5, _⟩ => ⟨S4x512, .f32⟩
  | .hbm, ⟨6, _⟩ => ⟨S4x1024x1024, .f32⟩
  | .hbm, ⟨7, _⟩ => ⟨S4x1024, .f32⟩
  | .hbm, ⟨8, _⟩ => ⟨S4x1024x256, .bf16⟩
  | .hbm, ⟨9, _⟩ => ⟨S4x1x128, .f32⟩
  | .hbm, ⟨10, _⟩ => ⟨S512x512, .bf16⟩
  | .hbm, ⟨11, _⟩ => ⟨S4x1x512, .f32⟩
  | .hbm, ⟨12, _⟩ => ⟨S4x1x512, .f32⟩
  | .hbm, ⟨13, _⟩ => ⟨S4x1024x1024, .bf16⟩
  | .hbm, ⟨14, _⟩ => ⟨S4x1x1024, .f32⟩
  | .hbm, ⟨15, _⟩ => ⟨S32768x1024, .f32⟩
  | .hbm, ⟨16, _⟩ => ⟨S16384x1024, .f32⟩
  | .hbm, ⟨17, _⟩ => ⟨S49152x1024, .bf16⟩
  | .hbm, ⟨18, _⟩ => ⟨S2x49152, .i32⟩
  | .hbm, ⟨19, _⟩ => ⟨S2x49152, .i32⟩
  | .hbm, ⟨20, _⟩ => ⟨S49152x128, .f32⟩
  | .hbm, ⟨21, _⟩ => ⟨S32x128, .f32⟩
  | .local _ .vmem, ⟨0, _⟩ => ⟨S4x512x128, .f32⟩
  | .local _ .vmem, ⟨1, _⟩ => ⟨S4x512x128, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x512, .f32⟩
  | .local _ .vmem, ⟨9, _⟩ => ⟨S1x1x512, .f32⟩
  | .local _ .vmem, ⟨10, _⟩ => ⟨S1x1024x1024, .bf16⟩
  | .local _ .vmem, ⟨11, _⟩ => ⟨S1x1x1024, .f32⟩
  | .local _ .vmem, ⟨12, _⟩ => ⟨S1x1024x256, .bf16⟩
  | .local _ .vmem, ⟨13, _⟩ => ⟨S1x1x128, .f32⟩
  | .local _ .vmem, ⟨14, _⟩ => ⟨S512x512, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S2x512, .i32⟩
  | .local _ .vmem, ⟨22, _⟩ => ⟨S2x512, .i32⟩
  | .local _ .vmem, ⟨23, _⟩ => ⟨S2x512, .i32⟩
  | .local _ .vmem, ⟨24, _⟩ => ⟨S2x512, .i32⟩
  | .local _ .vmem, ⟨25, _⟩ => ⟨S512x128, .f32⟩
  | .local _ .vmem, ⟨26, _⟩ => ⟨S512x128, .f32⟩
  | .local _ .vmem, ⟨27, _⟩ => ⟨S32x128, .f32⟩
  | .local _ .vmem, ⟨28, _⟩ => ⟨S32x128, .f32⟩
  | .local _ .smem, ⟨0, _⟩ => ⟨S1, .i32⟩
  | _, _ => ⟨S4x49152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond3 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_6 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_8 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_9 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S32x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S4x49152x128 : Shape := ⟨3, ![4, 49152, 128]⟩
abbrev S49152x512 : Shape := ⟨2, ![49152, 512]⟩
abbrev S32768x1024 : Shape := ⟨2, ![32768, 1024]⟩
abbrev S16384x1024 : Shape := ⟨2, ![16384, 1024]⟩
abbrev S1 : Shape := ⟨1, ![1]⟩
abbrev S4x512 : Shape := ⟨2, ![4, 512]⟩
abbrev S4x1024x1024 : Shape := ⟨3, ![4, 1024, 1024]⟩
abbrev S4x1024 : Shape := ⟨2, ![4, 1024]⟩
abbrev S4x1024x256 : Shape := ⟨3, ![4, 1024, 256]⟩
abbrev S4x1x128 : Shape := ⟨3, ![4, 1, 128]⟩
abbrev S512x512 : Shape := ⟨2, ![512, 512]⟩
abbrev S49152x4x128 : Shape := ⟨3, ![49152, 4, 128]⟩
abbrev S_ : Shape := ⟨0, ![]⟩
abbrev S512 : Shape := ⟨1, ![512]⟩
abbrev S49152 : Shape := ⟨1, ![49152]⟩
abbrev S49152x1 : Shape := ⟨2, ![49152, 1]⟩
abbrev S1x512 : Shape := ⟨2, ![1, 512]⟩
abbrev S49152x1024 : Shape := ⟨2, ![49152, 1024]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4x49152x128, .f32⟩
  | .hbm, ⟨1, _⟩ => ⟨S49152x512, .f32⟩
  | .hbm, ⟨2, _⟩ => ⟨S32768x1024, .f32⟩
  | .hbm, ⟨3, _⟩ => ⟨S16384x1024, .f32⟩
  | .hbm, ⟨4, _⟩ => ⟨S1, .i32⟩
  | .hbm, ⟨5, _⟩ => ⟨S4x512, .f32⟩
  | .hbm, ⟨6, _⟩ => ⟨S4x512, .f32⟩
  | .hbm, ⟨7, _⟩ => ⟨S4x1024x1024, .f32⟩
  | .hbm, ⟨8, _⟩ => ⟨S4x1024, .f32⟩
  | .hbm, ⟨9, _⟩ => ⟨S4x1024x256, .bf16⟩
  | .hbm, ⟨10, _⟩ => ⟨S4x1x128, .f32⟩
  | .hbm, ⟨11, _⟩ => ⟨S512x512, .bf16⟩
  | .hbm, ⟨12, _⟩ => ⟨S49152x4x128, .f32⟩
  | .hbm, ⟨13, _⟩ => ⟨S49152x512, .f32⟩
  | .hbm, ⟨14, _⟩ => ⟨S_, .i32⟩
  | .hbm, ⟨15, _⟩ => ⟨S1, .i32⟩
  | .hbm, ⟨16, _⟩ => ⟨S512, .f32⟩
  | .hbm, ⟨17, _⟩ => ⟨S49152x512, .f32⟩
  | .hbm, ⟨18, _⟩ => ⟨S_, .f32⟩
  | .hbm, ⟨19, _⟩ => ⟨S49152, .f32⟩
  | .hbm, ⟨20, _⟩ => ⟨S49152x1, .f32⟩
  | .hbm, ⟨21, _⟩ => ⟨S_, .f32⟩
  | .hbm, ⟨22, _⟩ => ⟨S49152x1, .f32⟩
  | .hbm, ⟨23, _⟩ => ⟨S49152x1, .f32⟩
  | .hbm, ⟨24, _⟩ => ⟨S_, .f32⟩
  | .hbm, ⟨25, _⟩ => ⟨S49152x1, .f32⟩
  | .hbm, ⟨26, _⟩ => ⟨S49152x1, .f32⟩
  | .hbm, ⟨27, _⟩ => ⟨S49152x1, .f32⟩
  | .hbm, ⟨28, _⟩ => ⟨S49152x512, .f32⟩
  | .hbm, ⟨29, _⟩ => ⟨S49152x512, .f32⟩
  | .hbm, ⟨30, _⟩ => ⟨S1x512, .f32⟩
  | .hbm, ⟨31, _⟩ => ⟨S49152x512, .f32⟩
  | .hbm, ⟨32, _⟩ => ⟨S49152x512, .f32⟩
  | .hbm, ⟨33, _⟩ => ⟨S_, .i32⟩
  | .hbm, ⟨34, _⟩ => ⟨S1, .i32⟩
  | .hbm, ⟨35, _⟩ => ⟨S512, .f32⟩
  | .hbm, ⟨36, _⟩ => ⟨S49152x512, .f32⟩
  | .hbm, ⟨37, _⟩ => ⟨S_, .f32⟩
  | .hbm, ⟨38, _⟩ => ⟨S49152, .f32⟩
  | .hbm, ⟨39, _⟩ => ⟨S49152x1, .f32⟩
  | .hbm, ⟨40, _⟩ => ⟨S_, .f32⟩
  | .hbm, ⟨41, _⟩ => ⟨S49152x1, .f32⟩
  | .hbm, ⟨42, _⟩ => ⟨S49152x1, .f32⟩
  | .hbm, ⟨43, _⟩ => ⟨S_, .f32⟩
  | .hbm, ⟨44, _⟩ => ⟨S49152x1, .f32⟩
  | .hbm, ⟨45, _⟩ => ⟨S49152x1, .f32⟩
  | .hbm, ⟨46, _⟩ => ⟨S49152x1, .f32⟩
  | .hbm, ⟨47, _⟩ => ⟨S49152x512, .f32⟩
  | .hbm, ⟨48, _⟩ => ⟨S49152x512, .f32⟩
  | .hbm, ⟨49, _⟩ => ⟨S1x512, .f32⟩
  | .hbm, ⟨50, _⟩ => ⟨S49152x512, .f32⟩
  | .hbm, ⟨51, _⟩ => ⟨S49152x512, .f32⟩
  | .hbm, ⟨52, _⟩ => ⟨S49152x1024, .f32⟩
  | .hbm, ⟨53, _⟩ => ⟨S49152x1024, .f32⟩
  | .hbm, ⟨54, _⟩ => ⟨S_, .i32⟩
  | .hbm, ⟨55, _⟩ => ⟨S1, .i32⟩
  | .hbm, ⟨56, _⟩ => ⟨S1024x1024, .f32⟩
  | .hbm, ⟨57, _⟩ => ⟨S49152x1024, .f32⟩
  | .hbm, ⟨58, _⟩ => ⟨S49152x1024, .f32⟩
  | .hbm, ⟨59, _⟩ => ⟨S32768x1024, .f32⟩
  | .hbm, ⟨60, _⟩ => ⟨S16384x1024, .f32⟩
  | _, _ => ⟨S4x49152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_v0 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Proof.Kernel2IdealLayer.lean ====
/- Where the blocks of the ideal `in_proj` kernel lie: the index maps' values at a point, the layer they read, the elements of
   a block in its array, and that with a layer in range every block lies inside its array. -/
module

public import proofs.«01_k».proof.Proof.Gen.Kernel2Ideal.Frame.Runs
public import Idealize.ShloMosaic.Lib.Pipeline.Value

@[expose] public section

set_option maxRecDepth 16384

noncomputable section

namespace Cert.Kernel2Ideal.InProj

open Cert.Kernel2Ideal.Gen
open Idealize.ShloMosaic Idealize.ShloMosaic.TcCoe Idealize.ShloMosaic.Tactic

variable {F : FTy → Type} [FloatOps F] [Named F]

variable (m : (ℓ : Loc nD τ sig) → Buf (Elt F) ℓ)

/-- The layer's number, as the windows' index maps read it. -/
def layer (T : S1.Idx → Elt F .i32) : BitVec 32 := T (fun a => match a with | ⟨0, _⟩ => ⟨0, Nat.one_pos⟩)

theorem transform_2 (T : pre0.Contents (Elt F)) (i : grid0.Coords) :
    cc0_transform_2 inb_S1_S1_0 numel1_S1 T i = ![(layer (F := F) (T 0)).toNat, 0, 0] := by
  have e0 : T.at 0 (Rect.unit (s := S1) ![0] S1.size inb_S1_S1_0) numel1_S1 = layer (F := F) (T 0) :=
    congrArg (T 0) (funext fun a => match a with | ⟨0, _⟩ => rfl)
  show ![BitVec.toNat (T.at 0 (Rect.unit (s := S1) ![0] S1.size inb_S1_S1_0) numel1_S1), 0, 0] = _
  rw [e0]

theorem transform_3 (T : pre0.Contents (Elt F)) (i : grid0.Coords) :
    cc0_transform_3 inb_S1_S1_0 numel1_S1 T i = ![(layer (F := F) (T 0)).toNat, 0, 0] := transform_2 T i

theorem transform_4 (T : pre0.Contents (Elt F)) (i : grid0.Coords) :
    cc0_transform_4 inb_S1_S1_0 numel1_S1 T i = ![(layer (F := F) (T 0)).toNat, 0, 0] := transform_2 T i

/-- With the layer one of the stacked layers every block lies inside its array. -/
theorem ok_of_range (hl : ∀ j : S1.Idx, BitVec.toNat (w := 32) (tbl m 0 j) < 4) : Ok m := by
  have h0 : (layer (F := F) (tbl m 0)).toNat < 4 := hl _
  refine ⟨fun i => ⟨fun a => ?_, .inl rfl⟩, fun i => ⟨fun a => ?_, ?_⟩, fun i => ⟨fun a => ?_, .inl rfl⟩⟩
  · rw [transform_2]
    match a with
    | ⟨0, _⟩ => show ((layer (F := F) (tbl m 0)).toNat + 1) * 1 ≤ 4; omega
    | ⟨1, _⟩ => show (0 + 1) * 1 ≤ 1; omega
    | ⟨2, _⟩ => show (0 + 1) * 1024 ≤ 1024; omega
  · rw [transform_3]
    match a with
    | ⟨0, _⟩ => show ((layer (F := F) (tbl m 0)).toNat + 1) * 1 ≤ 4; omega
    | ⟨1, _⟩ => show (0 + 1) * 1024 ≤ 1024; omega
    | ⟨2, _⟩ => show (0 + 1) * 3072 ≤ 3072; omega
  · exact .inr (Affine.block_words_dvd (of_decide_eq_true rfl) (by decide))
  · rw [transform_4]
    match a with
    | ⟨0, _⟩ => show ((layer (F := F) (tbl m 0)).toNat + 1) * 1 ≤ 4; omega
    | ⟨1, _⟩ => show (0 + 1) * 4 ≤ 4; omega
    | ⟨2, _⟩ => show (0 + 1) * 512 ≤ 512; omega

end Cert.Kernel2Ideal.InProj

end
-- ==== Proof.Kernel2IdealBlocks.lean ====
/- The elements of the ideal `in_proj` kernel's blocks in the arrays they are blocks of. -/
module

public import proofs.«01_k».proof.Proof.Kernel2IdealLayer

@[expose] public section

set_option maxRecDepth 16384

noncomputable section

namespace Cert.Kernel2Ideal.InProj

open Cert.Kernel2Ideal.Gen
open Idealize.ShloMosaic Idealize.ShloMosaic.TcCoe Idealize.ShloMosaic.Tactic

variable (m : (ℓ : Loc nD τ sig) → Buf (Elt Ideal) ℓ)

theorem index_0 : ∀ t : Fin grid0.N, cc0_transform_0 (grid0.coords t) = ![min t.val 63, 0] := by decide +kernel

theorem index_1 : ∀ t : Fin grid0.N, cc0_transform_1 (grid0.coords t) = ![t.val - 64, 0] := by decide +kernel

theorem index_6 : ∀ t : Fin grid0.N, cc0_transform_6 (grid0.coords t) = ![t.val % 32, 0] := by decide +kernel

theorem index_7 : ∀ t : Fin grid0.N, cc0_transform_7 (grid0.coords t) = ![t.val, 0] := by decide +kernel

/-- At the first 64 points, the rows of the first array. -/
theorem iblk_0 (hO : Ok m) (c : Dev nD) (t : Fin (cfgM m hO).N) (x : S512x1024.Idx) (y : S32768x1024.Idx) (ht : t.val < 64)
    (h0 : (y 0).val = t.val * 512 + (x 0).val) (h1 : (y 1).val = (x 1).val) : iblk m hO c 0 t x = V m c main_arg0 y := by
  refine congrArg (V m c main_arg0) (funext fun a => Fin.ext ?_)
  refine (Pipeline.Window.rect_emb_val ((cfgM m hO).win 0) t x a rfl).trans ?_
  show cc0_transform_0 (grid0.coords t) a * S512x1024.size a + (x a).val = (y a).val
  rw [index_0]
  match a with
  | ⟨0, _⟩ => show min t.val 63 * 512 + (x 0).val = (y 0).val; rw [min_eq_left (by omega)]; omega
  | ⟨1, _⟩ => show 0 * 1024 + (x 1).val = (y 1).val; omega

/-- From the 64th on, the rows of the second. -/
theorem iblk_1 (hO : Ok m) (c : Dev nD) (t : Fin (cfgM m hO).N) (x : S512x1024.Idx) (y : S16384x1024.Idx)
    (h0 : (y 0).val = (t.val - 64) * 512 + (x 0).val) (h1 : (y 1).val = (x 1).val) : iblk m hO c 1 t x = V m c main_arg1 y := by
  refine congrArg (V m c main_arg1) (funext fun a => Fin.ext ?_)
  refine (Pipeline.Window.rect_emb_val ((cfgM m hO).win 1) t x a rfl).trans ?_
  show cc0_transform_1 (grid0.coords t) a * S512x1024.size a + (x a).val = (y a).val
  rw [index_1]
  match a with
  | ⟨0, _⟩ => show (t.val - 64) * 512 + (x 0).val = (y 0).val; omega
  | ⟨1, _⟩ => show 0 * 1024 + (x 1).val = (y 1).val; omega

/-- The layer's gains of the rows. -/
theorem iblk_2 (hO : Ok m) (c : Dev nD) (t : Fin (cfgM m hO).N) (x : S1x1x1024.Idx) (y : S4x1x1024.Idx)
    (h0 : (y 0).val = (layer (F := Ideal) (tbl m 0)).toNat) (h1 : (y 1).val = (x 1).val) (h2 : (y 2).val = (x 2).val) :
    iblk m hO c 2 t x = V m c main_v17 y := by
  refine congrArg (V m c main_v17) (funext fun a => Fin.ext ?_)
  refine (Pipeline.Window.rect_emb_val ((cfgM m hO).win 2) t x a rfl).trans ?_
  show cc0_transform_2 inb_S1_S1_0 numel1_S1 (tbl m) (grid0.coords t) a * S1x1x1024.size a + (x a).val = (y a).val
  have x0 : (x 0).val = 0 := Nat.lt_one_iff.mp (x 0).isLt
  rw [transform_2]
  match a with
  | ⟨0, _⟩ => show (layer (F := Ideal) (tbl m 0)).toNat * 1 + (x 0).val = (y 0).val; omega
  | ⟨1, _⟩ => show 0 * 1 + (x 1).val = (y 1).val; omega
  | ⟨2, _⟩ => show 0 * 1024 + (x 2).val = (y 2).val; omega

/-- The layer's matrix. -/
theorem iblk_3 (hO : Ok m) (c : Dev nD) (t : Fin (cfgM m hO).N) (x : S1x1024x3072.Idx) (y : S4x1024x3072.Idx)
    (h0 : (y 0).val = (layer (F := Ideal) (tbl m 0)).toNat) (h1 : (y 1).val = (x 1).val) (h2 : (y 2).val = (x 2).val) :
    iblk m hO c 3 t x = V m c main_v18 y := by
  refine congrArg (V m c main_v18) (funext fun a => Fin.ext ?_)
  refine (Pipeline.Window.rect_emb_val ((cfgM m hO).win 3) t x a rfl).trans ?_
  show cc0_transform_3 inb_S1_S1_0 numel1_S1 (tbl m) (grid0.coords t) a * S1x1024x3072.size a + (x a).val = (y a).val
  have x0 : (x 0).val = 0 := Nat.lt_one_iff.mp (x 0).isLt
  rw [transform_3]
  match a with
  | ⟨0, _⟩ => show (layer (F := Ideal) (tbl m 0)).toNat * 1 + (x 0).val = (y 0).val; omega
  | ⟨1, _⟩ => show 0 * 1024 + (x 1).val = (y 1).val; omega
  | ⟨2, _⟩ => show 0 * 3072 + (x 2).val = (y 2).val; omega

/-- The layer's gains of the heads. -/
theorem iblk_4 (hO : Ok m) (c : Dev nD) (t : Fin (cfgM m hO).N) (x : S1x4x512.Idx) (y : S4x4x512.Idx)
    (h0 : (y 0).val = (layer (F := Ideal) (tbl m 0)).toNat) (h1 : (y 1).val = (x 1).val) (h2 : (y 2).val = (x 2).val) :
    iblk m hO c 4 t x = V m c main_v16 y := by
  refine congrArg (V m c main_v16) (funext fun a => Fin.ext ?_)
  refine (Pipeline.Window.rect_emb_val ((cfgM m hO).win 4) t x a rfl).trans ?_
  show cc0_transform_4 inb_S1_S1_0 numel1_S1 (tbl m) (grid0.coords t) a * S1x4x512.size a + (x a).val = (y a).val
  have x0 : (x 0).val = 0 := Nat.lt_one_iff.mp (x 0).isLt
  rw [transform_4]
  match a with
  | ⟨0, _⟩ => show (layer (F := Ideal) (tbl m 0)).toNat * 1 + (x 0).val = (y 0).val; omega
  | ⟨1, _⟩ => show 0 * 4 + (x 1).val = (y 1).val; omega
  | ⟨2, _⟩ => show 0 * 512 + (x 2).val = (y 2).val; omega

/-- The constant matrix, whole. -/
theorem iblk_5 (hO : Ok m) (c : Dev nD) (t : Fin (cfgM m hO).N) (x : S256x256.Idx) : iblk m hO c 5 t x = V m c main_cst x := by
  refine congrArg (V m c main_cst) (funext fun a => Fin.ext ?_)
  refine (Pipeline.Window.rect_emb_val ((cfgM m hO).win 5) t x a rfl).trans ?_
  show cc0_transform_5 (grid0.coords t) a * S256x256.size a + (x a).val = (x a).val
  match a with
  | ⟨0, _⟩ => show 0 * 256 + (x 0).val = (x 0).val; omega
  | ⟨1, _⟩ => show 0 * 256 + (x 1).val = (x 1).val; omega

/-- The rows' factors, which come again every 32 points. -/
theorem iblk_6 (hO : Ok m) (c : Dev nD) (t : Fin (cfgM m hO).N) (x : S512x384.Idx) (y : S16384x384.Idx)
    (h0 : (y 0).val = t.val % 32 * 512 + (x 0).val) (h1 : (y 1).val = (x 1).val) : iblk m hO c 6 t x = V m c main_v50 y := by
  refine congrArg (V m c main_v50) (funext fun a => Fin.ext ?_)
  refine (Pipeline.Window.rect_emb_val ((cfgM m hO).win 6) t x a rfl).trans ?_
  show cc0_transform_6 (grid0.coords t) a * S512x384.size a + (x a).val = (y a).val
  rw [index_6]
  match a with
  | ⟨0, _⟩ => show t.val % 32 * 512 + (x 0).val = (y 0).val; omega
  | ⟨1, _⟩ => show 0 * 384 + (x 1).val = (y 1).val; omega

/-- Where an element of the block that a point writes lies in the output. -/
theorem emb_7 (hO : Ok m) (t : Fin (cfgM m hO).N) (x : S512x3072.Idx) (y : S49152x3072.Idx)
    (h0 : (y 0).val = t.val * 512 + (x 0).val) (h1 : (y 1).val = (x 1).val) :
    (((cfgM m hO).win 7).blk t).view.emb x = y := by
  refine funext fun a => Fin.ext ?_
  refine (Pipeline.Window.rect_emb_val ((cfgM m hO).win 7) t x a rfl).trans ?_
  show cc0_transform_7 (grid0.coords t) a * S512x3072.size a + (x a).val = (y a).val
  rw [index_7]
  match a with
  | ⟨0, _⟩ => show t.val * 512 + (x 0).val = (y 0).val; omega
  | ⟨1, _⟩ => show 0 * 3072 + (x 1).val = (y 1).val; omega

end Cert.Kernel2Ideal.InProj

end
-- ==== Proof.Kernel2IdealConst0.lean ====
/- Rows 0 to 63 of the constant matrix of the ideal `in_proj` kernel. -/
module

public import proofs.«01_k».proof.Kernel2Ideal

@[expose] public section

set_option maxRecDepth 16384

namespace Cert.Kernel2Ideal.InProj

open Cert.Kernel2Ideal

theorem lit0_rows0 : ∀ a : Fin 8, ∀ b : Fin 256, lit0 ⟨(0 + a.val) * 256 + b.val, by omega⟩ = if 0 = b.val / 64 then 0x3C80#16 else 0#16 := by
  decide +kernel

theorem lit0_rows1 : ∀ a : Fin 8, ∀ b : Fin 256, lit0 ⟨(8 + a.val) * 256 + b.val, by omega⟩ = if 0 = b.val / 64 then 0x3C80#16 else 0#16 := by
  decide +kernel

theorem lit0_rows2 : ∀ a : Fin 8, ∀ b : Fin 256, lit0 ⟨(16 + a.val) * 256 + b.val, by omega⟩ = if 0 = b.val / 64 then 0x3C80#16 else 0#16 := by
  decide +kernel

theorem lit0_rows3 : ∀ a : Fin 8, ∀ b : Fin 256, lit0 ⟨(24 + a.val) * 256 + b.val, by omega⟩ = if 0 = b.val / 64 then 0x3C80#16 else 0#16 := by
  decide +kernel

theorem lit0_rows4 : ∀ a : Fin 8, ∀ b : Fin 256, lit0 ⟨(32 + a.val) * 256 + b.val, by omega⟩ = if 0 = b.val / 64 then 0x3C80#16 else 0#16 := by
  decide +kernel

theorem lit0_rows5 : ∀ a : Fin 8, ∀ b : Fin 256, lit0 ⟨(40 + a.val) * 256 + b.val, by omega⟩ = if 0 = b.val / 64 then 0x3C80#16 else 0#16 := by
  decide +kernel

theorem lit0_rows6 : ∀ a : Fin 8, ∀ b : Fin 256, lit0 ⟨(48 + a.val) * 256 + b.val, by omega⟩ = if 0 = b.val / 64 then 0x3C80#16 else 0#16 := by
  decide +kernel

theorem lit0_rows7 : ∀ a : Fin 8, ∀ b : Fin 256, lit0 ⟨(56 + a.val) * 256 + b.val, by omega⟩ = if 0 = b.val / 64 then 0x3C80#16 else 0#16 := by
  decide +kernel

end Cert.Kernel2Ideal.InProj
-- ==== Proof.Kernel2IdealConst1.lean ====
/- Rows 64 to 127 of the constant matrix of the ideal `in_proj` kernel. -/
module

public import proofs.«01_k».proof.Kernel2Ideal

@[expose] public section

set_option maxRecDepth 16384

namespace Cert.Kernel2Ideal.InProj

open Cert.Kernel2Ideal

theorem lit0_rows8 : ∀ a : Fin 8, ∀ b : Fin 256, lit0 ⟨(64 + a.val) * 256 + b.val, by omega⟩ = if 1 = b.val / 64 then 0x3C80#16 else 0#16 := by
  decide +kernel

theorem lit0_rows9 : ∀ a : Fin 8, ∀ b : Fin 256, lit0 ⟨(72 + a.val) * 256 + b.val, by omega⟩ = if 1 = b.val / 64 then 0x3C80#16 else 0#16 := by
  decide +kernel

theorem lit0_rows10 : ∀ a : Fin 8, ∀ b : Fin 256, lit0 ⟨(80 + a.val) * 256 + b.val, by omega⟩ = if 1 = b.val / 64 then 0x3C80#16 else 0#16 := by
  decide +kernel

theorem lit0_rows11 : ∀ a : Fin 8, ∀ b : Fin 256, lit0 ⟨(88 + a.val) * 256 + b.val, by omega⟩ = if 1 = b.val / 64 then 0x3C80#16 else 0#16 := by
  decide +kernel

theorem lit0_rows12 : ∀ a : Fin 8, ∀ b : Fin 256, lit0 ⟨(96 + a.val) * 256 + b.val, by omega⟩ = if 1 = b.val / 64 then 0x3C80#16 else 0#16 := by
  decide +kernel

theorem lit0_rows13 : ∀ a : Fin 8, ∀ b : Fin 256, lit0 ⟨(104 + a.val) * 256 + b.val, by omega⟩ = if 1 = b.val / 64 then 0x3C80#16 else 0#16 := by
  decide +kernel

theorem lit0_rows14 : ∀ a : Fin 8, ∀ b : Fin 256, lit0 ⟨(112 + a.val) * 256 + b.val, by omega⟩ = if 1 = b.val / 64 then 0x3C80#16 else 0#16 := by
  decide +kernel

theorem lit0_rows15 : ∀ a : Fin 8, ∀ b : Fin 256, lit0 ⟨(120 + a.val) * 256 + b.val, by omega⟩ = if 1 = b.val / 64 then 0x3C80#16 else 0#16 := by
  decide +kernel

end Cert.Kernel2Ideal.InProj
-- ==== Proof.Kernel2IdealConst2.lean ====
/- Rows 128 to 191 of the constant matrix of the ideal `in_proj` kernel. -/
module

public import proofs.«01_k».proof.Kernel2Ideal

@[expose] public section

set_option maxRecDepth 16384

namespace Cert.Kernel2Ideal.InProj

open Cert.Kernel2Ideal

theorem lit0_rows16 : ∀ a : Fin 8, ∀ b : Fin 256, lit0 ⟨(128 + a.val) * 256 + b.val, by omega⟩ = if 2 = b.val / 64 then 0x3C80#16 else 0#16 := by
  decide +kernel

theorem lit0_rows17 : ∀ a : Fin 8, ∀ b : Fin 256, lit0 ⟨(136 + a.val) * 256 + b.val, by omega⟩ = if 2 = b.val / 64 then 0x3C80#16 else 0#16 := by
  decide +kernel

theorem lit0_rows18 : ∀ a : Fin 8, ∀ b : Fin 256, lit0 ⟨(144 + a.val) * 256 + b.val, by omega⟩ = if 2 = b.val / 64 then 0x3C80#16 else 0#16 := by
  decide +kernel

theorem lit0_rows19 : ∀ a : Fin 8, ∀ b : Fin 256, lit0 ⟨(152 + a.val) * 256 + b.val, by omega⟩ = if 2 = b.val / 64 then 0x3C80#16 else 0#16 := by
  decide +kernel

theorem lit0_rows20 : ∀ a : Fin 8, ∀ b : Fin 256, lit0 ⟨(160 + a.val) * 256 + b.val, by omega⟩ = if 2 = b.val / 64 then 0x3C80#16 else 0#16 := by
  decide +kernel

theorem lit0_rows21 : ∀ a : Fin 8, ∀ b : Fin 256, lit0 ⟨(168 + a.val) * 256 + b.val, by omega⟩ = if 2 = b.val / 64 then 0x3C80#16 else 0#16 := by
  decide +kernel

theorem lit0_rows22 : ∀ a : Fin 8, ∀ b : Fin 256, lit0 ⟨(176 + a.val) * 256 + b.val, by omega⟩ = if 2 = b.val / 64 then 0x3C80#16 else 0#16 := by
  decide +kernel

theorem lit0_rows23 : ∀ a : Fin 8, ∀ b : Fin 256, lit0 ⟨(184 + a.val) * 256 + b.val, by omega⟩ = if 2 = b.val / 64 then 0x3C80#16 else 0#16 := by
  decide +kernel

end Cert.Kernel2Ideal.InProj
-- ==== Proof.Kernel2IdealConst3.lean ====
/- Rows 192 to 255 of the constant matrix of the ideal `in_proj` kernel. -/
module

public import proofs.«01_k».proof.Kernel2Ideal

@[expose] public section

set_option maxRecDepth 16384

namespace Cert.Kernel2Ideal.InProj

open Cert.Kernel2Ideal

theorem lit0_rows24 : ∀ a : Fin 8, ∀ b : Fin 256, lit0 ⟨(192 + a.val) * 256 + b.val, by omega⟩ = if 3 = b.val / 64 then 0x3C80#16 else 0#16 := by
  decide +kernel

theorem lit0_rows25 : ∀ a : Fin 8, ∀ b : Fin 256, lit0 ⟨(200 + a.val) * 256 + b.val, by omega⟩ = if 3 = b.val / 64 then 0x3C80#16 else 0#16 := by
  decide +kernel

theorem lit0_rows26 : ∀ a : Fin 8, ∀ b : Fin 256, lit0 ⟨(208 + a.val) * 256 + b.val, by omega⟩ = if 3 = b.val / 64 then 0x3C80#16 else 0#16 := by
  decide +kernel

theorem lit0_rows27 : ∀ a : Fin 8, ∀ b : Fin 256, lit0 ⟨(216 + a.val) * 256 + b.val, by omega⟩ = if 3 = b.val / 64 then 0x3C80#16 else 0#16 := by
  decide +kernel

theorem lit0_rows28 : ∀ a : Fin 8, ∀ b : Fin 256, lit0 ⟨(224 + a.val) * 256 + b.val, by omega⟩ = if 3 = b.val / 64 then 0x3C80#16 else 0#16 := by
  decide +kernel

theorem lit0_rows29 : ∀ a : Fin 8, ∀ b : Fin 256, lit0 ⟨(232 + a.val) * 256 + b.val, by omega⟩ = if 3 = b.val / 64 then 0x3C80#16 else 0#16 := by
  decide +kernel

theorem lit0_rows30 : ∀ a : Fin 8, ∀ b : Fin 256, lit0 ⟨(240 + a.val) * 256 + b.val, by omega⟩ = if 3 = b.val / 64 then 0x3C80#16 else 0#16 := by
  decide +kernel

theorem lit0_rows31 : ∀ a : Fin 8, ∀ b : Fin 256, lit0 ⟨(248 + a.val) * 256 + b.val, by omega⟩ = if 3 = b.val / 64 then 0x3C80#16 else 0#16 := by
  decide +kernel

end Cert.Kernel2Ideal.InProj
-- ==== Proof.Kernel2IdealConst.lean ====
/- The constant matrix of the ideal `in_proj` kernel: a sixty-fourth between two elements of one head, zero elsewhere. -/
module

public import proofs.«01_k».proof.Proof.Kernel2IdealConst0
public import proofs.«01_k».proof.Proof.Kernel2IdealConst1
public import proofs.«01_k».proof.Proof.Kernel2IdealConst2
public import proofs.«01_k».proof.Proof.Kernel2IdealConst3

@[expose] public section

set_option maxRecDepth 16384

namespace Cert.Kernel2Ideal.InProj

open Cert.Kernel2Ideal

/-- The same at a row given by its block of eight. -/
theorem lit0_of (n k : ℕ) (a b : Fin 256) (ha : a.val / 8 = k) (hn : a.val / 64 = n) (hk : k < 32)
    (h : ∀ a' : Fin 8, ∀ b : Fin 256, lit0 ⟨(8 * k + a'.val) * 256 + b.val, by omega⟩ = if n = b.val / 64 then 0x3C80#16 else 0#16) :
    lit0 ⟨a.val * 256 + b.val, by omega⟩ = if a.val / 64 = b.val / 64 then 0x3C80#16 else 0#16 := by
  rw [hn]
  refine Eq.trans (congrArg lit0 (Fin.ext ?_)) (h ⟨a.val % 8, by omega⟩ b)
  show a.val * 256 + b.val = (8 * k + a.val % 8) * 256 + b.val
  omega

theorem lit0_eq (a b : Fin 256) : lit0 ⟨a.val * 256 + b.val, by omega⟩ = if a.val / 64 = b.val / 64 then 0x3C80#16 else 0#16 := by
  have hk : a.val / 8 < 32 := by omega
  generalize hq : a.val / 8 = k at hk
  match k, hk with
  | 0, _ => exact lit0_of 0 0 a b hq (by omega) (by decide) lit0_rows0
  | 1, _ => exact lit0_of 0 1 a b hq (by omega) (by decide) lit0_rows1
  | 2, _ => exact lit0_of 0 2 a b hq (by omega) (by decide) lit0_rows2
  | 3, _ => exact lit0_of 0 3 a b hq (by omega) (by decide) lit0_rows3
  | 4, _ => exact lit0_of 0 4 a b hq (by omega) (by decide) lit0_rows4
  | 5, _ => exact lit0_of 0 5 a b hq (by omega) (by decide) lit0_rows5
  | 6, _ => exact lit0_of 0 6 a b hq (by omega) (by decide) lit0_rows6
  | 7, _ => exact lit0_of 0 7 a b hq (by omega) (by decide) lit0_rows7
  | 8, _ => exact lit0_of 1 8 a b hq (by omega) (by decide) lit0_rows8
  | 9, _ => exact lit0_of 1 9 a b hq (by omega) (by decide) lit0_rows9
  | 10, _ => exact lit0_of 1 10 a b hq (by omega) (by decide) lit0_rows10
  | 11, _ => exact lit0_of 1 11 a b hq (by omega) (by decide) lit0_rows11
  | 12, _ => exact lit0_of 1 12 a b hq (by omega) (by decide) lit0_rows12
  | 13, _ => exact lit0_of 1 13 a b hq (by omega) (by decide) lit0_rows13
  | 14, _ => exact lit0_of 1 14 a b hq (by omega) (by decide) lit0_rows14
  | 15, _ => exact lit0_of 1 15 a b hq (by omega) (by decide) lit0_rows15
  | 16, _ => exact lit0_of 2 16 a b hq (by omega) (by decide) lit0_rows16
  | 17, _ => exact lit0_of 2 17 a b hq (by omega) (by decide) lit0_rows17
  | 18, _ => exact lit0_of 2 18 a b hq (by omega) (by decide) lit0_rows18
  | 19, _ => exact lit0_of 2 19 a b hq (by omega) (by decide) lit0_rows19
  | 20, _ => exact lit0_of 2 20 a b hq (by omega) (by decide) lit0_rows20
  | 21, _ => exact lit0_of 2 21 a b hq (by omega) (by decide) lit0_rows21
  | 22, _ => exact lit0_of 2 22 a b hq (by omega) (by decide) lit0_rows22
  | 23, _ => exact lit0_of 2 23 a b hq (by omega) (by decide) lit0_rows23
  | 24, _ => exact lit0_of 3 24 a b hq (by omega) (by decide) lit0_rows24
  | 25, _ => exact lit0_of 3 25 a b hq (by omega) (by decide) lit0_rows25
  | 26, _ => exact lit0_of 3 26 a b hq (by omega) (by decide) lit0_rows26
  | 27, _ => exact lit0_of 3 27 a b hq (by omega) (by decide) lit0_rows27
  | 28, _ => exact lit0_of 3 28 a b hq (by omega) (by decide) lit0_rows28
  | 29, _ => exact lit0_of 3 29 a b hq (by omega) (by decide) lit0_rows29
  | 30, _ => exact lit0_of 3 30 a b hq (by omega) (by decide) lit0_rows30
  | 31, _ => exact lit0_of 3 31 a b hq (by omega) (by decide) lit0_rows31
  | n + 32, h => exact absurd h (by omega)

end Cert.Kernel2Ideal.InProj
-- ==== Proof.Heads.lean ====
/- The mathematics of the input projection on the extended reals: a row of the activations normed and projected, the heads of
   its queries and keys normed and turned by their positions, and the queries scaled. -/
module

public import Idealize.ShloMosaic.Lib.Pointwise
public import Idealize.ShloMosaic.Lib.IdealHost

@[expose] public section

noncomputable section

namespace Cert.Heads

open Idealize.ShloMosaic

/-- The constant added to a mean of squares. -/
abbrev eps : EReal := Ideal.ofBits .f32 0x358637BD#32

/-- A row normed: over the root of its mean square, times the gains. -/
def normed (x g : Fin 1024 → EReal) (k : Fin 1024) : EReal :=
  x k * Ideal.rsqrt (Ideal.div (∑ i, x i * x i) (Ideal.ofBits .f32 0x44800000#32) + eps) * g k

/-- A row normed and projected on one column. -/
def proj (x g w : Fin 1024 → EReal) : EReal := ∑ k, normed x g k * w k

/-- A head normed. -/
def headNorm (y g : Fin 64 → EReal) (d : Fin 64) : EReal :=
  y d * Ideal.rsqrt (Ideal.div (∑ i, y i * y i) (Ideal.ofBits .f32 0x42800000#32) + eps) * g d

/-- A head turned: its first eight elements with its second eight, by the angles of its position; the others as they are. -/
def turned (y : Fin 64 → EReal) (c s : Fin 8 → EReal) (d : Fin 64) : EReal :=
  if h : d.val < 8 then y d * c ⟨d.val, h⟩ - y ⟨d.val + 8, by omega⟩ * s ⟨d.val, h⟩
  else if h' : d.val < 16 then y d * c ⟨d.val - 8, by omega⟩ + y ⟨d.val - 8, by omega⟩ * s ⟨d.val - 8, by omega⟩
  else y d

theorem ofBits_64 : Ideal.ofBits .f32 0x42800000#32 = ((64 : ℝ) : EReal) := by
  simp [Ideal.ofBits, Ideal.ieee, -EReal.coe_mul]; norm_num

theorem ofBits_64th : Ideal.ofBits .bf16 0x3C80#16 = (((1 : ℝ) / 64 : ℝ) : EReal) := by
  simp [Ideal.ofBits, Ideal.ieee, -EReal.coe_mul]; norm_num

/-- A sum scaled by a constant. -/
theorem sum_mul_const {n : Nat} (f : Fin n → EReal) (c : EReal) (h0 : 0 ≤ c) (ht : c ≠ ⊤) : ∑ i, f i * c = (∑ i, f i) * c := by
  induction n with
  | zero => simp
  | succ n ih => rw [Fin.sum_univ_succ, Fin.sum_univ_succ, ih, EReal.right_distrib_of_nonneg_of_ne_top h0 ht]

/-- Squares summed against the matrix that has a sixty-fourth between two elements of one head: the head's mean square. -/
theorem mean_eq (sq : Fin 256 → EReal) (bd : Fin 256 → Fin 256 → EReal)
    (hbd : ∀ k l, bd k l = if k.val / 64 = l.val / 64 then Ideal.ofBits .bf16 0x3C80#16 else 0) (l : Fin 256) :
    ∑ k, sq k * bd k l
      = Ideal.div (∑ e : Fin 64, sq ⟨l.val / 64 * 64 + e.val, by omega⟩) (Ideal.ofBits .f32 0x42800000#32) := by
  have e1 : ∑ k, sq k * bd k l = ∑ a : Fin 4, ∑ e : Fin 64, sq ⟨a.val * 64 + e.val, by omega⟩ * bd ⟨a.val * 64 + e.val, by omega⟩ l := by
    rw [← Fintype.sum_prod_type', ← Equiv.sum_comp (finProdFinEquiv (m := 4) (n := 64))]
    refine Finset.sum_congr rfl fun p _ => ?_
    have : (finProdFinEquiv p : Fin (4 * 64)) = (⟨p.1.val * 64 + p.2.val, by omega⟩ : Fin 256) := Fin.ext (by simp [finProdFinEquiv]; omega)
    rw [this]
  rw [e1, Finset.sum_eq_single (⟨l.val / 64, by omega⟩ : Fin 4)]
  · have : ∀ e : Fin 64, bd ⟨l.val / 64 * 64 + e.val, by omega⟩ l = Ideal.ofBits .bf16 0x3C80#16 := fun e => by
      rw [hbd, if_pos]; show (l.val / 64 * 64 + e.val) / 64 = l.val / 64; omega
    simp only [this]
    rw [sum_mul_const, ofBits_64, ofBits_64th, Ideal.div_coe (by norm_num)]
    · rw [ofBits_64th]; exact_mod_cast (by norm_num : (0:ℝ) ≤ 1/64)
    · rw [ofBits_64th]; exact EReal.coe_ne_top _
  · intro a _ ha
    refine Finset.sum_eq_zero fun e _ => ?_
    rw [hbd, if_neg, mul_zero]
    intro h
    refine ha (Fin.ext ?_)
    have : (a.val * 64 + e.val) / 64 = l.val / 64 := h
    show a.val = l.val / 64
    omega
  · exact fun h => absurd (Finset.mem_univ _) h

/-- The factor of an element itself in a turned head. -/
def cosAt (c : Fin 8 → EReal) (d : Fin 64) : EReal :=
  if h : d.val < 8 then c ⟨d.val, h⟩ else if h' : d.val < 16 then c ⟨d.val - 8, by omega⟩ else 1

/-- The factor of the element eight places up. -/
def upAt (s : Fin 8 → EReal) (d : Fin 64) : EReal := if h : d.val < 8 then -s ⟨d.val, h⟩ else 0

/-- The factor of the element eight places down. -/
def downAt (s : Fin 8 → EReal) (d : Fin 64) : EReal :=
  if d.val < 8 then 0 else if h' : d.val < 16 then s ⟨d.val - 8, by omega⟩ else 0

/-- A turned head as the sum of three products, whatever stands eight places off where its factor is zero. -/
theorem turned_eq (y : Fin 64 → EReal) (c s : Fin 8 → EReal) (d : Fin 64) (u w : EReal)
    (hu : ∀ h : d.val < 8, u = y ⟨d.val + 8, by omega⟩) (hw : ∀ _ : 8 ≤ d.val, w = y ⟨d.val - 8, by omega⟩) :
    y d * cosAt c d + u * upAt s d + w * downAt s d = turned y c s d := by
  unfold cosAt upAt downAt turned
  by_cases h : d.val < 8
  · simp only [dif_pos h, if_pos h, hu h, mul_zero, add_zero, mul_neg, sub_eq_add_neg]
  · by_cases h' : d.val < 16
    · simp only [dif_neg h, if_neg h, dif_pos h', hw (by omega), mul_zero, add_zero]
    · simp only [dif_neg h, if_neg h, dif_neg h', mul_zero, add_zero, mul_one]

/-- An element of a row of 512, with the elements eight places up and down within its 128, each times a factor. -/
def rolled (z : Fin 512 → EReal) (C U D : Fin 128 → EReal) (p : Fin 512) : EReal :=
  z p * C ⟨p.val % 128, by omega⟩ + z ⟨p.val / 128 * 128 + (p.val % 128 + 8) % 128, by omega⟩ * U ⟨p.val % 128, by omega⟩
    + z ⟨p.val / 128 * 128 + (p.val % 128 + 120) % 128, by omega⟩ * D ⟨p.val % 128, by omega⟩

/-- The same with the places given by their numbers. -/
theorem rolled_of (z : Fin 512 → EReal) (C U D : Fin 128 → EReal) (p a u d : Fin 512) (q : Fin 128) (ha : a.val = p.val)
    (hq : q.val = p.val % 128) (hu : u.val = p.val / 128 * 128 + (p.val % 128 + 8) % 128)
    (hd : d.val = p.val / 128 * 128 + (p.val % 128 + 120) % 128) :
    z a * C q + z u * U q + z d * D q = rolled z C U D p := by
  obtain ⟨a, ha'⟩ := a; obtain ⟨q, hq'⟩ := q; obtain ⟨u, hu'⟩ := u; obtain ⟨d, hd'⟩ := d
  dsimp only at ha hq hu hd
  subst ha hq hu hd
  rfl

/-- With the factors of the positions it is the turned head. -/
theorem rolled_turned (z : Fin 512 → EReal) (C U D : Fin 128 → EReal) (c s : Fin 8 → EReal) (p : Fin 512) (w : Fin 64 → EReal)
    (hC : ∀ q : Fin 128, C q = cosAt c ⟨q.val % 64, by omega⟩) (hU : ∀ q : Fin 128, U q = upAt s ⟨q.val % 64, by omega⟩)
    (hD : ∀ q : Fin 128, D q = downAt s ⟨q.val % 64, by omega⟩)
    (hz : ∀ p' : Fin 512, p'.val / 64 = p.val / 64 → z p' = w ⟨p'.val % 64, by omega⟩) :
    rolled z C U D p = turned w c s ⟨p.val % 64, by omega⟩ := by
  unfold rolled
  have hd : (⟨p.val % 128 % 64, by omega⟩ : Fin 64) = ⟨p.val % 64, by omega⟩ := Fin.ext (by show p.val % 128 % 64 = p.val % 64; omega)
  rw [hC, hU, hD, hz p rfl]
  simp only [hd]
  refine turned_eq w c s _ _ _ (fun h => ?_) fun h => ?_
  · have h' : p.val % 64 < 8 := h
    rw [hz _ (by show (p.val / 128 * 128 + (p.val % 128 + 8) % 128) / 64 = p.val / 64; omega)]
    exact congrArg w (Fin.ext (by show (p.val / 128 * 128 + (p.val % 128 + 8) % 128) % 64 = p.val % 64 + 8; omega))
  · have h' : 8 ≤ p.val % 64 := h
    rw [hz _ (by show (p.val / 128 * 128 + (p.val % 128 + 120) % 128) / 64 = p.val / 64; omega)]
    exact congrArg w (Fin.ext (by show (p.val / 128 * 128 + (p.val % 128 + 120) % 128) % 64 = p.val % 64 - 8; omega))

/-- One row of 512 with the elements' squares summed head by head, as the two halves of 256 give them. -/
theorem means_eq (sq : Fin 512 → EReal) (bd : Fin 256 → Fin 256 → EReal)
    (hbd : ∀ k l, bd k l = if k.val / 64 = l.val / 64 then Ideal.ofBits .bf16 0x3C80#16 else 0) (p : Fin 512) :
    (if h : p.val < 256 then ∑ k : Fin 256, sq ⟨k.val, by omega⟩ * bd k ⟨p.val, h⟩
      else ∑ k : Fin 256, sq ⟨256 + k.val, by omega⟩ * bd k ⟨p.val - 256, by omega⟩)
      = Ideal.div (∑ e : Fin 64, sq ⟨p.val / 64 * 64 + e.val, by omega⟩) (Ideal.ofBits .f32 0x42800000#32) := by
  split
  · next h =>
    exact mean_eq (fun k => sq ⟨k.val, by omega⟩) bd hbd ⟨p.val, h⟩
  · next h =>
    refine (mean_eq (fun k => sq ⟨256 + k.val, by omega⟩) bd hbd ⟨p.val - 256, by omega⟩).trans ?_
    refine congrArg (fun v => Ideal.div v _) (Finset.sum_congr rfl fun e _ => congrArg sq (Fin.ext ?_))
    show 256 + ((p.val - 256) / 64 * 64 + e.val) = p.val / 64 * 64 + e.val
    omega

/-- An element over the root of its head's mean square, times its gain: the normed head. -/
theorem head_of (y g : Fin 512 → EReal) (gd : Fin 64 → EReal) (bd : Fin 256 → Fin 256 → EReal)
    (hbd : ∀ k l, bd k l = if k.val / 64 = l.val / 64 then Ideal.ofBits .bf16 0x3C80#16 else 0)
    (hg : ∀ p : Fin 512, g p = gd ⟨p.val % 64, by omega⟩) (a p : Fin 512) (ha : p.val / 64 = a.val / 64) :
    y p * Ideal.rsqrt ((if h : p.val < 256 then ∑ k : Fin 256, y ⟨k.val, by omega⟩ * y ⟨k.val, by omega⟩ * bd k ⟨p.val, h⟩
      else ∑ k : Fin 256, y ⟨256 + k.val, by omega⟩ * y ⟨256 + k.val, by omega⟩ * bd k ⟨p.val - 256, by omega⟩) + eps) * g p
      = headNorm (fun e => y ⟨a.val / 64 * 64 + e.val, by omega⟩) gd ⟨p.val % 64, by omega⟩ := by
  refine (congrArg (fun v => y p * Ideal.rsqrt (v + eps) * g p) (means_eq (fun k => y k * y k) bd hbd p)).trans ?_
  unfold headNorm
  have e : ∀ e : Fin 64, (⟨p.val / 64 * 64 + e.val, by omega⟩ : Fin 512) = ⟨a.val / 64 * 64 + e.val, by omega⟩ := fun e =>
    Fin.ext (by show p.val / 64 * 64 + e.val = a.val / 64 * 64 + e.val; rw [ha])
  have e' : (⟨a.val / 64 * 64 + p.val % 64, by omega⟩ : Fin 512) = p :=
    Fin.ext (by show a.val / 64 * 64 + p.val % 64 = p.val; omega)
  simp only [e, e', hg]

/-- The output's row: six groups of eight heads — the dilated queries and keys normed and turned, their values, the
    neighbourhood queries and keys normed, their values —, the queries times the scale. -/
def heads (x g : Fin 1024 → EReal) (w : Fin 1024 → Fin 3072 → EReal) (qd kd qn kn : Fin 64 → EReal) (c s : Fin 8 → EReal)
    (scale : EReal → EReal) (j : Fin 3072) : EReal :=
  let y : Fin 64 → EReal := fun e => proj x g fun k => w k ⟨j.val / 64 * 64 + e.val, by omega⟩
  let d : Fin 64 := ⟨j.val % 64, by omega⟩
  if j.val < 512 then scale (turned (headNorm y qd) c s d)
  else if j.val < 1024 then turned (headNorm y kd) c s d
  else if j.val < 1536 then y d
  else if j.val < 2048 then scale (headNorm y qn d)
  else if j.val < 2560 then headNorm y kn d
  else y d

/-- The angle of a pair of elements at a position. -/
def angle (r k : Nat) : EReal :=
  FloatOps.sitofp (F := Ideal) .f32 (BitVec.ofNat 32 r) * Ideal.pow (Ideal.ofBits .f32 0x48F42400#32)
    (Ideal.div (-FloatOps.sitofp (F := Ideal) .f32 (BitVec.ofNat 32 k)) (Ideal.ofBits .f32 0x41000000#32))

/-- A row of the activations, which come in two arrays. -/
def rowOf (a : Fin 32768 → Fin 1024 → EReal) (b : Fin 16384 → Fin 1024 → EReal) (r : Fin 49152) (k : Fin 1024) : EReal :=
  if h : r.val < 32768 then a ⟨r.val, h⟩ k else b ⟨r.val - 32768, by omega⟩ k

end Cert.Heads

end
-- ==== Proof.Kernel2IdealHost.lean ====
/- What the arrays that the ideal `in_proj` kernel reads hold, as the operations before its launch leave them. -/
module

public import proofs.«01_k».proof.Proof.Gen.Kernel2Ideal.Frame.Runs
public import proofs.«01_k».proof.Proof.Heads
public import Idealize.ShloMosaic.Lib.StableHlo.ReadAt

@[expose] public section

set_option maxRecDepth 16384

noncomputable section

namespace Cert.Kernel2Ideal.InProj

open Cert.Kernel2Ideal Cert.Kernel2Ideal.Gen Cert.Heads
open Idealize.ShloMosaic Idealize.ShloMosaic.TcCoe Idealize.ShloMosaic.StableHlo

variable (m : (ℓ : Loc nD τ sig) → Buf (Elt Ideal) ℓ) (c : Dev nD)

theorem V_ln (l : Fin 4) (k : Fin 1024) :
    ((V m c main_v17 : FVec Ideal S4x1x1024 .f32) (ix3 l 0 k) : EReal) = (m ((c : Thread nD τ).loc main_arg3) : FVec Ideal S4x1024 .f32) (ix2 l k) := by
  after_reads_at

theorem V_w (l : Fin 4) (k : Fin 1024) (j : Fin 3072) :
    ((V m c main_v18 : FVec Ideal S4x1024x3072 .bf16) (ix3 l k j) : EReal) = (m ((c : Thread nD τ).loc main_arg4) : FVec Ideal S4x1024x3072 .f32) (ix3 l k j) := by
  after_reads_at

theorem V_g0 (l : Fin 4) (p : Fin 512) :
    ((V m c main_v16 : FVec Ideal S4x4x512 .f32) (ix3 l 0 p) : EReal) = (m ((c : Thread nD τ).loc main_arg5) : FVec Ideal S4x64 .f32) (ix2 l ⟨p.val % 64, by omega⟩) := by
  after_reads_at
  after_reads_at

theorem V_g1 (l : Fin 4) (p : Fin 512) :
    ((V m c main_v16 : FVec Ideal S4x4x512 .f32) (ix3 l 1 p) : EReal) = (m ((c : Thread nD τ).loc main_arg6) : FVec Ideal S4x64 .f32) (ix2 l ⟨p.val % 64, by omega⟩) := by
  after_reads_at
  after_reads_at

theorem V_g2 (l : Fin 4) (p : Fin 512) :
    ((V m c main_v16 : FVec Ideal S4x4x512 .f32) (ix3 l 2 p) : EReal) = (m ((c : Thread nD τ).loc main_arg7) : FVec Ideal S4x64 .f32) (ix2 l ⟨p.val % 64, by omega⟩) := by
  after_reads_at
  after_reads_at

theorem V_g3 (l : Fin 4) (p : Fin 512) :
    ((V m c main_v16 : FVec Ideal S4x4x512 .f32) (ix3 l 3 p) : EReal) = (m ((c : Thread nD τ).loc main_arg8) : FVec Ideal S4x64 .f32) (ix2 l ⟨p.val % 64, by omega⟩) := by
  after_reads_at
  after_reads_at

theorem V_cst (a b : Fin 256) :
    ((V m c main_cst : FVec Ideal S256x256 .bf16) (ix2 a b) : EReal) = Ideal.ofBits .bf16 (lit0 ⟨a.val * 256 + b.val, by omega⟩) := by
  after_reads_at
  refine congrArg (fun q => Ideal.ofBits .bf16 (lit0 q)) (Fin.ext ?_)
  exact Shape.rowMajor_pair_val (d := ![256, 256]) a b

/-- The three parts of 128 factors of a row, each of them twice the 64 of a head. -/
theorem factors (i : ℕ) (hi : i < 384) (C S : ℕ → EReal) :
    (if h : i < 128 then if h : i % 64 < 8 then C (i % 64) else if h : i % 64 - 8 < 8 then C (i % 64 - 8) else 1
      else if h : i - 128 < 128 then
        if h : (i - 128) % 64 < 8 then -S ((i - 128) % 64) else if h : (i - 128) % 64 - 8 < 8 then 0 else 0
      else if h : (i - 128 - 128) % 64 < 8 then 0
        else if h : (i - 128 - 128) % 64 - 8 < 8 then S ((i - 128 - 128) % 64 - 8) else 0)
      = if i < 128 then cosAt (fun k => C k.val) ⟨i % 64, by omega⟩
        else if i < 256 then upAt (fun k => S k.val) ⟨i % 64, by omega⟩
        else downAt (fun k => S k.val) ⟨i % 64, by omega⟩ := by
  unfold cosAt upAt downAt
  by_cases h1 : i < 128
  · simp only [h1, dite_true, if_true]
    by_cases h3 : i % 64 < 8
    · simp only [h3, dite_true]
    · by_cases h4 : i % 64 < 16
      · have h5 : i % 64 - 8 < 8 := by omega
        simp only [h3, h4, h5, dite_true, dite_false]
      · have h5 : ¬i % 64 - 8 < 8 := by omega
        simp only [h3, h4, h5, dite_false]
  · by_cases h2 : i < 256
    · have e : (i - 128) % 64 = i % 64 := by omega
      have h3 : i - 128 < 128 := by omega
      simp only [h1, h2, h3, e, dite_true, dite_false, if_true, if_false, dite_eq_ite, ite_self]
    · have e : (i - 128 - 128) % 64 = i % 64 := by omega
      have h3 : ¬i - 128 < 128 := by omega
      simp only [h1, h2, h3, e, dite_false, if_false]
      by_cases h3 : i % 64 < 8
      · simp only [h3, dite_true, if_true]
      · by_cases h4 : i % 64 < 16
        · have h5 : i % 64 - 8 < 8 := by omega
          simp only [h3, h4, h5, dite_true, dite_false, if_false]
        · have h5 : ¬i % 64 - 8 < 8 := by omega
          simp only [h3, h4, h5, dite_false, if_false]

/-- The factors of a position. -/
theorem V_rope (r : Fin 16384) (i : Fin 384) :
    ((V m c main_v50 : FVec Ideal S16384x384 .f32) (ix2 r i) : EReal)
      = if i.val < 128 then cosAt (fun k => Ideal.cos (angle r.val k.val)) ⟨i.val % 64, by omega⟩
        else if i.val < 256 then upAt (fun k => Ideal.sin (angle r.val k.val)) ⟨i.val % 64, by omega⟩
        else downAt (fun k => Ideal.sin (angle r.val k.val)) ⟨i.val % 64, by omega⟩ := by
  refine Eq.trans ?_ (factors i.val i.isLt (fun k => Ideal.cos (angle r.val k)) (fun k => Ideal.sin (angle r.val k)))
  unfold angle
  after_reads_at
  after_reads_at
  after_reads_at

end Cert.Kernel2Ideal.InProj

end
-- ==== Proof.Kernel2IdealFrame.lean ====
/-
  The launch of the ideal `in_proj` kernel. Its grid has 96 points and its body two alternatives: the first 64 points read
  the rows of the first input array, the last 32 those of the second; each point stores whole blocks of three outputs. What
  a point leaves in each output's block is written as the stores of the alternative it takes, and from that follow the
  body's obligation, the launch, and the statement that the arguments are left as they were.
-/
module

public import proofs.«01_k».proof.Proof.Gen.Kernel2Ideal.Frame.RunA
public import proofs.«01_k».proof.Proof.Gen.Kernel2Ideal.Frame.RunB
public import Idealize.ShloMosaic.Lib.Claim

@[expose] public section

set_option maxRecDepth 16384

noncomputable section

namespace Cert.Kernel2Ideal.InProj

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point leaves in the outputs' blocks -/

/-- The body's run at a point before the 64th, on that point's blocks. -/
abbrev runA (hO : Ok m) (c : Dev nD) (t : Fin (cfgM m hO).N) (h : t.val < 64) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) ((hcond0_0 t).mpr h) (fun h' => absurd ((hcond0_1 t).mp h') (by omega)) (iblk m hO c 0 t) (iblk m hO c 1 t) (iblk m hO c 2 t) (iblk m hO c 3 t) (iblk m hO c 4 t) (iblk m hO c 5 t) (iblk m hO c 6 t) (tbl m 0)

/-- The body's run at a point from the 64th on, on that point's blocks. -/
abbrev runB (hO : Ok m) (c : Dev nD) (t : Fin (cfgM m hO).N) (h : ¬t.val < 64) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) (fun h' => h ((hcond0_0 t).mp h')) ((hcond0_1 t).mpr (by omega)) (iblk m hO c 0 t) (iblk m hO c 1 t) (iblk m hO c 2 t) (iblk m hO c 3 t) (iblk m hO c 4 t) (iblk m hO c 5 t) (iblk m hO c 6 t) (tbl m 0)

/-- Output 7's block after point `t`. -/
def out7 (hO : Ok m) (c : Dev nD) (t : Fin (cfgM m hO).N) : Vec F S512x3072 .bf16 :=
  if h : t.val < 64 then VO0_7.read (Elt F) (VO0_7.writes (Elt F) VO0_7.junk (runA m hO c t h).1)
  else VO0_7.read (Elt F) (VO0_7.writes (Elt F) VO0_7.junk (runB m hO c t h).1)

theorem out7_A (hO : Ok m) (c : Dev nD) (t : Fin (cfgM m hO).N) (h : t.val < 64) :
    out7 m hO c t = VO0_7.read (Elt F) (VO0_7.writes (Elt F) VO0_7.junk (runA m hO c t h).1) := dif_pos h

/-- The stores of that alternative into output 7 tile its block. -/
theorem tiles7_A (hO : Ok m) (c : Dev nD) (t : Fin (cfgM m hO).N) (h : t.val < 64) (y : S512x3072.Idx) :
    ∃ pc ∈ (runA m hO c t h).1, y ∈ pc.1.set :=
  View.cover_of_tiledL (runA m hO c t h).1 S512x512.size (by sl_kernel_rfl) y

theorem out7_B (hO : Ok m) (c : Dev nD) (t : Fin (cfgM m hO).N) (h : ¬t.val < 64) :
    out7 m hO c t = VO0_7.read (Elt F) (VO0_7.writes (Elt F) VO0_7.junk (runB m hO c t h).1) := dif_neg h

/-- The stores of that alternative into output 7 tile its block. -/
theorem tiles7_B (hO : Ok m) (c : Dev nD) (t : Fin (cfgM m hO).N) (h : ¬t.val < 64) (y : S512x3072.Idx) :
    ∃ pc ∈ (runB m hO c t h).1, y ∈ pc.1.set :=
  View.cover_of_tiledL (runB m hO c t h).1 S512x512.size (by sl_kernel_rfl) y

/-- Output 8's block after point `t`. -/
def out8 (hO : Ok m) (c : Dev nD) (t : Fin (cfgM m hO).N) : Vec F S128x6144 .bf16 :=
  if h : t.val < 64 then VO0_8.read (Elt F) (VO0_8.writes (Elt F) VO0_8.junk (runA m hO c t h).2.1)
  else VO0_8.read (Elt F) (VO0_8.writes (Elt F) VO0_8.junk (runB m hO c t h).2.1)

theorem out8_A (hO : Ok m) (c : Dev nD) (t : Fin (cfgM m hO).N) (h : t.val < 64) :
    out8 m hO c t = VO0_8.read (Elt F) (VO0_8.writes (Elt F) VO0_8.junk (runA m hO c t h).2.1) := dif_pos h

/-- The stores of that alternative into output 8 tile its block. -/
theorem tiles8_A (hO : Ok m) (c : Dev nD) (t : Fin (cfgM m hO).N) (h : t.val < 64) (y : S128x6144.Idx) :
    ∃ pc ∈ (runA m hO c t h).2.1, y ∈ pc.1.set :=
  View.cover_of_tiledL (runA m hO c t h).2.1 S128x128.size (by sl_kernel_rfl) y

theorem out8_B (hO : Ok m) (c : Dev nD) (t : Fin (cfgM m hO).N) (h : ¬t.val < 64) :
    out8 m hO c t = VO0_8.read (Elt F) (VO0_8.writes (Elt F) VO0_8.junk (runB m hO c t h).2.1) := dif_neg h

/-- The stores of that alternative into output 8 tile its block. -/
theorem tiles8_B (hO : Ok m) (c : Dev nD) (t : Fin (cfgM m hO).N) (h : ¬t.val < 64) (y : S128x6144.Idx) :
    ∃ pc ∈ (runB m hO c t h).2.1, y ∈ pc.1.set :=
  View.cover_of_tiledL (runB m hO c t h).2.1 S128x128.size (by sl_kernel_rfl) y

/-- Output 9's block after point `t`. -/
def out9 (hO : Ok m) (c : Dev nD) (t : Fin (cfgM m hO).N) : Vec F S32x24576 .bf16 :=
  if h : t.val < 64 then VO0_9.read (Elt F) (VO0_9.writes (Elt F) VO0_9.junk (runA m hO c t h).2.2.1)
  else VO0_9.read (Elt F) (VO0_9.writes (Elt F) VO0_9.junk (runB m hO c t h).2.2.1)

theorem out9_A (hO : Ok m) (c : Dev nD) (t : Fin (cfgM m hO).N) (h : t.val < 64) :
    out9 m hO c t = VO0_9.read (Elt F) (VO0_9.writes (Elt F) VO0_9.junk (runA m hO c t h).2.2.1) := dif_pos h

/-- The stores of that alternative into output 9 tile its block. -/
theorem tiles9_A (hO : Ok m) (c : Dev nD) (t : Fin (cfgM m hO).N) (h : t.val < 64) (y : S32x24576.Idx) :
    ∃ pc ∈ (runA m hO c t h).2.2.1, y ∈ pc.1.set :=
  View.cover_of_tiledL (runA m hO c t h).2.2.1 S32x128.size (by sl_kernel_rfl) y

theorem out9_B (hO : Ok m) (c : Dev nD) (t : Fin (cfgM m hO).N) (h : ¬t.val < 64) :
    out9 m hO c t = VO0_9.read (Elt F) (VO0_9.writes (Elt F) VO0_9.junk (runB m hO c t h).2.2.1) := dif_neg h

/-- The stores of that alternative into output 9 tile its block. -/
theorem tiles9_B (hO : Ok m) (c : Dev nD) (t : Fin (cfgM m hO).N) (h : ¬t.val < 64) (y : S32x24576.Idx) :
    ∃ pc ∈ (runB m hO c t h).2.2.1, y ∈ pc.1.set :=
  View.cover_of_tiledL (runB m hO c t h).2.2.1 S32x128.size (by sl_kernel_rfl) y

/-! ## The data of the launch -/

/-- The arrays as the launch finds them; inputs' blocks stay, the outputs' are the stores above; the invariant keeps the
    scratch and the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => out7 m hO c t
    | ⟨8, _⟩ => out8 m hO c t
    | ⟨9, _⟩ => out9 m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = out7 m hO c t := by dsimp only [dats]; try rfl
theorem after_8 (hO : Ok m) (c : Dev nD) (t : Fin (cfgM m hO).N) : (dats m hO 0 c).after 8 t = out8 m hO c t := by dsimp only [dats]; try rfl
theorem after_9 (hO : Ok m) (c : Dev nD) (t : Fin (cfgM m hO).N) : (dats m hO 0 c).after 9 t = out9 m hO c t := by dsimp only [dats]; try rfl

theorem before_0 (hO : Ok m) (c : Dev nD) (t : Fin (cfgM m hO).N) (d) : (dats m hO 0 c).before 0 t d = iblk m hO c 0 t :=
  before0_0_of m hO (dats m hO 0 c) (A_eq m hO c 0) (after_0 m hO c) t d
theorem before_1 (hO : Ok m) (c : Dev nD) (t : Fin (cfgM m hO).N) (d) : (dats m hO 0 c).before 1 t d = iblk m hO c 1 t :=
  before0_1_of m hO (dats m hO 0 c) (A_eq m hO c 1) (after_1 m hO c) t d
theorem before_2 (hO : Ok m) (c : Dev nD) (t : Fin (cfgM m hO).N) (d) : (dats m hO 0 c).before 2 t d = iblk m hO c 2 t :=
  before0_2_of m hO (dats m hO 0 c) (A_eq m hO c 2) (after_2 m hO c) t d
theorem before_3 (hO : Ok m) (c : Dev nD) (t : Fin (cfgM m hO).N) (d) : (dats m hO 0 c).before 3 t d = iblk m hO c 3 t :=
  before0_3_of m hO (dats m hO 0 c) (A_eq m hO c 3) (after_3 m hO c) t d
theorem before_4 (hO : Ok m) (c : Dev nD) (t : Fin (cfgM m hO).N) (d) : (dats m hO 0 c).before 4 t d = iblk m hO c 4 t :=
  before0_4_of m hO (dats m hO 0 c) (A_eq m hO c 4) (after_4 m hO c) t d
theorem before_5 (hO : Ok m) (c : Dev nD) (t : Fin (cfgM m hO).N) (d) : (dats m hO 0 c).before 5 t d = iblk m hO c 5 t :=
  before0_5_of m hO (dats m hO 0 c) (A_eq m hO c 5) (after_5 m hO c) t d
theorem before_6 (hO : Ok m) (c : Dev nD) (t : Fin (cfgM m hO).N) (d) : (dats m hO 0 c).before 6 t d = iblk m hO c 6 t :=
  before0_6_of m hO (dats m hO 0 c) (A_eq m hO c 6) (after_6 m hO c) t d

/-! ## The body at a point -/

/-- What the body holds when point `t` starts. -/
def held (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- What it holds when the point ends. -/
def left (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t)

theorem leaves_0 (hO : Ok m) (c : Dev nD) (t : Fin (cfgM m hO).N) :
    (dats m hO 0 c).leavesExact 0 t = owns (c : Thread nD τ) (ms0_0 m hO t) fullShare ((dats m hO 0 c).after 0 t) := by
  unfold Dat.leavesExact
  rw [liveAt0_0 m hO t]; try rfl
theorem leaves_1 (hO : Ok m) (c : Dev nD) (t : Fin (cfgM m hO).N) :
    (dats m hO 0 c).leavesExact 1 t = owns (c : Thread nD τ) (ms0_1 m hO t) fullShare ((dats m hO 0 c).after 1 t) := by
  unfold Dat.leavesExact
  rw [liveAt0_1 m hO t]; try rfl
theorem leaves_2 (hO : Ok m) (c : Dev nD) (t : Fin (cfgM m hO).N) :
    (dats m hO 0 c).leavesExact 2 t = owns (c : Thread nD τ) (ms0_2 m hO t) fullShare ((dats m hO 0 c).after 2 t) := by
  unfold Dat.leavesExact
  rw [liveAt0_2 m hO t]; try rfl
theorem leaves_3 (hO : Ok m) (c : Dev nD) (t : Fin (cfgM m hO).N) :
    (dats m hO 0 c).leavesExact 3 t = owns (c : Thread nD τ) (ms0_3 m hO t) fullShare ((dats m hO 0 c).after 3 t) := by
  unfold Dat.leavesExact
  rw [liveAt0_3 m hO t]; try rfl
theorem leaves_4 (hO : Ok m) (c : Dev nD) (t : Fin (cfgM m hO).N) :
    (dats m hO 0 c).leavesExact 4 t = owns (c : Thread nD τ) (ms0_4 m hO t) fullShare ((dats m hO 0 c).after 4 t) := by
  unfold Dat.leavesExact
  rw [liveAt0_4 m hO t]; try rfl
theorem leaves_5 (hO : Ok m) (c : Dev nD) (t : Fin (cfgM m hO).N) :
    (dats m hO 0 c).leavesExact 5 t = owns (c : Thread nD τ) (ms0_5 m hO t) fullShare ((dats m hO 0 c).after 5 t) := by
  unfold Dat.leavesExact
  rw [liveAt0_5 m hO t]; try rfl
theorem leaves_6 (hO : Ok m) (c : Dev nD) (t : Fin (cfgM m hO).N) :
    (dats m hO 0 c).leavesExact 6 t = owns (c : Thread nD τ) (ms0_6 m hO t) fullShare ((dats m hO 0 c).after 6 t) := by
  unfold Dat.leavesExact
  rw [liveAt0_6 m hO t]; try rfl
theorem leaves_7 (hO : Ok m) (c : Dev nD) (t : Fin (cfgM m hO).N) :
    (dats m hO 0 c).leavesExact 7 t = owns (c : Thread nD τ) (ms0_7 m hO t) fullShare ((dats m hO 0 c).after 7 t) := by
  unfold Dat.leavesExact
  by_cases h : t.val < 64
  · rw [liveAt0_7_A m hO t ((hcond0_0 t).mpr h) (fun h' => absurd ((hcond0_1 t).mp h') (by omega))]; try rfl
  · rw [liveAt0_7_B m hO t (fun h' => h ((hcond0_0 t).mp h')) ((hcond0_1 t).mpr (by omega))]; try rfl
theorem leaves_8 (hO : Ok m) (c : Dev nD) (t : Fin (cfgM m hO).N) :
    (dats m hO 0 c).leavesExact 8 t = owns (c : Thread nD τ) (ms0_8 m hO t) fullShare ((dats m hO 0 c).after 8 t) := by
  unfold Dat.leavesExact
  by_cases h : t.val < 64
  · rw [liveAt0_8_A m hO t ((hcond0_0 t).mpr h) (fun h' => absurd ((hcond0_1 t).mp h') (by omega))]; try rfl
  · rw [liveAt0_8_B m hO t (fun h' => h ((hcond0_0 t).mp h')) ((hcond0_1 t).mpr (by omega))]; try rfl
theorem leaves_9 (hO : Ok m) (c : Dev nD) (t : Fin (cfgM m hO).N) :
    (dats m hO 0 c).leavesExact 9 t = owns (c : Thread nD τ) (ms0_9 m hO t) fullShare ((dats m hO 0 c).after 9 t) := by
  unfold Dat.leavesExact
  by_cases h : t.val < 64
  · rw [liveAt0_9_A m hO t ((hcond0_0 t).mpr h) (fun h' => absurd ((hcond0_1 t).mp h') (by omega))]; try rfl
  · rw [liveAt0_9_B m hO t (fun h' => h ((hcond0_0 t).mp h')) ((hcond0_1 t).mpr (by omega))]; try rfl

set_option maxHeartbeats 1600000 in
/-- The body at a point before the 64th. -/
theorem body_A (hO : Ok m) (c : Dev nD) (t : Fin (cfgM m hO).N) (h : t.val < 64) :
    held m hO c t ⊢ wp frame (wpE (defs₀ (F := F)) Variants.none c none) Set.univ (bodyAt0 (adm m hO) t) (fun _ => left m hO c t) := by
  unfold held left bodyAt0
  simp only [before_0, before_1, before_2, before_3, before_4, before_5, before_6]
  rw [leaves_0 m hO c t, after_0 m hO c t, leaves_1 m hO c t, after_1 m hO c t, leaves_2 m hO c t, after_2 m hO c t, leaves_3 m hO c t, after_3 m hO c t, leaves_4 m hO c t, after_4 m hO c t, leaves_5 m hO c t, after_5 m hO c t, leaves_6 m hO c t, after_6 m hO c t, leaves_7 m hO c t, after_7 m hO c t, leaves_8 m hO c t, after_8 m hO c t, leaves_9 m hO c t, after_9 m hO c t]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiT0_eq, PhiA0_eq,
    out7_A m hO c t h, out8_A m hO c t h, out9_A m hO c t h]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA m hO c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  isplitl [HT]; · iexact HT
  iintro ⟨H0, H1, H2, H3, H4, H5, H6, ⟨%e7, H7⟩, ⟨%e8, H8⟩, ⟨%e9, H9⟩, ⟨%fT, HS⟩, HT⟩
  isplitl [HS Hg HT]
  · isplitl [HS Hg]
    · isplitl [HS]
      · iexists _; unfold owns; iexists _; isplitr
        swap; · iexact HS
        ipureintro; rfl
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (tiles7_A m hO c t h)
  isplitl [H8]
  · unfold owns; iexists _; isplitr
    swap; · iexact H8
    ipureintro; exact View.read_writes_of_cover _ _ _ _ _ (tiles8_A m hO c t h)
  unfold owns; iexists _; isplitr
  swap; · iexact H9
  ipureintro; exact View.read_writes_of_cover _ _ _ _ _ (tiles9_A m hO c t h)

set_option maxHeartbeats 1600000 in
/-- The body at a point from the 64th on. -/
theorem body_B (hO : Ok m) (c : Dev nD) (t : Fin (cfgM m hO).N) (h : ¬t.val < 64) :
    held m hO c t ⊢ wp frame (wpE (defs₀ (F := F)) Variants.none c none) Set.univ (bodyAt0 (adm m hO) t) (fun _ => left m hO c t) := by
  unfold held left bodyAt0
  simp only [before_0, before_1, before_2, before_3, before_4, before_5, before_6]
  rw [leaves_0 m hO c t, after_0 m hO c t, leaves_1 m hO c t, after_1 m hO c t, leaves_2 m hO c t, after_2 m hO c t, leaves_3 m hO c t, after_3 m hO c t, leaves_4 m hO c t, after_4 m hO c t, leaves_5 m hO c t, after_5 m hO c t, leaves_6 m hO c t, after_6 m hO c t, leaves_7 m hO c t, after_7 m hO c t, leaves_8 m hO c t, after_8 m hO c t, leaves_9 m hO c t, after_9 m hO c t]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiT0_eq, PhiA0_eq,
    out7_B m hO c t h, out8_B m hO c t h, out9_B m hO c t h]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB m hO c t h).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS]; · iexact HS
  isplitl [HT]; · iexact HT
  iintro ⟨H0, H1, H2, H3, H4, H5, H6, ⟨%e7, H7⟩, ⟨%e8, H8⟩, ⟨%e9, H9⟩, ⟨%fT, HS⟩, HT⟩
  isplitl [HS Hg HT]
  · isplitl [HS Hg]
    · isplitl [HS]
      · iexists _; unfold owns; iexists _; isplitr
        swap; · iexact HS
        ipureintro; rfl
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (tiles7_B m hO c t h)
  isplitl [H8]
  · unfold owns; iexists _; isplitr
    swap; · iexact H8
    ipureintro; exact View.read_writes_of_cover _ _ _ _ _ (tiles8_B m hO c t h)
  unfold owns; iexists _; isplitr
  swap; · iexact H9
  ipureintro; exact View.read_writes_of_cover _ _ _ _ _ (tiles9_B m hO c t h)

/-- The body at any point. -/
theorem body (hO : Ok m) (c : Dev nD) (t : Fin (cfgM m hO).N) :
    held m hO c t ⊢ wp frame (wpE (defs₀ (F := F)) Variants.none c none) Set.univ (bodyAt0 (adm m hO) t) (fun _ => left m hO c t) :=
  if h : t.val < 64 then body_A m hO c t h else body_B m hO c t h

/-- The body table's row at point `t` is the body. -/
theorem row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem obligation (hO : Ok m) (c : Dev nD) : BodyObligation (dats (F := F) m hO 0 c) (defs₀ (F := F)) Variants.none () Set.univ := fun t => by
  rw [bigSep_W0, bigSep_W0, row m hO]
  exact triple_restated (body m hO c t) rfl .rfl fun _ => .rfl

/-! ## The launch and the frame -/

-- the launch rule's implicit arguments are found by unifying its conclusion with this one
set_option backward.isDefEq.respectTransparency.types false in
/-- Every array of the launch ends as its data says, and every semaphore counter is zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- From any memory whose table is in range the kernel runs, leaves its arguments as they were, and ends with every
    semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel2Ideal.InProj

end
-- ==== Proof.Kernel2IdealBlock.lean ====
/- What a point of the idealized `in_proj` kernel stores, column block by column block. -/
module
public import proofs.«01_k».proof.Proof.Gen.Kernel2Ideal.Skeleton
public import proofs.«01_k».proof.Proof.Heads
@[expose] public section
set_option maxRecDepth 16384
noncomputable section
namespace Cert.Kernel2Ideal.InProj
open Cert.Kernel2Ideal.Gen Cert.Heads
open Idealize.ShloMosaic Idealize.ShloMosaic.TcCoe

/-- The queries' scale, by its name. -/
abbrev qscale : EReal := (Named.named κ "query_scale" 0x3E38AA3B#32 : Ideal .f32)

theorem pay5_apply (x : Vec Ideal S512x1024 .f32) (g : Vec Ideal S1x1x1024 .f32) (r : Fin 512) (k : Fin 1024) :
    k0_pay5 x g (ix2 r k) = normed (fun i => x (ix2 r i)) (fun i => g (ix3 0 0 i)) k := by
  unfold normed
  pointwise [k0_pay5]

theorem pay2_apply (n : FVec Ideal S512x1024 .bf16) (w : Vec Ideal S1x1024x512 .bf16) (r p : Fin 512) :
    k0_pay2 n w (ix2 r p) = ∑ k, n (ix2 r k) * w (ix3 0 k p) := by
  pointwise [k0_pay2]

theorem pay99_apply (n : FVec Ideal S512x1024 .bf16) (w : Vec Ideal S1x1024x512 .bf16) (r p : Fin 512) :
    k0_pay99 n w (ix2 r p) = ∑ k, n (ix2 r k) * w (ix3 0 k p) := by
  pointwise [k0_pay99]

theorem pay281_apply (n : FVec Ideal S512x1024 .bf16) (w : Vec Ideal S1x1024x512 .bf16) (r p : Fin 512) :
    k0_pay281 n w (ix2 r p) = ∑ k, n (ix2 r k) * w (ix3 0 k p) := by
  pointwise [k0_pay281]

/-- The four 128-wide parts, each turned by its rotations, side by side and scaled. -/
theorem pay12_apply (C U D : FVec Ideal S512x128 .f32) (y q e : FVec Ideal S512x512 .f32) (g : Vec Ideal S1x1x512 .f32) (r p : Fin 512) :
    k0_pay12 C U D y q e g (ix2 r p)
      = rolled (fun p => y (ix2 r p) * Ideal.rsqrt (q (ix2 r p) + e (ix2 r p)) * g (ix3 0 0 p)) (fun q => C (ix2 r q))
          (fun q => U (ix2 r q)) (fun q => D (ix2 r q)) p * Named.named κ "query_scale" 0x3E38AA3B#32 := by
  pointwise [k0_pay12]
  refine congrArg₂ (fun v v' : EReal => v * v') ?_ rfl
  split
  · refine rolled_of (fun p => y (ix2 r p) * Ideal.rsqrt (q (ix2 r p) + e (ix2 r p)) * g (ix3 0 0 p)) (fun q => C (ix2 r q))
          (fun q => U (ix2 r q)) (fun q => D (ix2 r q)) p _ _ _ _ ?_ ?_ ?_ ?_ <;> dsimp only <;> omega
  · split
    · refine rolled_of (fun p => y (ix2 r p) * Ideal.rsqrt (q (ix2 r p) + e (ix2 r p)) * g (ix3 0 0 p)) (fun q => C (ix2 r q))
          (fun q => U (ix2 r q)) (fun q => D (ix2 r q)) p _ _ _ _ ?_ ?_ ?_ ?_ <;> dsimp only <;> omega
    · split
      · refine rolled_of (fun p => y (ix2 r p) * Ideal.rsqrt (q (ix2 r p) + e (ix2 r p)) * g (ix3 0 0 p)) (fun q => C (ix2 r q))
          (fun q => U (ix2 r q)) (fun q => D (ix2 r q)) p _ _ _ _ ?_ ?_ ?_ ?_ <;> dsimp only <;> omega
      · refine rolled_of (fun p => y (ix2 r p) * Ideal.rsqrt (q (ix2 r p) + e (ix2 r p)) * g (ix3 0 0 p)) (fun q => C (ix2 r q))
          (fun q => U (ix2 r q)) (fun q => D (ix2 r q)) p _ _ _ _ ?_ ?_ ?_ ?_ <;> dsimp only <;> omega

theorem pay101_apply (y : FVec Ideal S512x512 .f32) (sq : FVec Ideal S512x512 .bf16) (b : Vec Ideal S256x256 .bf16) (g : Vec Ideal S1x1x512 .f32) (r p : Fin 512)
    (hsq : ∀ p, sq (ix2 r p) = y (ix2 r p) * y (ix2 r p)) (gd : Fin 64 → EReal)
    (hb : ∀ k l, b (ix2 k l) = if k.val / 64 = l.val / 64 then Ideal.ofBits .bf16 0x3C80#16 else 0)
    (hg : ∀ p : Fin 512, g (ix3 0 0 p) = gd ⟨p.val % 64, by omega⟩) (a : Fin 512) (ha : p.val / 64 = a.val / 64) :
    k0_pay101 y sq b b g (ix2 r p) = headNorm (fun e => y (ix2 r ⟨a.val / 64 * 64 + e.val, by omega⟩)) gd ⟨p.val % 64, by omega⟩ := by
  pointwise [k0_pay101]
  simp only [hsq]
  exact head_of (fun p => y (ix2 r p)) (fun p => g (ix3 0 0 p)) gd (fun k l => b (ix2 k l)) hb hg a p ha

/-- The projected row at a column. -/
theorem col_eq (x : Vec Ideal S512x1024 .f32) (g : Vec Ideal S1x1x1024 .f32) (w : Vec Ideal S1x1024x512 .bf16) (r p : Fin 512) :
    ∑ k, k0_pay5 x g (ix2 r k) * w (ix3 0 k p)
      = proj (fun i => x (ix2 r i)) (fun i => g (ix3 0 0 i)) (fun k => w (ix3 0 k p)) := by
  unfold proj
  simp only [pay5_apply]

theorem pay9_apply (x : Vec Ideal S512x1024 .f32) (g : Vec Ideal S1x1x1024 .f32) (w : Vec Ideal S1x1024x512 .bf16) (r p : Fin 512) :
    k0_pay9 x g w (ix2 r p) = proj (fun i => x (ix2 r i)) (fun i => g (ix3 0 0 i)) (fun k => w (ix3 0 k p)) :=
  (pay99_apply _ _ r p).trans (col_eq x g w r p)

/-- The dilated queries. -/
def dq (x : Vec Ideal S512x1024 .f32) (g : Vec Ideal S1x1x1024 .f32) (w : Vec Ideal S1x1024x512 .bf16) (b : Vec Ideal S256x256 .bf16) (g' : Vec Ideal S1x1x512 .f32)
    (C U D : Vec Ideal S512x128 .f32) : FVec Ideal S512x512 .bf16 :=
  k0_pay13 (k0_pay6 C) (k0_pay7 U) (k0_pay8 D) (k0_pay9 x g w) (k0_pay10 x g w b b) k0_pay11 g'

/-- The dilated keys. -/
def dk (x : Vec Ideal S512x1024 .f32) (g : Vec Ideal S1x1x1024 .f32) (w : Vec Ideal S1x1024x512 .bf16) (b : Vec Ideal S256x256 .bf16) (g' : Vec Ideal S1x1x512 .f32)
    (C U D : Vec Ideal S512x128 .f32) : FVec Ideal S512x512 .bf16 :=
  let y := k0_pay99 (k0_pay5 x g) w
  let q := k0_pay100 (k0_pay5 x g) w
  k0_pay109 (k0_pay8 D) (k0_pay102 (k0_pay6 C) (k0_pay7 U) (k0_pay8 D) y q b b g')
    (k0_pay103 (k0_pay6 C) (k0_pay7 U) (k0_pay8 D) y q b b g') (k0_pay104 (k0_pay6 C) (k0_pay7 U) (k0_pay8 D) y q b b g')
    (k0_pay105 y q b b g') (k0_pay106 (k0_pay6 C) y q b b g') (k0_pay107 (k0_pay7 U) y q b b g')

/-- The neighbourhood keys. -/
def nk (x : Vec Ideal S512x1024 .f32) (g : Vec Ideal S1x1x1024 .f32) (w : Vec Ideal S1x1024x512 .bf16) (b : Vec Ideal S256x256 .bf16) (g' : Vec Ideal S1x1x512 .f32) : FVec Ideal S512x512 .bf16 :=
  k0_pay1 (k0_pay281 (k0_pay5 x g) w) (k0_pay284 (k0_pay282 (k0_pay5 x g) w) (k0_pay283 (k0_pay5 x g) w) b b) g'

theorem dq_apply (x : Vec Ideal S512x1024 .f32) (g : Vec Ideal S1x1x1024 .f32) (w : Vec Ideal S1x1024x512 .bf16) (b : Vec Ideal S256x256 .bf16) (g' : Vec Ideal S1x1x512 .f32)
    (C U D : Vec Ideal S512x128 .f32) (r p : Fin 512) (gd : Fin 64 → EReal) (c s : Fin 8 → EReal)
    (hb : ∀ k l, b (ix2 k l) = if k.val / 64 = l.val / 64 then Ideal.ofBits .bf16 0x3C80#16 else 0)
    (hg : ∀ p : Fin 512, g' (ix3 0 0 p) = gd ⟨p.val % 64, by omega⟩)
    (hC : ∀ q, C (ix2 r q) = cosAt c ⟨q.val % 64, by omega⟩) (hU : ∀ q, U (ix2 r q) = upAt s ⟨q.val % 64, by omega⟩)
    (hD : ∀ q, D (ix2 r q) = downAt s ⟨q.val % 64, by omega⟩) :
    dq x g w b g' C U D (ix2 r p)
      = turned (headNorm (fun e => proj (fun i => x (ix2 r i)) (fun i => g (ix3 0 0 i)) (fun k => w (ix3 0 k ⟨p.val / 64 * 64 + e.val, by omega⟩))) gd) c s ⟨p.val % 64, by omega⟩ * qscale := by
  have h6 : ∀ q, k0_pay6 C (ix2 r q) = C (ix2 r q) := fun q => by pointwise [k0_pay6]
  have h7 : ∀ q, k0_pay7 U (ix2 r q) = U (ix2 r q) := fun q => by pointwise [k0_pay7]
  have h8 : ∀ q, k0_pay8 D (ix2 r q) = D (ix2 r q) := fun q => by pointwise [k0_pay8]
  refine (pay12_apply (k0_pay6 C) (k0_pay7 U) (k0_pay8 D) (k0_pay9 x g w) (k0_pay10 x g w b b) k0_pay11 g' r p).trans ?_
  refine congrArg₂ (fun v v' : EReal => v * v') ?_ rfl
  refine rolled_turned _ _ _ _ c s p _ (fun q => (h6 q).trans (hC q)) (fun q => (h7 q).trans (hU q)) (fun q => (h8 q).trans (hD q)) fun p' hp' => ?_
  have e := head_of (fun p => k0_pay9 x g w (ix2 r p)) (fun p => g' (ix3 0 0 p)) gd (fun k l => b (ix2 k l)) hb hg p p' hp'
  refine Eq.trans ?_ (e.trans ?_)
  · refine congrArg (fun v => k0_pay9 x g w (ix2 r p') * Ideal.rsqrt v * g' (ix3 0 0 p')) ?_
    pointwise [k0_pay10, k0_pay11]
  · refine congrArg (fun f => headNorm f gd _) (funext fun e => ?_)
    exact pay9_apply x g w r _

theorem dk_apply (x : Vec Ideal S512x1024 .f32) (g : Vec Ideal S1x1x1024 .f32) (w : Vec Ideal S1x1024x512 .bf16) (b : Vec Ideal S256x256 .bf16) (g' : Vec Ideal S1x1x512 .f32)
    (C U D : Vec Ideal S512x128 .f32) (r p : Fin 512) (gd : Fin 64 → EReal) (c s : Fin 8 → EReal)
    (hb : ∀ k l, b (ix2 k l) = if k.val / 64 = l.val / 64 then Ideal.ofBits .bf16 0x3C80#16 else 0)
    (hg : ∀ p : Fin 512, g' (ix3 0 0 p) = gd ⟨p.val % 64, by omega⟩)
    (hC : ∀ q, C (ix2 r q) = cosAt c ⟨q.val % 64, by omega⟩) (hU : ∀ q, U (ix2 r q) = upAt s ⟨q.val % 64, by omega⟩)
    (hD : ∀ q, D (ix2 r q) = downAt s ⟨q.val % 64, by omega⟩) :
    dk x g w b g' C U D (ix2 r p)
      = turned (headNorm (fun e => proj (fun i => x (ix2 r i)) (fun i => g (ix3 0 0 i)) (fun k => w (ix3 0 k ⟨p.val / 64 * 64 + e.val, by omega⟩))) gd) c s ⟨p.val % 64, by omega⟩ := by
  have h6 : ∀ q, k0_pay6 C (ix2 r q) = C (ix2 r q) := fun q => by pointwise [k0_pay6]
  have h7 : ∀ q, k0_pay7 U (ix2 r q) = U (ix2 r q) := fun q => by pointwise [k0_pay7]
  have h8 : ∀ q, k0_pay8 D (ix2 r q) = D (ix2 r q) := fun q => by pointwise [k0_pay8]
  have hz : ∀ p' : Fin 512, p'.val / 64 = p.val / 64 →
      k0_pay101 (k0_pay99 (k0_pay5 x g) w) (k0_pay100 (k0_pay5 x g) w) b b g' (ix2 r p')
        = headNorm (fun e => proj (fun i => x (ix2 r i)) (fun i => g (ix3 0 0 i)) (fun k => w (ix3 0 k ⟨p.val / 64 * 64 + e.val, by omega⟩))) gd ⟨p'.val % 64, by omega⟩ := fun p' hp' => by
    refine (pay101_apply _ _ b g' r p' (fun p => by pointwise [k0_pay100]) gd hb hg p hp').trans ?_
    refine congrArg (fun f => headNorm f gd _) (funext fun e => ?_)
    exact (pay99_apply _ w r _).trans (col_eq x g w r _)
  refine Eq.trans ?_ (rolled_turned (fun p' => k0_pay101 (k0_pay99 (k0_pay5 x g) w) (k0_pay100 (k0_pay5 x g) w) b b g' (ix2 r p'))
    (fun q => k0_pay6 C (ix2 r q)) (fun q => k0_pay7 U (ix2 r q)) (fun q => k0_pay8 D (ix2 r q)) c s p _
    (fun q => (h6 q).trans (hC q)) (fun q => (h7 q).trans (hU q)) (fun q => (h8 q).trans (hD q)) hz)
  unfold dk
  generalize k0_pay99 (k0_pay5 x g) w = y
  generalize k0_pay100 (k0_pay5 x g) w = q
  pointwise [k0_pay109, k0_pay108, k0_pay102, k0_pay103, k0_pay104, k0_pay105, k0_pay106, k0_pay107]
  split
  · refine rolled_of (fun p => k0_pay101 y q b b g' (ix2 r p)) (fun q => k0_pay6 C (ix2 r q))
          (fun q => k0_pay7 U (ix2 r q)) (fun q => k0_pay8 D (ix2 r q)) p _ _ _ _ ?_ ?_ ?_ ?_ <;> dsimp only <;> omega
  · split
    · refine rolled_of (fun p => k0_pay101 y q b b g' (ix2 r p)) (fun q => k0_pay6 C (ix2 r q))
          (fun q => k0_pay7 U (ix2 r q)) (fun q => k0_pay8 D (ix2 r q)) p _ _ _ _ ?_ ?_ ?_ ?_ <;> dsimp only <;> omega
    · split
      · refine rolled_of (fun p => k0_pay101 y q b b g' (ix2 r p)) (fun q => k0_pay6 C (ix2 r q))
          (fun q => k0_pay7 U (ix2 r q)) (fun q => k0_pay8 D (ix2 r q)) p _ _ _ _ ?_ ?_ ?_ ?_ <;> dsimp only <;> omega
      · refine rolled_of (fun p => k0_pay101 y q b b g' (ix2 r p)) (fun q => k0_pay6 C (ix2 r q))
          (fun q => k0_pay7 U (ix2 r q)) (fun q => k0_pay8 D (ix2 r q)) p _ _ _ _ ?_ ?_ ?_ ?_ <;> dsimp only <;> omega

theorem nq_apply (x : Vec Ideal S512x1024 .f32) (g : Vec Ideal S1x1x1024 .f32) (w : Vec Ideal S1x1024x512 .bf16) (b : Vec Ideal S256x256 .bf16) (g' : Vec Ideal S1x1x512 .f32)
    (r p : Fin 512) (gd : Fin 64 → EReal)
    (hb : ∀ k l, b (ix2 k l) = if k.val / 64 = l.val / 64 then Ideal.ofBits .bf16 0x3C80#16 else 0)
    (hg : ∀ p : Fin 512, g' (ix3 0 0 p) = gd ⟨p.val % 64, by omega⟩) :
    k0_pay280 (k0_pay5 x g) w b b g' (ix2 r p)
      = headNorm (fun e => proj (fun i => x (ix2 r i)) (fun i => g (ix3 0 0 i)) (fun k => w (ix3 0 k ⟨p.val / 64 * 64 + e.val, by omega⟩))) gd ⟨p.val % 64, by omega⟩ * qscale := by
  pointwise [k0_pay280]
  refine congrArg₂ (fun v v' : EReal => v * v') ?_ rfl
  simp only [col_eq]
  exact head_of (fun p => proj (fun i => x (ix2 r i)) (fun i => g (ix3 0 0 i)) (fun k => w (ix3 0 k p))) (fun p => g' (ix3 0 0 p)) gd
    (fun k l => b (ix2 k l)) hb hg p p rfl

theorem nk_apply (x : Vec Ideal S512x1024 .f32) (g : Vec Ideal S1x1x1024 .f32) (w : Vec Ideal S1x1024x512 .bf16) (b : Vec Ideal S256x256 .bf16) (g' : Vec Ideal S1x1x512 .f32)
    (r p : Fin 512) (gd : Fin 64 → EReal)
    (hb : ∀ k l, b (ix2 k l) = if k.val / 64 = l.val / 64 then Ideal.ofBits .bf16 0x3C80#16 else 0)
    (hg : ∀ p : Fin 512, g' (ix3 0 0 p) = gd ⟨p.val % 64, by omega⟩) :
    nk x g w b g' (ix2 r p) = headNorm (fun e => proj (fun i => x (ix2 r i)) (fun i => g (ix3 0 0 i)) (fun k => w (ix3 0 k ⟨p.val / 64 * 64 + e.val, by omega⟩))) gd ⟨p.val % 64, by omega⟩ := by
  unfold nk
  pointwise [k0_pay1, k0_pay284, k0_pay283, k0_pay282]
  simp only [pay281_apply, col_eq]
  exact head_of (fun p => proj (fun i => x (ix2 r i)) (fun i => g (ix3 0 0 i)) (fun k => w (ix3 0 k p))) (fun p => g' (ix3 0 0 p)) gd
    (fun k l => b (ix2 k l)) hb hg p p rfl

/-- The values, dilated and of the neighbourhoods. -/
theorem vals_apply (x : Vec Ideal S512x1024 .f32) (g : Vec Ideal S1x1x1024 .f32) (w : Vec Ideal S1x1024x512 .bf16) (r p : Fin 512) :
    k0_pay2 (k0_pay5 x g) w (ix2 r p) = proj (fun i => x (ix2 r i)) (fun i => g (ix3 0 0 i)) (fun k => w (ix3 0 k p)) :=
  (pay2_apply _ _ r p).trans (col_eq x g w r p)

end Cert.Kernel2Ideal.InProj
end
-- ==== Proof.Kernel2IdealStores.lean ====
/- The stores of the idealized `in_proj` kernel into its first output, as its run finds them. -/
module

public import proofs.«01_k».proof.Proof.Gen.Kernel2Ideal.Frame.RunA
public import proofs.«01_k».proof.Proof.Gen.Kernel2Ideal.Frame.RunB
public import proofs.«01_k».proof.Proof.Kernel2IdealBlock
public import Idealize.ShloMosaic.Lib.Pipeline.ValueKit

@[expose] public section

set_option maxRecDepth 16384

noncomputable section

namespace Cert.Kernel2Ideal.InProj

open Cert.Kernel2Ideal.Gen Cert.Heads
open Idealize.ShloMosaic Idealize.ShloMosaic.TcCoe Idealize.ShloMosaic.Tactic

/-- The six stores of a point into its block of the first output, the last first, from what it loads. -/
def loaded (x : Vec Ideal S512x1024 .f32) (g : Vec Ideal S1x1x1024 .f32) (w0 w1 w2 w3 w4 w5 : Vec Ideal S1x1024x512 .bf16)
    (q0 q1 q2 q3 : Vec Ideal S1x1x512 .f32) (b : Vec Ideal S256x256 .bf16) (r0 r1 r2 : Vec Ideal S512x128 .f32) :
    List (View.Piece (Elt Ideal) S512x3072 .bf16) :=
  [ ⟨Rect.unit ![0, 2560] ![512, 512] inb_S512x3072_S512x512_0_2560, k0_pay2 (k0_pay5 x g) w5⟩,
    ⟨Rect.unit ![0, 2048] ![512, 512] inb_S512x3072_S512x512_0_2048, nk x g w4 b q3⟩,
    ⟨Rect.unit ![0, 1536] ![512, 512] inb_S512x3072_S512x512_0_1536, k0_pay280 (k0_pay5 x g) w3 b b q2⟩,
    ⟨Rect.unit ![0, 1024] ![512, 512] inb_S512x3072_S512x512_0_1024, k0_pay2 (k0_pay5 x g) w2⟩,
    ⟨Rect.unit ![0, 512] ![512, 512] inb_S512x3072_S512x512_0_512, dk x g w1 b q1 r0 r1 r2⟩,
    ⟨Rect.unit ![0, 0] ![512, 512] inb_S512x3072_S512x512_0_0, dq x g w0 b q0 r0 r1 r2⟩]

/-- The same from the blocks. -/
def stores (x : Vec Ideal S512x1024 .f32) (g : Vec Ideal S1x1x1024 .f32) (w : Vec Ideal S1x1024x3072 .bf16) (q : Vec Ideal S1x4x512 .f32)
    (b : Vec Ideal S256x256 .bf16) (rope : Vec Ideal S512x384 .f32) : List (View.Piece (Elt Ideal) S512x3072 .bf16) :=
  loaded x g (View.ld w (Rect.unit ![0, 0, 0] ![1, 1024, 512] inb_S1x1024x3072_S1x1024x512_0_0_0))
    (View.ld w (Rect.unit ![0, 0, 512] ![1, 1024, 512] inb_S1x1024x3072_S1x1024x512_0_0_512))
    (View.ld w (Rect.unit ![0, 0, 1024] ![1, 1024, 512] inb_S1x1024x3072_S1x1024x512_0_0_1024))
    (View.ld w (Rect.unit ![0, 0, 1536] ![1, 1024, 512] inb_S1x1024x3072_S1x1024x512_0_0_1536))
    (View.ld w (Rect.unit ![0, 0, 2048] ![1, 1024, 512] inb_S1x1024x3072_S1x1024x512_0_0_2048))
    (View.ld w (Rect.unit ![0, 0, 2560] ![1, 1024, 512] inb_S1x1024x3072_S1x1024x512_0_0_2560))
    (View.ld q (Rect.unit ![0, 0, 0] ![1, 1, 512] inb_S1x4x512_S1x1x512_0_0_0)) (View.ld q (Rect.unit ![0, 1, 0] ![1, 1, 512] inb_S1x4x512_S1x1x512_0_1_0))
    (View.ld q (Rect.unit ![0, 2, 0] ![1, 1, 512] inb_S1x4x512_S1x1x512_0_2_0)) (View.ld q (Rect.unit ![0, 3, 0] ![1, 1, 512] inb_S1x4x512_S1x1x512_0_3_0))
    b (View.ld rope (Rect.unit ![0, 0] ![512, 128] inb_S512x384_S512x128_0_0)) (View.ld rope (Rect.unit ![0, 128] ![512, 128] inb_S512x384_S512x128_0_128))
    (View.ld rope (Rect.unit ![0, 256] ![512, 128] inb_S512x384_S512x128_0_256))

set_option maxHeartbeats 1000000 in
theorem found_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024x3072 .bf16) (harg5 : arg5.IsWhole) (arg6 : Memref sig .tc .vmem S1x4x512 .f32) (harg6 : arg6.IsWhole) (arg7 : Memref sig .tc .vmem S256x256 .bf16) (harg7 : arg7.IsWhole) (arg8 : Memref sig .tc .vmem S512x384 .f32) (harg8 : arg8.IsWhole) (arg9 : Memref sig .tc .vmem S512x3072 .bf16) (harg9 : arg9.IsWhole) (arg10 : Memref sig .tc .vmem S128x6144 .bf16) (harg10 : arg10.IsWhole) (arg11 : Memref sig .tc .vmem S32x24576 .bf16) (harg11 : arg11.IsWhole) (arg12 : Memref sig .tc .vmem S4x512x128 .f32) (harg12 : arg12.IsWhole) (hc0 : cond0_0 i) (hc1 : ¬cond0_1 i)
    (x0 : Vec Ideal S512x1024 .f32) (x1 : Vec Ideal S512x1024 .f32) (x2 : Vec Ideal S1x1x1024 .f32) (x3 : Vec Ideal S1x1024x3072 .bf16) (x4 : Vec Ideal S1x4x512 .f32) (x5 : Vec Ideal S256x256 .bf16) (x6 : Vec Ideal S512x384 .f32) (xt0 : TbBuf0 (F := Ideal) c tbM0_0) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 xt0).1 = loaded
      (View.ld (View.read (Elt Ideal) arg2.view (harg2.unread x0)) (Rect.unit ![0, 0] ![512, 1024] inb_S512x1024_S512x1024_0_0))
      (View.ld (View.read (Elt Ideal) arg4.view (harg4.unread x2)) (Rect.unit ![0, 0, 0] ![1, 1, 1024] inb_S1x1x1024_S1x1x1024_0_0_0))
      (View.ld (View.read (Elt Ideal) arg5.view (harg5.unread x3)) (Rect.unit ![0, 0, 0] ![1, 1024, 512] inb_S1x1024x3072_S1x1024x512_0_0_0))
      (View.ld (View.read (Elt Ideal) arg5.view (harg5.unread x3)) (Rect.unit ![0, 0, 512] ![1, 1024, 512] inb_S1x1024x3072_S1x1024x512_0_0_512))
      (View.ld (View.read (Elt Ideal) arg5.view (harg5.unread x3)) (Rect.unit ![0, 0, 1024] ![1, 1024, 512] inb_S1x1024x3072_S1x1024x512_0_0_1024))
      (View.ld (View.read (Elt Ideal) arg5.view (harg5.unread x3)) (Rect.unit ![0, 0, 1536] ![1, 1024, 512] inb_S1x1024x3072_S1x1024x512_0_0_1536))
      (View.ld (View.read (Elt Ideal) arg5.view (harg5.unread x3)) (Rect.unit ![0, 0, 2048] ![1, 1024, 512] inb_S1x1024x3072_S1x1024x512_0_0_2048))
      (View.ld (View.read (Elt Ideal) arg5.view (harg5.unread x3)) (Rect.unit ![0, 0, 2560] ![1, 1024, 512] inb_S1x1024x3072_S1x1024x512_0_0_2560))
      (View.ld (View.read (Elt Ideal) arg6.view (harg6.unread x4)) (Rect.unit ![0, 0, 0] ![1, 1, 512] inb_S1x4x512_S1x1x512_0_0_0))
      (View.ld (View.read (Elt Ideal) arg6.view (harg6.unread x4)) (Rect.unit ![0, 1, 0] ![1, 1, 512] inb_S1x4x512_S1x1x512_0_1_0))
      (View.ld (View.read (Elt Ideal) arg6.view (harg6.unread x4)) (Rect.unit ![0, 2, 0] ![1, 1, 512] inb_S1x4x512_S1x1x512_0_2_0))
      (View.ld (View.read (Elt Ideal) arg6.view (harg6.unread x4)) (Rect.unit ![0, 3, 0] ![1, 1, 512] inb_S1x4x512_S1x1x512_0_3_0))
      (View.ld (View.read (Elt Ideal) arg7.view (harg7.unread x5)) (Rect.unit ![0, 0] ![256, 256] inb_S256x256_S256x256_0_0))
      (View.ld (View.read (Elt Ideal) arg8.view (harg8.unread x6)) (Rect.unit ![0, 0] ![512, 128] inb_S512x384_S512x128_0_0))
      (View.ld (View.read (Elt Ideal) arg8.view (harg8.unread x6)) (Rect.unit ![0, 128] ![512, 128] inb_S512x384_S512x128_0_128))
      (View.ld (View.read (Elt Ideal) arg8.view (harg8.unread x6)) (Rect.unit ![0, 256] ![512, 128] inb_S512x384_S512x128_0_256)) := by
  unfold kernelRun0_A
  dsimp only
  sl_kernel_rfl

theorem stores_A (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024x3072 .bf16) (harg5 : arg5.IsWhole) (arg6 : Memref sig .tc .vmem S1x4x512 .f32) (harg6 : arg6.IsWhole) (arg7 : Memref sig .tc .vmem S256x256 .bf16) (harg7 : arg7.IsWhole) (arg8 : Memref sig .tc .vmem S512x384 .f32) (harg8 : arg8.IsWhole) (arg9 : Memref sig .tc .vmem S512x3072 .bf16) (harg9 : arg9.IsWhole) (arg10 : Memref sig .tc .vmem S128x6144 .bf16) (harg10 : arg10.IsWhole) (arg11 : Memref sig .tc .vmem S32x24576 .bf16) (harg11 : arg11.IsWhole) (arg12 : Memref sig .tc .vmem S4x512x128 .f32) (harg12 : arg12.IsWhole) (hc0 : cond0_0 i) (hc1 : ¬cond0_1 i)
    (x0 : Vec Ideal S512x1024 .f32) (x1 : Vec Ideal S512x1024 .f32) (x2 : Vec Ideal S1x1x1024 .f32) (x3 : Vec Ideal S1x1024x3072 .bf16) (x4 : Vec Ideal S1x4x512 .f32) (x5 : Vec Ideal S256x256 .bf16) (x6 : Vec Ideal S512x384 .f32) (xt0 : TbBuf0 (F := Ideal) c tbM0_0) :
    (kernelRun0_A c i arg2 harg2 arg3 harg3 arg4 harg4 arg5 harg5 arg6 harg6 arg7 harg7 arg8 harg8 arg9 harg9 arg10 harg10 arg11 harg11 arg12 harg12 hc0 hc1 x0 x1 x2 x3 x4 x5 x6 xt0).1 = stores x0 x2 x3 x4 x5 x6 := by
  refine (found_A c i arg2 harg2 arg3 harg3 arg4 harg4 arg5 harg5 arg6 harg6 arg7 harg7 arg8 harg8 arg9 harg9 arg10 harg10 arg11 harg11 arg12 harg12 hc0 hc1 x0 x1 x2 x3 x4 x5 x6 xt0).trans ?_
  unfold stores
  simp (disch := decide) only [Memref.IsWhole.read_unread, View.ld_unit_lit']

set_option maxHeartbeats 1000000 in
theorem found_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024x3072 .bf16) (harg5 : arg5.IsWhole) (arg6 : Memref sig .tc .vmem S1x4x512 .f32) (harg6 : arg6.IsWhole) (arg7 : Memref sig .tc .vmem S256x256 .bf16) (harg7 : arg7.IsWhole) (arg8 : Memref sig .tc .vmem S512x384 .f32) (harg8 : arg8.IsWhole) (arg9 : Memref sig .tc .vmem S512x3072 .bf16) (harg9 : arg9.IsWhole) (arg10 : Memref sig .tc .vmem S128x6144 .bf16) (harg10 : arg10.IsWhole) (arg11 : Memref sig .tc .vmem S32x24576 .bf16) (harg11 : arg11.IsWhole) (arg12 : Memref sig .tc .vmem S4x512x128 .f32) (harg12 : arg12.IsWhole) (hc0 : ¬cond0_0 i) (hc1 : cond0_1 i)
    (x0 : Vec Ideal S512x1024 .f32) (x1 : Vec Ideal S512x1024 .f32) (x2 : Vec Ideal S1x1x1024 .f32) (x3 : Vec Ideal S1x1024x3072 .bf16) (x4 : Vec Ideal S1x4x512 .f32) (x5 : Vec Ideal S256x256 .bf16) (x6 : Vec Ideal S512x384 .f32) (xt0 : TbBuf0 (F := Ideal) c tbM0_0) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xt0).1 = loaded
      (View.ld (View.read (Elt Ideal) arg3.view (harg3.unread x1)) (Rect.unit ![0, 0] ![512, 1024] inb_S512x1024_S512x1024_0_0))
      (View.ld (View.read (Elt Ideal) arg4.view (harg4.unread x2)) (Rect.unit ![0, 0, 0] ![1, 1, 1024] inb_S1x1x1024_S1x1x1024_0_0_0))
      (View.ld (View.read (Elt Ideal) arg5.view (harg5.unread x3)) (Rect.unit ![0, 0, 0] ![1, 1024, 512] inb_S1x1024x3072_S1x1024x512_0_0_0))
      (View.ld (View.read (Elt Ideal) arg5.view (harg5.unread x3)) (Rect.unit ![0, 0, 512] ![1, 1024, 512] inb_S1x1024x3072_S1x1024x512_0_0_512))
      (View.ld (View.read (Elt Ideal) arg5.view (harg5.unread x3)) (Rect.unit ![0, 0, 1024] ![1, 1024, 512] inb_S1x1024x3072_S1x1024x512_0_0_1024))
      (View.ld (View.read (Elt Ideal) arg5.view (harg5.unread x3)) (Rect.unit ![0, 0, 1536] ![1, 1024, 512] inb_S1x1024x3072_S1x1024x512_0_0_1536))
      (View.ld (View.read (Elt Ideal) arg5.view (harg5.unread x3)) (Rect.unit ![0, 0, 2048] ![1, 1024, 512] inb_S1x1024x3072_S1x1024x512_0_0_2048))
      (View.ld (View.read (Elt Ideal) arg5.view (harg5.unread x3)) (Rect.unit ![0, 0, 2560] ![1, 1024, 512] inb_S1x1024x3072_S1x1024x512_0_0_2560))
      (View.ld (View.read (Elt Ideal) arg6.view (harg6.unread x4)) (Rect.unit ![0, 0, 0] ![1, 1, 512] inb_S1x4x512_S1x1x512_0_0_0))
      (View.ld (View.read (Elt Ideal) arg6.view (harg6.unread x4)) (Rect.unit ![0, 1, 0] ![1, 1, 512] inb_S1x4x512_S1x1x512_0_1_0))
      (View.ld (View.read (Elt Ideal) arg6.view (harg6.unread x4)) (Rect.unit ![0, 2, 0] ![1, 1, 512] inb_S1x4x512_S1x1x512_0_2_0))
      (View.ld (View.read (Elt Ideal) arg6.view (harg6.unread x4)) (Rect.unit ![0, 3, 0] ![1, 1, 512] inb_S1x4x512_S1x1x512_0_3_0))
      (View.ld (View.read (Elt Ideal) arg7.view (harg7.unread x5)) (Rect.unit ![0, 0] ![256, 256] inb_S256x256_S256x256_0_0))
      (View.ld (View.read (Elt Ideal) arg8.view (harg8.unread x6)) (Rect.unit ![0, 0] ![512, 128] inb_S512x384_S512x128_0_0))
      (View.ld (View.read (Elt Ideal) arg8.view (harg8.unread x6)) (Rect.unit ![0, 128] ![512, 128] inb_S512x384_S512x128_0_128))
      (View.ld (View.read (Elt Ideal) arg8.view (harg8.unread x6)) (Rect.unit ![0, 256] ![512, 128] inb_S512x384_S512x128_0_256)) := by
  unfold kernelRun0_B
  dsimp only
  sl_kernel_rfl

theorem stores_B (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1x1024 .f32) (harg4 : arg4.IsWhole) (arg5 : Memref sig .tc .vmem S1x1024x3072 .bf16) (harg5 : arg5.IsWhole) (arg6 : Memref sig .tc .vmem S1x4x512 .f32) (harg6 : arg6.IsWhole) (arg7 : Memref sig .tc .vmem S256x256 .bf16) (harg7 : arg7.IsWhole) (arg8 : Memref sig .tc .vmem S512x384 .f32) (harg8 : arg8.IsWhole) (arg9 : Memref sig .tc .vmem S512x3072 .bf16) (harg9 : arg9.IsWhole) (arg10 : Memref sig .tc .vmem S128x6144 .bf16) (harg10 : arg10.IsWhole) (arg11 : Memref sig .tc .vmem S32x24576 .bf16) (harg11 : arg11.IsWhole) (arg12 : Memref sig .tc .vmem S4x512x128 .f32) (harg12 : arg12.IsWhole) (hc0 : ¬cond0_0 i) (hc1 : cond0_1 i)
    (x0 : Vec Ideal S512x1024 .f32) (x1 : Vec Ideal S512x1024 .f32) (x2 : Vec Ideal S1x1x1024 .f32) (x3 : Vec Ideal S1x1024x3072 .bf16) (x4 : Vec Ideal S1x4x512 .f32) (x5 : Vec Ideal S256x256 .bf16) (x6 : Vec Ideal S512x384 .f32) (xt0 : TbBuf0 (F := Ideal) c tbM0_0) :
    (kernelRun0_B c i arg2 harg2 arg3 harg3 arg4 harg4 arg5 harg5 arg6 harg6 arg7 harg7 arg8 harg8 arg9 harg9 arg10 harg10 arg11 harg11 arg12 harg12 hc0 hc1 x0 x1 x2 x3 x4 x5 x6 xt0).1 = stores x1 x2 x3 x4 x5 x6 := by
  refine (found_B c i arg2 harg2 arg3 harg3 arg4 harg4 arg5 harg5 arg6 harg6 arg7 harg7 arg8 harg8 arg9 harg9 arg10 harg10 arg11 harg11 arg12 harg12 hc0 hc1 x0 x1 x2 x3 x4 x5 x6 xt0).trans ?_
  unfold stores
  simp (disch := decide) only [Memref.IsWhole.read_unread, View.ld_unit_lit']

end Cert.Kernel2Ideal.InProj

end
-- ==== Proof.Kernel2IdealValue.lean ====
/- What the idealized `in_proj` kernel leaves in its first output: at every row the heads of the row. -/
module

public import proofs.«01_k».proof.Proof.Kernel2IdealFrame
public import proofs.«01_k».proof.Proof.Kernel2IdealStores

@[expose] public section

set_option maxRecDepth 16384

noncomputable section

namespace Cert.Kernel2Ideal.InProj

open Cert.Kernel2Ideal.Gen Cert.Heads
open Idealize.ShloMosaic Idealize.ShloMosaic.TcCoe Idealize.ShloMosaic.Tactic
open Idealize.ShloMosaic.Pipeline (Dat Cfg Window)

/-- An index of a column block, in the whole row. -/
theorem emb_col (o : Nat) (ho : o + 512 ≤ 3072) (inb : ∀ a, (![0, o] : Fin 2 → Nat) a + (![512, 512] : Fin 2 → Nat) a ≤ S512x3072.size a)
    (r p : Fin 512) : (Rect.unit (s := S512x3072) ![0, o] ![512, 512] inb).emb (ix2 r p) = ix2 r (⟨o + p.val, by omega⟩ : Fin 3072) := by
  funext a; refine Fin.ext ?_
  rw [Rect.emb_apply]
  match a with
  | ⟨0, _⟩ => show 0 + 1 * r.val = r.val; omega
  | ⟨1, _⟩ => show o + 1 * p.val = o + p.val; omega

section
variable (x : Vec Ideal S512x1024 .f32) (g : Vec Ideal S1x1x1024 .f32) (w : Vec Ideal S1x1024x3072 .bf16) (q : Vec Ideal S1x4x512 .f32)
    (b : Vec Ideal S256x256 .bf16) (rope : Vec Ideal S512x384 .f32) (qd kd qn kn : Fin 64 → EReal) (c s : Fin 512 → Fin 8 → EReal)

/-- The heads of the block's rows. -/
def rows (y : S512x3072.Idx) : EReal :=
  heads (fun i => x (ix2 (y 0) i)) (fun i => g (ix3 0 0 i)) (fun k j => w (ix3 0 k j)) qd kd qn kn (c (y 0)) (s (y 0)) (fun v => v * qscale) (y 1)

/-- Every store of a point puts down the heads of the block's rows. -/
theorem stores_apply
    (hb : ∀ k l, b (ix2 k l) = if k.val / 64 = l.val / 64 then Ideal.ofBits .bf16 0x3C80#16 else 0)
    (hqd : ∀ p : Fin 512, q (ix3 0 0 p) = qd ⟨p.val % 64, by omega⟩) (hkd : ∀ p : Fin 512, q (ix3 0 1 p) = kd ⟨p.val % 64, by omega⟩)
    (hqn : ∀ p : Fin 512, q (ix3 0 2 p) = qn ⟨p.val % 64, by omega⟩) (hkn : ∀ p : Fin 512, q (ix3 0 3 p) = kn ⟨p.val % 64, by omega⟩)
    (hcos : ∀ r (i : Fin 128), rope (ix2 r ⟨i.val, by omega⟩) = cosAt (c r) ⟨i.val % 64, by omega⟩)
    (hup : ∀ r (i : Fin 128), rope (ix2 r ⟨128 + i.val, by omega⟩) = upAt (s r) ⟨i.val % 64, by omega⟩)
    (hdown : ∀ r (i : Fin 128), rope (ix2 r ⟨256 + i.val, by omega⟩) = downAt (s r) ⟨i.val % 64, by omega⟩) :
    ∀ pc ∈ stores x g w q b rope, ∀ y : pc.1.shape.Idx, pc.2 y = rows x g w qd kd qn kn c s (pc.1.emb y) := by
  have h0 : ∀ f : Fin 64 → EReal, (∀ p : Fin 512, q (ix3 0 0 p) = f ⟨p.val % 64, by omega⟩) → ∀ p : Fin 512,
      View.ld q (Rect.unit ![0, 0, 0] ![1, 1, 512] inb_S1x4x512_S1x1x512_0_0_0) (ix3 0 0 p) = f ⟨p.val % 64, by omega⟩ := fun f hf p => by
    refine Eq.trans ?_ (hf p)
    pointwise []
  have h1 : ∀ f : Fin 64 → EReal, (∀ p : Fin 512, q (ix3 0 1 p) = f ⟨p.val % 64, by omega⟩) → ∀ p : Fin 512,
      View.ld q (Rect.unit ![0, 1, 0] ![1, 1, 512] inb_S1x4x512_S1x1x512_0_1_0) (ix3 0 0 p) = f ⟨p.val % 64, by omega⟩ := fun f hf p => by
    refine Eq.trans ?_ (hf p)
    pointwise []
  have h2 : ∀ f : Fin 64 → EReal, (∀ p : Fin 512, q (ix3 0 2 p) = f ⟨p.val % 64, by omega⟩) → ∀ p : Fin 512,
      View.ld q (Rect.unit ![0, 2, 0] ![1, 1, 512] inb_S1x4x512_S1x1x512_0_2_0) (ix3 0 0 p) = f ⟨p.val % 64, by omega⟩ := fun f hf p => by
    refine Eq.trans ?_ (hf p)
    pointwise []
  have h3 : ∀ f : Fin 64 → EReal, (∀ p : Fin 512, q (ix3 0 3 p) = f ⟨p.val % 64, by omega⟩) → ∀ p : Fin 512,
      View.ld q (Rect.unit ![0, 3, 0] ![1, 1, 512] inb_S1x4x512_S1x1x512_0_3_0) (ix3 0 0 p) = f ⟨p.val % 64, by omega⟩ := fun f hf p => by
    refine Eq.trans ?_ (hf p)
    pointwise []
  replace hcos : ∀ r (i : Fin 128), View.ld rope (Rect.unit ![0, 0] ![512, 128] inb_S512x384_S512x128_0_0) (ix2 r i) = _ := fun r i => by
    refine Eq.trans ?_ (hcos r i)
    pointwise []
  replace hup : ∀ r (i : Fin 128), View.ld rope (Rect.unit ![0, 128] ![512, 128] inb_S512x384_S512x128_0_128) (ix2 r i) = _ := fun r i => by
    refine Eq.trans ?_ (hup r i)
    pointwise []
  replace hdown : ∀ r (i : Fin 128), View.ld rope (Rect.unit ![0, 256] ![512, 128] inb_S512x384_S512x128_0_256) (ix2 r i) = _ := fun r i => by
    refine Eq.trans ?_ (hdown r i)
    pointwise []
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, fun _ h => absurd h List.not_mem_nil⟩⟩⟩⟩⟩⟩
  · intro y
    obtain ⟨r, p, rfl⟩ : ∃ r p : Fin 512, y = ix2 r p := ⟨y 0, y 1, by funext a; match a with | ⟨0, _⟩ => rfl | ⟨1, _⟩ => rfl⟩
    refine (vals_apply x g (View.ld w (Rect.unit ![0, 0, 2560] ![1, 1024, 512] inb_S1x1024x3072_S1x1024x512_0_0_2560)) r p).trans ?_
    refine Eq.trans ?_ (congrArg (rows x g w qd kd qn kn c s) (emb_col 2560 (by decide) inb_S512x3072_S512x512_0_2560 r p).symm)
    have hw : ∀ e : Fin 64, (fun k => View.ld w (Rect.unit ![0, 0, 2560] ![1, 1024, 512] inb_S1x1024x3072_S1x1024x512_0_0_2560) (ix3 0 k ⟨p.val / 64 * 64 + e.val, by omega⟩))
        = fun k => w (ix3 0 k ⟨(2560 + p.val) / 64 * 64 + e.val, by omega⟩) := fun e => by
      funext k
      have : (⟨(2560 + p.val) / 64 * 64 + e.val, by omega⟩ : Fin 3072) = ⟨2560 + (p.val / 64 * 64 + e.val), by omega⟩ := Fin.ext (by
        show (2560 + p.val) / 64 * 64 + e.val = 2560 + (p.val / 64 * 64 + e.val); omega)
      rw [this]
      pointwise []
    have hd : (⟨(2560 + p.val) % 64, by omega⟩ : Fin 64) = ⟨p.val % 64, by omega⟩ := Fin.ext (by show (2560 + p.val) % 64 = p.val % 64; omega)
    show _ = heads (fun i => x (ix2 r i)) (fun i => g (ix3 0 0 i)) (fun k j => w (ix3 0 k j)) qd kd qn kn (c r) (s r) (fun v => v * qscale) (⟨2560 + p.val, by omega⟩ : Fin 3072)
    unfold heads
    dsimp only
    rw [if_neg (by omega)]
    rw [if_neg (by omega)]
    rw [if_neg (by omega)]
    rw [if_neg (by omega)]
    rw [if_neg (by omega)]
    refine Eq.trans ?_ (congrArg (proj (fun i => x (ix2 r i)) (fun i => g (ix3 0 0 i))) (hw ⟨(2560 + p.val) % 64, by omega⟩))
    have hp : p = ⟨p.val / 64 * 64 + (2560 + p.val) % 64, by omega⟩ := Fin.ext (by
      show p.val = p.val / 64 * 64 + (2560 + p.val) % 64; omega)
    exact congrArg (fun i => proj (fun i => x (ix2 r i)) (fun i => g (ix3 0 0 i)) fun k =>
      View.ld w (Rect.unit ![0, 0, 2560] ![1, 1024, 512] inb_S1x1024x3072_S1x1024x512_0_0_2560) (ix3 0 k i)) hp
  · intro y
    obtain ⟨r, p, rfl⟩ : ∃ r p : Fin 512, y = ix2 r p := ⟨y 0, y 1, by funext a; match a with | ⟨0, _⟩ => rfl | ⟨1, _⟩ => rfl⟩
    refine (nk_apply x g (View.ld w (Rect.unit ![0, 0, 2048] ![1, 1024, 512] inb_S1x1024x3072_S1x1024x512_0_0_2048)) b (View.ld q (Rect.unit ![0, 3, 0] ![1, 1, 512] inb_S1x4x512_S1x1x512_0_3_0)) r p kn hb (h3 kn hkn)).trans ?_
    refine Eq.trans ?_ (congrArg (rows x g w qd kd qn kn c s) (emb_col 2048 (by decide) inb_S512x3072_S512x512_0_2048 r p).symm)
    have hw : ∀ e : Fin 64, (fun k => View.ld w (Rect.unit ![0, 0, 2048] ![1, 1024, 512] inb_S1x1024x3072_S1x1024x512_0_0_2048) (ix3 0 k ⟨p.val / 64 * 64 + e.val, by omega⟩))
        = fun k => w (ix3 0 k ⟨(2048 + p.val) / 64 * 64 + e.val, by omega⟩) := fun e => by
      funext k
      have : (⟨(2048 + p.val) / 64 * 64 + e.val, by omega⟩ : Fin 3072) = ⟨2048 + (p.val / 64 * 64 + e.val), by omega⟩ := Fin.ext (by
        show (2048 + p.val) / 64 * 64 + e.val = 2048 + (p.val / 64 * 64 + e.val); omega)
      rw [this]
      pointwise []
    have hd : (⟨(2048 + p.val) % 64, by omega⟩ : Fin 64) = ⟨p.val % 64, by omega⟩ := Fin.ext (by show (2048 + p.val) % 64 = p.val % 64; omega)
    show _ = heads (fun i => x (ix2 r i)) (fun i => g (ix3 0 0 i)) (fun k j => w (ix3 0 k j)) qd kd qn kn (c r) (s r) (fun v => v * qscale) (⟨2048 + p.val, by omega⟩ : Fin 3072)
    unfold heads
    dsimp only
    simp only [hw, hd]
    rw [if_neg (by omega)]
    rw [if_neg (by omega)]
    rw [if_neg (by omega)]
    rw [if_neg (by omega)]
    rw [if_pos (by omega)]
  · intro y
    obtain ⟨r, p, rfl⟩ : ∃ r p : Fin 512, y = ix2 r p := ⟨y 0, y 1, by funext a; match a with | ⟨0, _⟩ => rfl | ⟨1, _⟩ => rfl⟩
    refine (nq_apply x g (View.ld w (Rect.unit ![0, 0, 1536] ![1, 1024, 512] inb_S1x1024x3072_S1x1024x512_0_0_1536)) b (View.ld q (Rect.unit ![0, 2, 0] ![1, 1, 512] inb_S1x4x512_S1x1x512_0_2_0)) r p qn hb (h2 qn hqn)).trans ?_
    refine Eq.trans ?_ (congrArg (rows x g w qd kd qn kn c s) (emb_col 1536 (by decide) inb_S512x3072_S512x512_0_1536 r p).symm)
    have hw : ∀ e : Fin 64, (fun k => View.ld w (Rect.unit ![0, 0, 1536] ![1, 1024, 512] inb_S1x1024x3072_S1x1024x512_0_0_1536) (ix3 0 k ⟨p.val / 64 * 64 + e.val, by omega⟩))
        = fun k => w (ix3 0 k ⟨(1536 + p.val) / 64 * 64 + e.val, by omega⟩) := fun e => by
      funext k
      have : (⟨(1536 + p.val) / 64 * 64 + e.val, by omega⟩ : Fin 3072) = ⟨1536 + (p.val / 64 * 64 + e.val), by omega⟩ := Fin.ext (by
        show (1536 + p.val) / 64 * 64 + e.val = 1536 + (p.val / 64 * 64 + e.val); omega)
      rw [this]
      pointwise []
    have hd : (⟨(1536 + p.val) % 64, by omega⟩ : Fin 64) = ⟨p.val % 64, by omega⟩ := Fin.ext (by show (1536 + p.val) % 64 = p.val % 64; omega)
    show _ = heads (fun i => x (ix2 r i)) (fun i => g (ix3 0 0 i)) (fun k j => w (ix3 0 k j)) qd kd qn kn (c r) (s r) (fun v => v * qscale) (⟨1536 + p.val, by omega⟩ : Fin 3072)
    unfold heads
    dsimp only
    simp only [hw, hd]
    rw [if_neg (by omega)]
    rw [if_neg (by omega)]
    rw [if_neg (by omega)]
    rw [if_pos (by omega)]
  · intro y
    obtain ⟨r, p, rfl⟩ : ∃ r p : Fin 512, y = ix2 r p := ⟨y 0, y 1, by funext a; match a with | ⟨0, _⟩ => rfl | ⟨1, _⟩ => rfl⟩
    refine (vals_apply x g (View.ld w (Rect.unit ![0, 0, 1024] ![1, 1024, 512] inb_S1x1024x3072_S1x1024x512_0_0_1024)) r p).trans ?_
    refine Eq.trans ?_ (congrArg (rows x g w qd kd qn kn c s) (emb_col 1024 (by decide) inb_S512x3072_S512x512_0_1024 r p).symm)
    have hw : ∀ e : Fin 64, (fun k => View.ld w (Rect.unit ![0, 0, 1024] ![1, 1024, 512] inb_S1x1024x3072_S1x1024x512_0_0_1024) (ix3 0 k ⟨p.val / 64 * 64 + e.val, by omega⟩))
        = fun k => w (ix3 0 k ⟨(1024 + p.val) / 64 * 64 + e.val, by omega⟩) := fun e => by
      funext k
      have : (⟨(1024 + p.val) / 64 * 64 + e.val, by omega⟩ : Fin 3072) = ⟨1024 + (p.val / 64 * 64 + e.val), by omega⟩ := Fin.ext (by
        show (1024 + p.val) / 64 * 64 + e.val = 1024 + (p.val / 64 * 64 + e.val); omega)
      rw [this]
      pointwise []
    have hd : (⟨(1024 + p.val) % 64, by omega⟩ : Fin 64) = ⟨p.val % 64, by omega⟩ := Fin.ext (by show (1024 + p.val) % 64 = p.val % 64; omega)
    show _ = heads (fun i => x (ix2 r i)) (fun i => g (ix3 0 0 i)) (fun k j => w (ix3 0 k j)) qd kd qn kn (c r) (s r) (fun v => v * qscale) (⟨1024 + p.val, by omega⟩ : Fin 3072)
    unfold heads
    dsimp only
    rw [if_neg (by omega)]
    rw [if_neg (by omega)]
    rw [if_pos (by omega)]
    refine Eq.trans ?_ (congrArg (proj (fun i => x (ix2 r i)) (fun i => g (ix3 0 0 i))) (hw ⟨(1024 + p.val) % 64, by omega⟩))
    have hp : p = ⟨p.val / 64 * 64 + (1024 + p.val) % 64, by omega⟩ := Fin.ext (by
      show p.val = p.val / 64 * 64 + (1024 + p.val) % 64; omega)
    exact congrArg (fun i => proj (fun i => x (ix2 r i)) (fun i => g (ix3 0 0 i)) fun k =>
      View.ld w (Rect.unit ![0, 0, 1024] ![1, 1024, 512] inb_S1x1024x3072_S1x1024x512_0_0_1024) (ix3 0 k i)) hp
  · intro y
    obtain ⟨r, p, rfl⟩ : ∃ r p : Fin 512, y = ix2 r p := ⟨y 0, y 1, by funext a; match a with | ⟨0, _⟩ => rfl | ⟨1, _⟩ => rfl⟩
    refine (dk_apply x g (View.ld w (Rect.unit ![0, 0, 512] ![1, 1024, 512] inb_S1x1024x3072_S1x1024x512_0_0_512)) b (View.ld q (Rect.unit ![0, 1, 0] ![1, 1, 512] inb_S1x4x512_S1x1x512_0_1_0)) (View.ld rope (Rect.unit ![0, 0] ![512, 128] inb_S512x384_S512x128_0_0)) (View.ld rope (Rect.unit ![0, 128] ![512, 128] inb_S512x384_S512x128_0_128)) (View.ld rope (Rect.unit ![0, 256] ![512, 128] inb_S512x384_S512x128_0_256)) r p kd (c r) (s r) hb (h1 kd hkd) (hcos r) (hup r) (hdown r)).trans ?_
    refine Eq.trans ?_ (congrArg (rows x g w qd kd qn kn c s) (emb_col 512 (by decide) inb_S512x3072_S512x512_0_512 r p).symm)
    have hw : ∀ e : Fin 64, (fun k => View.ld w (Rect.unit ![0, 0, 512] ![1, 1024, 512] inb_S1x1024x3072_S1x1024x512_0_0_512) (ix3 0 k ⟨p.val / 64 * 64 + e.val, by omega⟩))
        = fun k => w (ix3 0 k ⟨(512 + p.val) / 64 * 64 + e.val, by omega⟩) := fun e => by
      funext k
      have : (⟨(512 + p.val) / 64 * 64 + e.val, by omega⟩ : Fin 3072) = ⟨512 + (p.val / 64 * 64 + e.val), by omega⟩ := Fin.ext (by
        show (512 + p.val) / 64 * 64 + e.val = 512 + (p.val / 64 * 64 + e.val); omega)
      rw [this]
      pointwise []
    have hd : (⟨(512 + p.val) % 64, by omega⟩ : Fin 64) = ⟨p.val % 64, by omega⟩ := Fin.ext (by show (512 + p.val) % 64 = p.val % 64; omega)
    show _ = heads (fun i => x (ix2 r i)) (fun i => g (ix3 0 0 i)) (fun k j => w (ix3 0 k j)) qd kd qn kn (c r) (s r) (fun v => v * qscale) (⟨512 + p.val, by omega⟩ : Fin 3072)
    unfold heads
    dsimp only
    simp only [hw, hd]
    rw [if_neg (by omega)]
    rw [if_pos (by omega)]
  · intro y
    obtain ⟨r, p, rfl⟩ : ∃ r p : Fin 512, y = ix2 r p := ⟨y 0, y 1, by funext a; match a with | ⟨0, _⟩ => rfl | ⟨1, _⟩ => rfl⟩
    refine (dq_apply x g (View.ld w (Rect.unit ![0, 0, 0] ![1, 1024, 512] inb_S1x1024x3072_S1x1024x512_0_0_0)) b (View.ld q (Rect.unit ![0, 0, 0] ![1, 1, 512] inb_S1x4x512_S1x1x512_0_0_0)) (View.ld rope (Rect.unit ![0, 0] ![512, 128] inb_S512x384_S512x128_0_0)) (View.ld rope (Rect.unit ![0, 128] ![512, 128] inb_S512x384_S512x128_0_128)) (View.ld rope (Rect.unit ![0, 256] ![512, 128] inb_S512x384_S512x128_0_256)) r p qd (c r) (s r) hb (h0 qd hqd) (hcos r) (hup r) (hdown r)).trans ?_
    refine Eq.trans ?_ (congrArg (rows x g w qd kd qn kn c s) (emb_col 0 (by decide) inb_S512x3072_S512x512_0_0 r p).symm)
    have hw : ∀ e : Fin 64, (fun k => View.ld w (Rect.unit ![0, 0, 0] ![1, 1024, 512] inb_S1x1024x3072_S1x1024x512_0_0_0) (ix3 0 k ⟨p.val / 64 * 64 + e.val, by omega⟩))
        = fun k => w (ix3 0 k ⟨(0 + p.val) / 64 * 64 + e.val, by omega⟩) := fun e => by
      funext k
      have : (⟨(0 + p.val) / 64 * 64 + e.val, by omega⟩ : Fin 3072) = ⟨0 + (p.val / 64 * 64 + e.val), by omega⟩ := Fin.ext (by
        show (0 + p.val) / 64 * 64 + e.val = 0 + (p.val / 64 * 64 + e.val); omega)
      rw [this]
      pointwise []
    have hd : (⟨(0 + p.val) % 64, by omega⟩ : Fin 64) = ⟨p.val % 64, by omega⟩ := Fin.ext (by show (0 + p.val) % 64 = p.val % 64; omega)
    show _ = heads (fun i => x (ix2 r i)) (fun i => g (ix3 0 0 i)) (fun k j => w (ix3 0 k j)) qd kd qn kn (c r) (s r) (fun v => v * qscale) (⟨0 + p.val, by omega⟩ : Fin 3072)
    unfold heads
    dsimp only
    simp only [hw, hd]
    rw [if_pos (by omega)]
end

end Cert.Kernel2Ideal.InProj

end
-- ==== Proof.Kernel2IdealOutput.lean ====
/- The first output array of the idealized `in_proj` kernel after its run: at every row the heads of that row of the
   activations, with the layer's gains and matrix and the angles of the row's position. -/
module

public import proofs.«01_k».proof.Proof.Kernel2IdealBlocks
public import proofs.«01_k».proof.Proof.Kernel2IdealConst
public import proofs.«01_k».proof.Proof.Kernel2IdealHost
public import proofs.«01_k».proof.Proof.Kernel2IdealValue

@[expose] public section

set_option maxRecDepth 16384

noncomputable section

namespace Cert.Kernel2Ideal.InProj

open Cert.Kernel2Ideal.Gen Cert.Heads
open Idealize.ShloMosaic Idealize.ShloMosaic.TcCoe Idealize.ShloMosaic.Tactic
open Idealize.ShloMosaic.Pipeline (Dat Cfg Window)

variable (m : (ℓ : Loc nD τ sig) → Buf (Elt Ideal) ℓ)

abbrev arg0 (c : Dev nD) : FVec Ideal S32768x1024 .f32 := m ((c : Thread nD τ).loc main_arg0)
abbrev arg1 (c : Dev nD) : FVec Ideal S16384x1024 .f32 := m ((c : Thread nD τ).loc main_arg1)
abbrev arg3 (c : Dev nD) : FVec Ideal S4x1024 .f32 := m ((c : Thread nD τ).loc main_arg3)
abbrev arg4 (c : Dev nD) : FVec Ideal S4x1024x3072 .f32 := m ((c : Thread nD τ).loc main_arg4)
abbrev arg5 (c : Dev nD) : FVec Ideal S4x64 .f32 := m ((c : Thread nD τ).loc main_arg5)
abbrev arg6 (c : Dev nD) : FVec Ideal S4x64 .f32 := m ((c : Thread nD τ).loc main_arg6)
abbrev arg7 (c : Dev nD) : FVec Ideal S4x64 .f32 := m ((c : Thread nD τ).loc main_arg7)
abbrev arg8 (c : Dev nD) : FVec Ideal S4x64 .f32 := m ((c : Thread nD τ).loc main_arg8)

/-- An element of the output by the arguments: the heads of its row. -/
def spec (c : Dev nD) (L : Fin 4) (r : Fin 49152) (j : Fin 3072) : EReal :=
  heads (rowOf (fun r k => arg0 m c (ix2 r k)) (fun r k => arg1 m c (ix2 r k)) r) (fun k => arg3 m c (ix2 L k))
    (fun k j => arg4 m c (ix3 L k j)) (fun d => arg5 m c (ix2 L d)) (fun d => arg6 m c (ix2 L d)) (fun d => arg7 m c (ix2 L d))
    (fun d => arg8 m c (ix2 L d)) (fun i => Ideal.cos (angle (r.val % 16384) i.val)) (fun i => Ideal.sin (angle (r.val % 16384) i.val))
    (fun v => v * qscale) j

theorem ofBits_zero : Ideal.ofBits .bf16 0#16 = 0 := by simp [Ideal.ofBits, Ideal.ieee]

variable (hO : Ok m) (c : Dev nD) (t : Fin (cfgM m hO).N)

theorem const_apply (k l : Fin 256) : (iblk m hO c 5 t (ix2 k l) : EReal) = if k.val / 64 = l.val / 64 then Ideal.ofBits .bf16 0x3C80#16 else 0 := by
  refine (iblk_5 m hO c t (ix2 k l)).trans ((V_cst m c k l).trans ?_)
  rw [lit0_eq]
  split
  · rfl
  · exact ofBits_zero

theorem rope_apply (b : Fin 512) (i : Fin 384) : (iblk m hO c 6 t (ix2 b i) : EReal)
      = if i.val < 128 then cosAt (fun k => Ideal.cos (angle (t.val % 32 * 512 + b.val) k.val)) ⟨i.val % 64, by omega⟩
        else if i.val < 256 then upAt (fun k => Ideal.sin (angle (t.val % 32 * 512 + b.val) k.val)) ⟨i.val % 64, by omega⟩
        else downAt (fun k => Ideal.sin (angle (t.val % 32 * 512 + b.val) k.val)) ⟨i.val % 64, by omega⟩ :=
  (iblk_6 m hO c t (ix2 b i) (ix2 ⟨t.val % 32 * 512 + b.val, by omega⟩ i) rfl rfl).trans (V_rope m c _ i)

variable (L : Fin 4) (hl : (layer (F := Ideal) (tbl m 0)).toNat = L.val)

include hl in
/-- What a point's stores put down, whichever rows `x` it reads. -/
theorem stores_value (x : Vec Ideal S512x1024 .f32) :
    ∀ pc ∈ stores x (iblk m hO c 2 t) (iblk m hO c 3 t) (iblk m hO c 4 t) (iblk m hO c 5 t) (iblk m hO c 6 t), ∀ y : pc.1.shape.Idx,
      pc.2 y = rows x (iblk m hO c 2 t) (iblk m hO c 3 t) (fun d => arg5 m c (ix2 L d)) (fun d => arg6 m c (ix2 L d)) (fun d => arg7 m c (ix2 L d))
        (fun d => arg8 m c (ix2 L d)) (fun b k => Ideal.cos (angle (t.val % 32 * 512 + b.val) k.val))
        (fun b k => Ideal.sin (angle (t.val % 32 * 512 + b.val) k.val)) (pc.1.emb y) := by
  refine stores_apply x (iblk m hO c 2 t) (iblk m hO c 3 t) (iblk m hO c 4 t) (iblk m hO c 5 t) (iblk m hO c 6 t) _ _ _ _ _ _
    (const_apply m hO c t) (fun p => ?_) (fun p => ?_) (fun p => ?_) (fun p => ?_) (fun b i => ?_) (fun b i => ?_) fun b i => ?_
  · exact (iblk_4 m hO c t (ix3 0 0 p) (ix3 L 0 p) hl.symm rfl rfl).trans (V_g0 m c L p)
  · exact (iblk_4 m hO c t (ix3 0 1 p) (ix3 L 1 p) hl.symm rfl rfl).trans (V_g1 m c L p)
  · exact (iblk_4 m hO c t (ix3 0 2 p) (ix3 L 2 p) hl.symm rfl rfl).trans (V_g2 m c L p)
  · exact (iblk_4 m hO c t (ix3 0 3 p) (ix3 L 3 p) hl.symm rfl rfl).trans (V_g3 m c L p)
  · refine (rope_apply m hO c t b ⟨i.val, by omega⟩).trans ?_
    rw [if_pos (show i.val < 128 by omega)]
  · refine (rope_apply m hO c t b ⟨128 + i.val, by omega⟩).trans ?_
    rw [if_neg (show ¬128 + i.val < 128 by omega), if_pos (show 128 + i.val < 256 by omega)]
    exact congrArg (upAt _) (Fin.ext (by show (128 + i.val) % 64 = i.val % 64; omega))
  · refine (rope_apply m hO c t b ⟨256 + i.val, by omega⟩).trans ?_
    rw [if_neg (show ¬256 + i.val < 128 by omega), if_neg (show ¬256 + i.val < 256 by omega)]
    exact congrArg (downAt _) (Fin.ext (by show (256 + i.val) % 64 = i.val % 64; omega))

theorem heads_congr {x x' g g' : Fin 1024 → EReal} {w w' : Fin 1024 → Fin 3072 → EReal} {c c' s s' : Fin 8 → EReal} (qd kd qn kn : Fin 64 → EReal)
    (f : EReal → EReal) (hx : x = x') (hg : g = g') (hw : w = w') (hc : c = c') (hs : s = s') (j : Fin 3072) :
    heads x g w qd kd qn kn c s f j = heads x' g' w' qd kd qn kn c' s' f j := by
  subst hx hg hw hc hs; rfl

include hl in
theorem rows_value (x : Vec Ideal S512x1024 .f32) (y : S512x3072.Idx) (r : Fin 49152) (hr : r.val = t.val * 512 + (y 0).val)
    (hx : ∀ k : Fin 1024, (x (ix2 (y 0 : Fin 512) k) : EReal) = rowOf (fun r k => arg0 m c (ix2 r k)) (fun r k => arg1 m c (ix2 r k)) r k) :
    rows x (iblk m hO c 2 t) (iblk m hO c 3 t) (fun d => arg5 m c (ix2 L d)) (fun d => arg6 m c (ix2 L d)) (fun d => arg7 m c (ix2 L d))
        (fun d => arg8 m c (ix2 L d)) (fun b k => Ideal.cos (angle (t.val % 32 * 512 + b.val) k.val))
        (fun b k => Ideal.sin (angle (t.val % 32 * 512 + b.val) k.val)) y
      = spec m c L r (y 1) := by
  have hy : (y 0).val < 512 := (y 0).isLt
  have ht : t.val < 96 := t.isLt
  have hp : t.val % 32 * 512 + (y 0).val = r.val % 16384 := by omega
  refine heads_congr _ _ _ _ _ (funext hx) (funext fun k => ?_) (funext fun k => funext fun j => ?_) (funext fun k => ?_) (funext fun k => ?_) _
  · exact (iblk_2 m hO c t (ix3 0 0 k) (ix3 L 0 k) hl.symm rfl rfl).trans (V_ln m c L k)
  · exact (iblk_3 m hO c t (ix3 0 k j) (ix3 L k j) hl.symm rfl rfl).trans (V_w m c L k j)
  · exact congrArg (fun p => Ideal.cos (angle p k.val)) hp
  · exact congrArg (fun p => Ideal.sin (angle p k.val)) hp

include hl in
/-- The block that a point writes, at an element. -/
theorem out7_apply (y : S512x3072.Idx) (r : Fin 49152) (hr : r.val = t.val * 512 + (y 0).val) :
    (out7 m hO c t y : EReal) = spec m c L r (y 1) := by
  have hy : (y 0).val < 512 := (y 0).isLt
  have ht : t.val < 96 := t.isLt
  by_cases h : t.val < 64
  · obtain ⟨pc, hpc, hmem⟩ := tiles7_A m hO c t h y
    have e : (runA m hO c t h).1 = stores (iblk m hO c 0 t) (iblk m hO c 2 t) (iblk m hO c 3 t) (iblk m hO c 4 t) (iblk m hO c 5 t) (iblk m hO c 6 t) :=
      stores_A _ _ _ _ _ _ _ _ _ _ _ _ _ _ _ _ _ _ _ _ _ _ _ _ _ _ _ _ _ _ _ _ _ _
    refine (congrFun (out7_A m hO c t h) y).trans ?_
    refine (congrFun (View.read_writes_junk_eq_canon _ _) y).trans ?_
    refine (View.canon_apply_of_pieces _ _ (fun p hp => stores_value m hO c t L hl (iblk m hO c 0 t) p (e ▸ hp)) y ⟨pc, hpc, hmem⟩).trans ?_
    refine rows_value m hO c t L hl _ y r hr fun k => ?_
    have hr' : r.val < 32768 := by omega
    refine (iblk_0 m hO c t (ix2 (y 0 : Fin 512) k) (ix2 ⟨r.val, hr'⟩ k) h hr rfl).trans ?_
    refine (congrFun (V_main_arg0 m c) _).trans ?_
    unfold rowOf
    rw [dif_pos hr']
  · obtain ⟨pc, hpc, hmem⟩ := tiles7_B m hO c t h y
    have e : (runB m hO c t h).1 = stores (iblk m hO c 1 t) (iblk m hO c 2 t) (iblk m hO c 3 t) (iblk m hO c 4 t) (iblk m hO c 5 t) (iblk m hO c 6 t) :=
      stores_B _ _ _ _ _ _ _ _ _ _ _ _ _ _ _ _ _ _ _ _ _ _ _ _ _ _ _ _ _ _ _ _ _ _
    refine (congrFun (out7_B m hO c t h) y).trans ?_
    refine (congrFun (View.read_writes_junk_eq_canon _ _) y).trans ?_
    refine (View.canon_apply_of_pieces _ _ (fun p hp => stores_value m hO c t L hl (iblk m hO c 1 t) p (e ▸ hp)) y ⟨pc, hpc, hmem⟩).trans ?_
    refine rows_value m hO c t L hl _ y r hr fun k => ?_
    have hr' : ¬r.val < 32768 := by omega
    refine (iblk_1 m hO c t (ix2 (y 0 : Fin 512) k) (ix2 ⟨r.val - 32768, by omega⟩ k)
      (by show r.val - 32768 = (t.val - 64) * 512 + (y 0).val; omega) rfl).trans ?_
    refine (congrFun (V_main_arg1 m c) _).trans ?_
    unfold rowOf
    rw [dif_neg hr']

omit t
include hl in
/-- The output array after the run, at an element. -/
theorem arrAt_apply (r : Fin 49152) (j : Fin 3072) :
    ((dats m hO 0 c).arrAt 7 (cfgM m hO).N (ix2 r j : S49152x3072.Idx) : EReal) = spec m c L r j := by
  let P : S49152x3072.Idx → EReal → Prop := fun y v => ∀ (r : Fin 49152) (j : Fin 3072), y = ix2 r j → v = spec m c L r j
  have hr := r.isLt
  let t : Fin (cfgM m hO).N := ⟨r.val / 512, by show r.val / 512 < 96; omega⟩
  have hmem : (ix2 r j : S49152x3072.Idx) ∈ (((cfgM m hO).win 7).blk t).view.set := by
    have e := emb_7 m hO t (ix2 ⟨r.val % 512, by omega⟩ j) (ix2 r j) (by show r.val = r.val / 512 * 512 + r.val % 512; omega) rfl
    rw [← e]
    exact View.emb_mem_set _ _
  refine (dats m hO 0 c).arrAt_forall_of_flushed 7 P ?_ (cfgM m hO).N t _ t.isLt (flush0_7 _ t) hmem r j rfl
  have key : ∀ (t' : Fin (cfgM m hO).N) (y : S512x3072.Idx), P ((((cfgM m hO).win 7).blk t').view.emb y) (out7 m hO c t' y) := by
    intro t' y r' j' hy
    have ht' : t'.val < 96 := t'.isLt
    have hb : (y 0).val < 512 := (y 0).isLt
    have e := (emb_7 m hO t' y (ix2 ⟨t'.val * 512 + (y 0).val, by omega⟩ (y 1)) rfl rfl).symm.trans hy
    have hr' : r'.val = t'.val * 512 + (y 0).val := (congrArg (fun q : S49152x3072.Idx => (q 0).val) e).symm
    have hj' : (y 1 : Fin 3072) = j' := congrArg (fun q : S49152x3072.Idx => q 1) e
    exact (out7_apply m hO c t' L hl y r' hr').trans (congrArg (spec m c L r') hj')
  exact fun t' _ y => (Eq.to_iff (congrArg (P _) (congrFun (after_7 m hO c t') y))).mpr (key t' y)

end Cert.Kernel2Ideal.InProj

end
-- ==== Proof.Reference2IdealValue.lean ====
/- What the reference of the input projection computes: at every row the heads of the row, under the weights of the layer. -/
module

public import proofs.«01_k».proof.Proof.Gen.Reference2Ideal.Run
public import proofs.«01_k».proof.Proof.Heads

@[expose] public section

set_option maxRecDepth 16384

noncomputable section

namespace Cert.Reference2Ideal.InProj

open Cert.Reference2Ideal Cert.Reference2Ideal.Gen Cert.Reference2Ideal.Value Cert.Heads
open Idealize.ShloMosaic Idealize.ShloMosaic.TcCoe
open Idealize.SL.Sem

/-- The dimension numbers of taking one vector of a stack. -/
abbrev vecDims (A B : Nat) (wf : GatherDims.WF ⟨2, ![A, B]⟩ ⟨1, ![1]⟩ ⟨1, ![B]⟩ [0] [0] [] [0] [] 0 ![1, B]) :
    GatherDims ⟨2, ![A, B]⟩ ⟨1, ![1]⟩ ⟨1, ![B]⟩ where
  offsetDims := [0]
  collapsedSliceDims := [0]
  operandBatchingDims := []
  startIndicesBatchingDims := []
  startIndexMap := [0]
  indexVectorDim := 0
  sliceSizes := ![1, B]
  wf := wf

/-- One vector of a stack: its entries are the stack's under the index, when the index is one of the stack's. -/
theorem vec_apply {α : Type} {A B : Nat} (wf : GatherDims.WF ⟨2, ![A, B]⟩ ⟨1, ![1]⟩ ⟨1, ![B]⟩ [0] [0] [] [0] [] 0 ![1, B])
    (x : (⟨2, ![A, B]⟩ : Shape).Idx → α) (idx : IVec ⟨1, ![1]⟩ 32) (a : Fin A) (hA : A < 2 ^ 31)
    (h : (idx (ix1 0)).toNat = a.val) (b : Fin B) :
    Host.gather (vecDims A B wf) x idx (ix1 b) = x (ix2 a b) := by
  unfold Host.gather
  refine congrArg x (funext fun k => Fin.ext ?_)
  show (vecDims A B wf).start (ix1 b) idx k + (vecDims A B wf).batchCoord (ix1 b) k + (vecDims A B wf).offCoord (ix1 b) k = _
  rw [GatherDims.batchCoord_eq_zero _ _ _ List.not_mem_nil]
  match k with
  | ⟨0, _⟩ =>
    have hk : (0 : Fin 2) ∈ (vecDims A B wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    refine (dif_pos hk).trans ?_
    have hsi : (vecDims A B wf).siIdx (ix1 b) ⟨List.idxOf (0 : Fin 2) (vecDims A B wf).startIndexMap, List.idxOf_lt_length_iff.2 hk⟩ = ix1 0 := by
      funext q; refine Fin.ext ?_
      match q with
      | ⟨0, _⟩ => rfl
    refine (congrArg (fun q => min (idx q).toInt.toNat (A - 1)) hsi).trans ?_
    have := a.isLt
    show min (idx (ix1 0)).toInt.toNat (A - 1) = a.val
    rw [BitVec.toInt_eq_toNat_of_lt (by omega), h]
    omega
  | ⟨1, _⟩ =>
    have hk : (1 : Fin 2) ∉ (vecDims A B wf).startIndexMap := fun h => absurd (congrArg Fin.val (List.mem_singleton.mp h)) (by show ¬(1 : ℕ) = 0; decide)
    have ho : (1 : Fin 2) ∈ (vecDims A B wf).sKept := (GatherDims.mem_sKept _ _).mpr ⟨fun h => absurd (congrArg Fin.val (List.mem_singleton.mp h)) (by show ¬(1 : ℕ) = 0; decide), List.not_mem_nil⟩
    unfold GatherDims.start GatherDims.offCoord
    refine (congrArg₂ (fun p q => p + 0 + q) (dif_neg hk) (dif_pos ho)).trans ?_
    exact (Nat.zero_add _).trans rfl

/-- The dimension numbers of taking one matrix of a stack. -/
abbrev matDims (A B C : Nat) (wf : GatherDims.WF ⟨3, ![A, B, C]⟩ ⟨1, ![1]⟩ ⟨2, ![B, C]⟩ [0, 1] [0] [] [0] [] 0 ![1, B, C]) :
    GatherDims ⟨3, ![A, B, C]⟩ ⟨1, ![1]⟩ ⟨2, ![B, C]⟩ where
  offsetDims := [0, 1]
  collapsedSliceDims := [0]
  operandBatchingDims := []
  startIndicesBatchingDims := []
  startIndexMap := [0]
  indexVectorDim := 0
  sliceSizes := ![1, B, C]
  wf := wf

/-- One matrix of a stack: its entries are the stack's under the index, when the index is one of the stack's. -/
theorem mat_apply {α : Type} {A B C : Nat} (wf : GatherDims.WF ⟨3, ![A, B, C]⟩ ⟨1, ![1]⟩ ⟨2, ![B, C]⟩ [0, 1] [0] [] [0] [] 0 ![1, B, C])
    (x : (⟨3, ![A, B, C]⟩ : Shape).Idx → α) (idx : IVec ⟨1, ![1]⟩ 32) (a : Fin A) (hA : A < 2 ^ 31)
    (h : (idx (ix1 0)).toNat = a.val) (b : Fin B) (c : Fin C) :
    Host.gather (matDims A B C wf) x idx (ix2 b c) = x (ix3 a b c) := by
  unfold Host.gather
  refine congrArg x (funext fun k => Fin.ext ?_)
  show (matDims A B C wf).start (ix2 b c) idx k + (matDims A B C wf).batchCoord (ix2 b c) k + (matDims A B C wf).offCoord (ix2 b c) k = _
  rw [GatherDims.batchCoord_eq_zero _ _ _ List.not_mem_nil]
  match k with
  | ⟨0, _⟩ =>
    have hk : (0 : Fin 3) ∈ (matDims A B C wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    refine (dif_pos hk).trans ?_
    have hsi : (matDims A B C wf).siIdx (ix2 b c) ⟨List.idxOf (0 : Fin 3) (matDims A B C wf).startIndexMap, List.idxOf_lt_length_iff.2 hk⟩ = ix1 0 := by
      funext q; refine Fin.ext ?_
      match q with
      | ⟨0, _⟩ => rfl
    refine (congrArg (fun q => min (idx q).toInt.toNat (A - 1)) hsi).trans ?_
    have := a.isLt
    show min (idx (ix1 0)).toInt.toNat (A - 1) = a.val
    rw [BitVec.toInt_eq_toNat_of_lt (by omega), h]
    omega
  | ⟨1, _⟩ =>
    have hk : (1 : Fin 3) ∉ (matDims A B C wf).startIndexMap := fun h => absurd (congrArg Fin.val (List.mem_singleton.mp h)) (by show ¬(1 : ℕ) = 0; decide)
    have ho : (1 : Fin 3) ∈ (matDims A B C wf).sKept := (GatherDims.mem_sKept _ _).mpr ⟨fun h => absurd (congrArg Fin.val (List.mem_singleton.mp h)) (by show ¬(1 : ℕ) = 0; decide), List.not_mem_nil⟩
    unfold GatherDims.start GatherDims.offCoord
    refine (congrArg₂ (fun p q => p + 0 + q) (dif_neg hk) (dif_pos ho)).trans ?_
    exact (Nat.zero_add _).trans rfl
  | ⟨2, _⟩ =>
    have hk : (2 : Fin 3) ∉ (matDims A B C wf).startIndexMap := fun h => absurd (congrArg Fin.val (List.mem_singleton.mp h)) (by show ¬(2 : ℕ) = 0; decide)
    have ho : (2 : Fin 3) ∈ (matDims A B C wf).sKept := (GatherDims.mem_sKept _ _).mpr ⟨fun h => absurd (congrArg Fin.val (List.mem_singleton.mp h)) (by show ¬(2 : ℕ) = 0; decide), List.not_mem_nil⟩
    unfold GatherDims.start GatherDims.offCoord
    refine (congrArg₂ (fun p q => p + 0 + q) (dif_neg hk) (dif_pos ho)).trans ?_
    exact (Nat.zero_add _).trans rfl

/-- The lines of a norm of heads. -/
def normLines (X : FVec Ideal S3x16384x8x64 .f32) (G : FVec Ideal S64 .f32) : FVec Ideal S3x16384x8x64 .f32 :=
  mulf (mulf X (broadcastInDim S3x16384x8x64 ![0, 1, 2, 3] bcast_S3x16384x8x1_S3x16384x8x64_0_1_2_3 (Host.rsqrt (addf (Host.divf (broadcastInDim S3x16384x8x1 ![0, 1, 2] bcast_S3x16384x8_S3x16384x8x1_0_1_2 (Host.reduceAdd (mulf X X) (constant S_ .f32 0x00000000#32) reducesTo_S3x16384x8x64_S3x16384x8_d3 h_S_)) (broadcastInDim S3x16384x8x1 ![] bcast_S_S3x16384x8x1 (constant S_ .f32 0x42800000#32))) (broadcastInDim S3x16384x8x1 ![] bcast_S_S3x16384x8x1 (constant S_ .f32 0x358637BD#32)))))) (broadcastInDim S3x16384x8x64 ![0, 1, 2, 3] bcast_S1x1x1x64_S3x16384x8x64_0_1_2_3 (broadcastInDim S1x1x1x64 ![3] bcast_S64_S1x1x1x64_3 G))

theorem normLines_apply (X : FVec Ideal S3x16384x8x64 .f32) (G : FVec Ideal S64 .f32) (b : Fin 3) (r : Fin 16384) (n : Fin 8) (e : Fin 64) :
    (normLines X G (ix4 b r n e) : EReal) = headNorm (fun e => X (ix4 b r n e)) (fun d => G (ix1 d)) e := by
  unfold headNorm eps normLines
  pointwise []

/-- The lines of turning heads by angles. -/
def turnLines (X : FVec Ideal S3x16384x8x64 .f32) (A : FVec Ideal S16384x8 .f32) : FVec Ideal S3x16384x8x64 .f32 :=
  concatenate S3x16384x8x64 3
    [⟨S3x16384x8x8, subf (mulf (extractStridedSlice S3x16384x8x8 ![0, 0, 0, 0] X slices_S3x16384x8x64_S3x16384x8x8_0_0_0_0) (broadcastInDim S3x16384x8x8 ![0, 1, 2, 3] bcast_S1x16384x1x8_S3x16384x8x8_0_1_2_3 (broadcastInDim S1x16384x1x8 ![1, 3] bcast_S16384x8_S1x16384x1x8_1_3 (Host.cos A)))) (mulf (extractStridedSlice S3x16384x8x8 ![0, 0, 0, 8] X slices_S3x16384x8x64_S3x16384x8x8_0_0_0_8) (broadcastInDim S3x16384x8x8 ![0, 1, 2, 3] bcast_S1x16384x1x8_S3x16384x8x8_0_1_2_3 (broadcastInDim S1x16384x1x8 ![1, 3] bcast_S16384x8_S1x16384x1x8_1_3 (Host.sin A))))⟩,
     ⟨S3x16384x8x8, addf (mulf (extractStridedSlice S3x16384x8x8 ![0, 0, 0, 8] X slices_S3x16384x8x64_S3x16384x8x8_0_0_0_8) (broadcastInDim S3x16384x8x8 ![0, 1, 2, 3] bcast_S1x16384x1x8_S3x16384x8x8_0_1_2_3 (broadcastInDim S1x16384x1x8 ![1, 3] bcast_S16384x8_S1x16384x1x8_1_3 (Host.cos A)))) (mulf (extractStridedSlice S3x16384x8x8 ![0, 0, 0, 0] X slices_S3x16384x8x64_S3x16384x8x8_0_0_0_0) (broadcastInDim S3x16384x8x8 ![0, 1, 2, 3] bcast_S1x16384x1x8_S3x16384x8x8_0_1_2_3 (broadcastInDim S1x16384x1x8 ![1, 3] bcast_S16384x8_S1x16384x1x8_1_3 (Host.sin A))))⟩,
     ⟨S3x16384x8x48, extractStridedSlice S3x16384x8x48 ![0, 0, 0, 16] X slices_S3x16384x8x64_S3x16384x8x48_0_0_0_16⟩]
    concatenates_S3x16384x8x8_S3x16384x8x8_S3x16384x8x48_S3x16384x8x64_d3

theorem turnLines_eq (X : FVec Ideal S3x16384x8x64 .f32) (A : FVec Ideal S16384x8 .f32) (b : Fin 3) (r : Fin 16384) (n : Fin 8) (e : Fin 64) :
    (turnLines X A (ix4 b r n e) : EReal)
      = if h : e.val < 8 then X (ix4 b r n ⟨e.val, by omega⟩) * Ideal.cos (A (ix2 r ⟨e.val, h⟩)) - X (ix4 b r n ⟨8 + e.val, by omega⟩) * Ideal.sin (A (ix2 r ⟨e.val, h⟩))
        else if h' : e.val - 8 < 8 then X (ix4 b r n ⟨8 + (e.val - 8), by omega⟩) * Ideal.cos (A (ix2 r ⟨e.val - 8, h'⟩)) + X (ix4 b r n ⟨e.val - 8, by omega⟩) * Ideal.sin (A (ix2 r ⟨e.val - 8, h'⟩))
        else X (ix4 b r n ⟨16 + (e.val - 8 - 8), by omega⟩) := by
  unfold turnLines
  pointwise []

theorem turnLines_apply (X : FVec Ideal S3x16384x8x64 .f32) (A : FVec Ideal S16384x8 .f32) (b : Fin 3) (r : Fin 16384) (n : Fin 8) (e : Fin 64) :
    (turnLines X A (ix4 b r n e) : EReal)
      = turned (fun e => X (ix4 b r n e)) (fun i => Ideal.cos (A (ix2 r i))) (fun i => Ideal.sin (A (ix2 r i))) e := by
  refine (turnLines_eq X A b r n e).trans ?_
  unfold turned
  obtain ⟨e, he⟩ := e
  by_cases h : e < 8
  · rw [dif_pos h, dif_pos h]
    have : (⟨8 + e, by omega⟩ : Fin 64) = ⟨e + 8, by omega⟩ := Fin.ext (Nat.add_comm 8 e)
    rw [this]
  · rw [dif_neg h, dif_neg h]
    by_cases h' : e < 16
    · rw [dif_pos (show e - 8 < 8 by omega), dif_pos h']
      have : (⟨8 + (e - 8), by omega⟩ : Fin 64) = ⟨e, he⟩ := Fin.ext (by show 8 + (e - 8) = e; omega)
      rw [this]
    · rw [dif_neg (show ¬e - 8 < 8 by omega), dif_neg h']
      have : (⟨16 + (e - 8 - 8), by omega⟩ : Fin 64) = ⟨e, he⟩ := Fin.ext (by show 16 + (e - 8 - 8) = e; omega)
      rw [this]

/-- One group of heads of the projected rows. -/
theorem group0_eq (X : FVec Ideal S3x16384x6x8x64 .f32) (b : Fin 3) (r : Fin 16384) (n : Fin 8) (e : Fin 64) :
    ((shapeCast S3x16384x8x64 (extractStridedSlice S3x16384x1x8x64 ![0, 0, 0, 0, 0] X slices_S3x16384x6x8x64_S3x16384x1x8x64_0_0_0_0_0) shapeCasts_S3x16384x1x8x64_S3x16384x8x64 : FVec Ideal S3x16384x8x64 .f32) (ix4 b r n e) : EReal)
      = X (ix5 b r 0 n e) := by
  pointwise []

theorem group1_eq (X : FVec Ideal S3x16384x6x8x64 .f32) (b : Fin 3) (r : Fin 16384) (n : Fin 8) (e : Fin 64) :
    ((shapeCast S3x16384x8x64 (extractStridedSlice S3x16384x1x8x64 ![0, 0, 1, 0, 0] X slices_S3x16384x6x8x64_S3x16384x1x8x64_0_0_1_0_0) shapeCasts_S3x16384x1x8x64_S3x16384x8x64 : FVec Ideal S3x16384x8x64 .f32) (ix4 b r n e) : EReal)
      = X (ix5 b r 1 n e) := by
  pointwise []

theorem group2_eq (X : FVec Ideal S3x16384x6x8x64 .f32) (b : Fin 3) (r : Fin 16384) (n : Fin 8) (e : Fin 64) :
    ((shapeCast S3x16384x8x64 (extractStridedSlice S3x16384x1x8x64 ![0, 0, 2, 0, 0] X slices_S3x16384x6x8x64_S3x16384x1x8x64_0_0_2_0_0) shapeCasts_S3x16384x1x8x64_S3x16384x8x64 : FVec Ideal S3x16384x8x64 .f32) (ix4 b r n e) : EReal)
      = X (ix5 b r 2 n e) := by
  pointwise []

theorem group3_eq (X : FVec Ideal S3x16384x6x8x64 .f32) (b : Fin 3) (r : Fin 16384) (n : Fin 8) (e : Fin 64) :
    ((shapeCast S3x16384x8x64 (extractStridedSlice S3x16384x1x8x64 ![0, 0, 3, 0, 0] X slices_S3x16384x6x8x64_S3x16384x1x8x64_0_0_3_0_0) shapeCasts_S3x16384x1x8x64_S3x16384x8x64 : FVec Ideal S3x16384x8x64 .f32) (ix4 b r n e) : EReal)
      = X (ix5 b r 3 n e) := by
  pointwise []

theorem group4_eq (X : FVec Ideal S3x16384x6x8x64 .f32) (b : Fin 3) (r : Fin 16384) (n : Fin 8) (e : Fin 64) :
    ((shapeCast S3x16384x8x64 (extractStridedSlice S3x16384x1x8x64 ![0, 0, 4, 0, 0] X slices_S3x16384x6x8x64_S3x16384x1x8x64_0_0_4_0_0) shapeCasts_S3x16384x1x8x64_S3x16384x8x64 : FVec Ideal S3x16384x8x64 .f32) (ix4 b r n e) : EReal)
      = X (ix5 b r 4 n e) := by
  pointwise []

theorem group5_eq (X : FVec Ideal S3x16384x6x8x64 .f32) (b : Fin 3) (r : Fin 16384) (n : Fin 8) (e : Fin 64) :
    ((shapeCast S3x16384x8x64 (extractStridedSlice S3x16384x1x8x64 ![0, 0, 5, 0, 0] X slices_S3x16384x6x8x64_S3x16384x1x8x64_0_0_5_0_0) shapeCasts_S3x16384x1x8x64_S3x16384x8x64 : FVec Ideal S3x16384x8x64 .f32) (ix4 b r n e) : EReal)
      = X (ix5 b r 5 n e) := by
  pointwise []

/-- The groups of heads put side by side. -/
def stackLines (G0 G1 G2 G3 G4 G5 : FVec Ideal S3x16384x8x64 .f32) : FVec Ideal S3x16384x6x8x64 .f32 :=
  concatenate S3x16384x6x8x64 2
    [⟨S3x16384x1x8x64, broadcastInDim S3x16384x1x8x64 ![0, 1, 3, 4] bcast_S3x16384x8x64_S3x16384x1x8x64_0_1_3_4 G0⟩,
     ⟨S3x16384x1x8x64, broadcastInDim S3x16384x1x8x64 ![0, 1, 3, 4] bcast_S3x16384x8x64_S3x16384x1x8x64_0_1_3_4 G1⟩,
     ⟨S3x16384x1x8x64, broadcastInDim S3x16384x1x8x64 ![0, 1, 3, 4] bcast_S3x16384x8x64_S3x16384x1x8x64_0_1_3_4 G2⟩,
     ⟨S3x16384x1x8x64, broadcastInDim S3x16384x1x8x64 ![0, 1, 3, 4] bcast_S3x16384x8x64_S3x16384x1x8x64_0_1_3_4 G3⟩,
     ⟨S3x16384x1x8x64, broadcastInDim S3x16384x1x8x64 ![0, 1, 3, 4] bcast_S3x16384x8x64_S3x16384x1x8x64_0_1_3_4 G4⟩,
     ⟨S3x16384x1x8x64, broadcastInDim S3x16384x1x8x64 ![0, 1, 3, 4] bcast_S3x16384x8x64_S3x16384x1x8x64_0_1_3_4 G5⟩]
    concatenates_S3x16384x1x8x64_S3x16384x1x8x64_S3x16384x1x8x64_S3x16384x1x8x64_S3x16384x1x8x64_S3x16384x1x8x64_S3x16384x6x8x64_d2

/-- The division of the queries. -/
def overLines (X : FVec Ideal S3x16384x8x64 .f32) (z : FVec Ideal S_ .f32) : FVec Ideal S3x16384x8x64 .f32 :=
  Host.divf X (broadcastInDim S3x16384x8x64 ![] bcast_S_S3x16384x8x64 z)

theorem overLines_apply (X : FVec Ideal S3x16384x8x64 .f32) (z : FVec Ideal S_ .f32) (b : Fin 3) (r : Fin 16384) (n : Fin 8) (e : Fin 64) :
    (overLines X z (ix4 b r n e) : EReal) = Ideal.div (X (ix4 b r n e)) (z ix0) := by
  unfold overLines
  pointwise []

theorem stackLines_0 (G0 G1 G2 G3 G4 G5 : FVec Ideal S3x16384x8x64 .f32) (b : Fin 3) (r : Fin 16384) (n : Fin 8) (e : Fin 64) :
    (stackLines G0 G1 G2 G3 G4 G5 (ix5 b r 0 n e) : EReal) = G0 (ix4 b r n e) := by
  unfold stackLines
  pointwise []

theorem stackLines_1 (G0 G1 G2 G3 G4 G5 : FVec Ideal S3x16384x8x64 .f32) (b : Fin 3) (r : Fin 16384) (n : Fin 8) (e : Fin 64) :
    (stackLines G0 G1 G2 G3 G4 G5 (ix5 b r 1 n e) : EReal) = G1 (ix4 b r n e) := by
  unfold stackLines
  pointwise []

theorem stackLines_2 (G0 G1 G2 G3 G4 G5 : FVec Ideal S3x16384x8x64 .f32) (b : Fin 3) (r : Fin 16384) (n : Fin 8) (e : Fin 64) :
    (stackLines G0 G1 G2 G3 G4 G5 (ix5 b r 2 n e) : EReal) = G2 (ix4 b r n e) := by
  unfold stackLines
  pointwise []

theorem stackLines_3 (G0 G1 G2 G3 G4 G5 : FVec Ideal S3x16384x8x64 .f32) (b : Fin 3) (r : Fin 16384) (n : Fin 8) (e : Fin 64) :
    (stackLines G0 G1 G2 G3 G4 G5 (ix5 b r 3 n e) : EReal) = G3 (ix4 b r n e) := by
  unfold stackLines
  pointwise []

theorem stackLines_4 (G0 G1 G2 G3 G4 G5 : FVec Ideal S3x16384x8x64 .f32) (b : Fin 3) (r : Fin 16384) (n : Fin 8) (e : Fin 64) :
    (stackLines G0 G1 G2 G3 G4 G5 (ix5 b r 4 n e) : EReal) = G4 (ix4 b r n e) := by
  unfold stackLines
  pointwise []

theorem stackLines_5 (G0 G1 G2 G3 G4 G5 : FVec Ideal S3x16384x8x64 .f32) (b : Fin 3) (r : Fin 16384) (n : Fin 8) (e : Fin 64) :
    (stackLines G0 G1 G2 G3 G4 G5 (ix5 b r 5 n e) : EReal) = G5 (ix4 b r n e) := by
  unfold stackLines
  pointwise []

theorem headNorm_congr {y y' g g' : Fin 64 → EReal} (hy : ∀ e, y e = y' e) (hg : ∀ d, g d = g' d) (d : Fin 64) : headNorm y g d = headNorm y' g' d := by
  rw [funext hy, funext hg]

theorem turned_congr {y y' : Fin 64 → EReal} {c c' s s' : Fin 8 → EReal} (hy : ∀ e, y e = y' e) (hc : ∀ i, c i = c' i) (hs : ∀ i, s i = s' i)
    (d : Fin 64) : turned y c s d = turned y' c' s' d := by
  rw [funext hy, funext hc, funext hs]

theorem last_eq (X : FVec Ideal S3x16384x6x8x64 .f32) (r : Fin 49152) (j : Fin 3072) :
    ((truncf .bf16 (shapeCast S49152x3072 X shapeCasts_S3x16384x6x8x64_S49152x3072) bitsLt_bf16_f32 : FVec Ideal S49152x3072 .bf16) (ix2 r j) : EReal)
      = X (ix5 ⟨r.val / 16384, by omega⟩ ⟨r.val % 16384, by omega⟩ ⟨j.val / 512, by omega⟩ ⟨j.val / 64 % 8, by omega⟩ ⟨j.val % 64, by omega⟩) := by
  pointwise []

section
variable (V0 : Valuation τ sig (Elt Ideal))

/-- The arguments. -/
abbrev arg0 : FVec Ideal S32768x1024 .f32 := V0 (Proc.devRef .tc main_arg0)
abbrev arg1 : FVec Ideal S16384x1024 .f32 := V0 (Proc.devRef .tc main_arg1)
abbrev arg2 : IVec S1 32 := V0 (Proc.devRef .tc main_arg2)
abbrev arg3 : FVec Ideal S4x1024 .f32 := V0 (Proc.devRef .tc main_arg3)
abbrev arg4 : FVec Ideal S4x1024x3072 .f32 := V0 (Proc.devRef .tc main_arg4)
abbrev arg5 : FVec Ideal S4x64 .f32 := V0 (Proc.devRef .tc main_arg5)
abbrev arg6 : FVec Ideal S4x64 .f32 := V0 (Proc.devRef .tc main_arg6)
abbrev arg7 : FVec Ideal S4x64 .f32 := V0 (Proc.devRef .tc main_arg7)
abbrev arg8 : FVec Ideal S4x64 .f32 := V0 (Proc.devRef .tc main_arg8)

theorem v1_apply : ((res_main_v1 V0 : FVec Ideal S_ .f32) ix0 : EReal) = Ideal.ofBits .f32 0x41000000#32 * Ideal.log (Ideal.ofBits .f32 0x40000000#32) := by
  unfold res_main_v1
  pointwise []

theorem v2_apply (r : Fin 49152) (k : Fin 1024) :
    ((res_main_v2 V0 : FVec Ideal S49152x1024 .f32) (ix2 r k) : EReal) = rowOf (fun r k => arg0 V0 (ix2 r k)) (fun r k => arg1 V0 (ix2 r k)) r k := by
  unfold res_main_v2 rowOf
  pointwise []

theorem v51_apply (r : Fin 16384) (k : Fin 8) : ((res_main_v51 V0 : FVec Ideal S16384x8 .f32) (ix2 r k) : EReal) = angle r.val k.val := by
  unfold res_main_v51 angle
  pointwise []

theorem v101_apply (r : Fin 16384) (k : Fin 8) : ((res_main_v101 V0 : FVec Ideal S16384x8 .f32) (ix2 r k) : EReal) = angle r.val k.val := by
  unfold res_main_v101 angle
  pointwise []

/-- A row normed and projected, as the sums that the lines of the reference read. -/
theorem proj_form (X G W : Fin 1024 → EReal) (z : EReal)
    (h : z = ∑ k, X k * Ideal.rsqrt (Ideal.div (∑ i, X i * X i) (Ideal.ofBits .f32 0x44800000#32) + Ideal.ofBits .f32 0x358637BD#32) * G k * W k) :
    z = proj X G W := h

theorem v166_eq : res_main_v166 V0 = stackLines (overLines (turnLines (normLines (res_main_v23 V0) (Host.gather gather_S4x64_S1_S64_0_0_n_n_0_0_164 (arg5 V0) (broadcastInDim S1 ![] bcast_S_S1 (shapeCast S_ (arg2 V0) shapeCasts_S1_S_) : IVec S1 32))) (res_main_v51 V0)) (res_main_v1 V0))
    (turnLines (normLines (res_main_v73 V0) (Host.gather gather_S4x64_S1_S64_0_0_n_n_0_0_164 (arg6 V0) (broadcastInDim S1 ![] bcast_S_S1 (shapeCast S_ (arg2 V0) shapeCasts_S1_S_) : IVec S1 32))) (res_main_v101 V0))
    (shapeCast S3x16384x8x64 (extractStridedSlice S3x16384x1x8x64 ![0, 0, 2, 0, 0] (res_main_v21 V0) slices_S3x16384x6x8x64_S3x16384x1x8x64_0_0_2_0_0) shapeCasts_S3x16384x1x8x64_S3x16384x8x64)
    (overLines (normLines (res_main_v123 V0) (Host.gather gather_S4x64_S1_S64_0_0_n_n_0_0_164 (arg7 V0) (broadcastInDim S1 ![] bcast_S_S1 (shapeCast S_ (arg2 V0) shapeCasts_S1_S_) : IVec S1 32))) (res_main_v1 V0))
    (normLines (res_main_v142 V0) (Host.gather gather_S4x64_S1_S64_0_0_n_n_0_0_164 (arg8 V0) (broadcastInDim S1 ![] bcast_S_S1 (shapeCast S_ (arg2 V0) shapeCasts_S1_S_) : IVec S1 32)))
    (shapeCast S3x16384x8x64 (extractStridedSlice S3x16384x1x8x64 ![0, 0, 5, 0, 0] (res_main_v21 V0) slices_S3x16384x6x8x64_S3x16384x1x8x64_0_0_5_0_0) shapeCasts_S3x16384x1x8x64_S3x16384x8x64) := by
  rfl

variable (L : Fin 4) (hl : (arg2 V0 (ix1 0)).toNat = L.val)
include hl

theorem layer_apply : ((broadcastInDim S1 ![] bcast_S_S1 (shapeCast S_ (arg2 V0) shapeCasts_S1_S_) : IVec S1 32) (ix1 0)).toNat = L.val := by
  pointwise []
  exact hl

theorem ln_apply (k : Fin 1024) :
    (Host.gather gather_S4x1024_S1_S1024_0_0_n_n_0_0_11024 (arg3 V0) (broadcastInDim S1 ![] bcast_S_S1 (shapeCast S_ (arg2 V0) shapeCasts_S1_S_) : IVec S1 32) (ix1 k) : EReal) = arg3 V0 (ix2 L k) :=
  vec_apply gather_S4x1024_S1_S1024_0_0_n_n_0_0_11024.wf (arg3 V0) _ L (by omega) (layer_apply V0 L hl) k

theorem w_apply (k : Fin 1024) (j : Fin 3072) :
    (Host.gather gather_S4x1024x3072_S1_S1024x3072_01_0_n_n_0_0_110243072 (arg4 V0) (broadcastInDim S1 ![] bcast_S_S1 (shapeCast S_ (arg2 V0) shapeCasts_S1_S_) : IVec S1 32) (ix2 k j) : EReal) = arg4 V0 (ix3 L k j) :=
  mat_apply gather_S4x1024x3072_S1_S1024x3072_01_0_n_n_0_0_110243072.wf (arg4 V0) _ L (by omega) (layer_apply V0 L hl) k j

theorem gain_apply (g : FVec Ideal S4x64 .f32) (d : Fin 64) :
    (Host.gather gather_S4x64_S1_S64_0_0_n_n_0_0_164 g (broadcastInDim S1 ![] bcast_S_S1 (shapeCast S_ (arg2 V0) shapeCasts_S1_S_) : IVec S1 32) (ix1 d) : EReal) = g (ix2 L d) :=
  vec_apply gather_S4x64_S1_S64_0_0_n_n_0_0_164.wf g _ L (by omega) (layer_apply V0 L hl) d

theorem v21_apply (b : Fin 3) (r : Fin 16384) (h : Fin 6) (n : Fin 8) (e : Fin 64) :
    ((res_main_v21 V0 : FVec Ideal S3x16384x6x8x64 .f32) (ix5 b r h n e) : EReal)
      = proj (rowOf (fun r k => arg0 V0 (ix2 r k)) (fun r k => arg1 V0 (ix2 r k)) ⟨b.val * 16384 + r.val, by omega⟩) (fun k => arg3 V0 (ix2 L k))
        (fun k => arg4 V0 (ix3 L k ⟨h.val * 512 + n.val * 64 + e.val, by omega⟩)) := by
  have h1 := ln_apply V0 L hl
  have h2 := w_apply V0 L hl
  have h3 := v2_apply V0
  refine proj_form _ _ _ _ ?_
  unfold res_main_v21
  pointwise []
  simp only [h1, h2, h3]

theorem v166_0 (b : Fin 3) (r : Fin 16384) (n : Fin 8) (e : Fin 64) :
    ((res_main_v166 V0 : FVec Ideal S3x16384x6x8x64 .f32) (ix5 b r 0 n e) : EReal)
      = Ideal.div (turned (headNorm (fun e => (res_main_v21 V0 : FVec Ideal S3x16384x6x8x64 .f32) (ix5 b r 0 n e)) (fun d => arg5 V0 (ix2 L d))) (fun i => Ideal.cos (angle r.val i.val)) (fun i => Ideal.sin (angle r.val i.val)) e) (Ideal.ofBits .f32 0x41000000#32 * Ideal.log (Ideal.ofBits .f32 0x40000000#32)) := by
  rw [v166_eq V0]
  refine (stackLines_0 _ _ _ _ _ _ b r n e).trans ?_
  refine (overLines_apply _ _ b r n e).trans (congrArg₂ Ideal.div ?_ (v1_apply V0))
  exact (turnLines_apply _ _ b r n e).trans (turned_congr (fun e => (normLines_apply _ _ b r n _).trans (headNorm_congr (fun e => group0_eq (res_main_v21 V0) b r n e) (fun d => gain_apply V0 L hl (arg5 V0) d) _))
    (fun i => congrArg Ideal.cos (v51_apply V0 r i)) (fun i => congrArg Ideal.sin (v51_apply V0 r i)) e)

theorem v166_1 (b : Fin 3) (r : Fin 16384) (n : Fin 8) (e : Fin 64) :
    ((res_main_v166 V0 : FVec Ideal S3x16384x6x8x64 .f32) (ix5 b r 1 n e) : EReal)
      = turned (headNorm (fun e => (res_main_v21 V0 : FVec Ideal S3x16384x6x8x64 .f32) (ix5 b r 1 n e)) (fun d => arg6 V0 (ix2 L d))) (fun i => Ideal.cos (angle r.val i.val)) (fun i => Ideal.sin (angle r.val i.val)) e := by
  rw [v166_eq V0]
  refine (stackLines_1 _ _ _ _ _ _ b r n e).trans ?_
  exact (turnLines_apply _ _ b r n e).trans (turned_congr (fun e => (normLines_apply _ _ b r n _).trans (headNorm_congr (fun e => group1_eq (res_main_v21 V0) b r n e) (fun d => gain_apply V0 L hl (arg6 V0) d) _))
    (fun i => congrArg Ideal.cos (v101_apply V0 r i)) (fun i => congrArg Ideal.sin (v101_apply V0 r i)) e)

omit hl in
theorem v166_2 (b : Fin 3) (r : Fin 16384) (n : Fin 8) (e : Fin 64) :
    ((res_main_v166 V0 : FVec Ideal S3x16384x6x8x64 .f32) (ix5 b r 2 n e) : EReal)
      = (res_main_v21 V0 : FVec Ideal S3x16384x6x8x64 .f32) (ix5 b r 2 n e) := by
  rw [v166_eq V0]
  refine (stackLines_2 _ _ _ _ _ _ b r n e).trans ?_
  exact group2_eq (res_main_v21 V0) b r n e

omit hl in
theorem v166_5 (b : Fin 3) (r : Fin 16384) (n : Fin 8) (e : Fin 64) :
    ((res_main_v166 V0 : FVec Ideal S3x16384x6x8x64 .f32) (ix5 b r 5 n e) : EReal)
      = (res_main_v21 V0 : FVec Ideal S3x16384x6x8x64 .f32) (ix5 b r 5 n e) := by
  rw [v166_eq V0]
  refine (stackLines_5 _ _ _ _ _ _ b r n e).trans ?_
  exact group5_eq (res_main_v21 V0) b r n e

theorem v166_3 (b : Fin 3) (r : Fin 16384) (n : Fin 8) (e : Fin 64) :
    ((res_main_v166 V0 : FVec Ideal S3x16384x6x8x64 .f32) (ix5 b r 3 n e) : EReal)
      = Ideal.div (headNorm (fun e => (res_main_v21 V0 : FVec Ideal S3x16384x6x8x64 .f32) (ix5 b r 3 n e)) (fun d => arg7 V0 (ix2 L d)) e) (Ideal.ofBits .f32 0x41000000#32 * Ideal.log (Ideal.ofBits .f32 0x40000000#32)) := by
  rw [v166_eq V0]
  refine (stackLines_3 _ _ _ _ _ _ b r n e).trans ?_
  refine (overLines_apply _ _ b r n e).trans (congrArg₂ Ideal.div ?_ (v1_apply V0))
  exact (normLines_apply _ _ b r n _).trans (headNorm_congr (fun e => group3_eq (res_main_v21 V0) b r n e) (fun d => gain_apply V0 L hl (arg7 V0) d) _)

theorem v166_4 (b : Fin 3) (r : Fin 16384) (n : Fin 8) (e : Fin 64) :
    ((res_main_v166 V0 : FVec Ideal S3x16384x6x8x64 .f32) (ix5 b r 4 n e) : EReal)
      = headNorm (fun e => (res_main_v21 V0 : FVec Ideal S3x16384x6x8x64 .f32) (ix5 b r 4 n e)) (fun d => arg8 V0 (ix2 L d)) e := by
  rw [v166_eq V0]
  refine (stackLines_4 _ _ _ _ _ _ b r n e).trans ?_
  exact (normLines_apply _ _ b r n _).trans (headNorm_congr (fun e => group4_eq (res_main_v21 V0) b r n e) (fun d => gain_apply V0 L hl (arg8 V0) d) _)

/-- The reference's result at an element: the heads of the row. -/
theorem result_apply (r : Fin 49152) (j : Fin 3072) :
    ((truncf .bf16 (shapeCast S49152x3072 (res_main_v166 V0) shapeCasts_S3x16384x6x8x64_S49152x3072) bitsLt_bf16_f32 : FVec Ideal S49152x3072 .bf16) (ix2 r j) : EReal)
      = heads (rowOf (fun r k => arg0 V0 (ix2 r k)) (fun r k => arg1 V0 (ix2 r k)) r) (fun k => arg3 V0 (ix2 L k)) (fun k j => arg4 V0 (ix3 L k j)) (fun d => arg5 V0 (ix2 L d)) (fun d => arg6 V0 (ix2 L d)) (fun d => arg7 V0 (ix2 L d)) (fun d => arg8 V0 (ix2 L d)) (fun i => Ideal.cos (angle (r.val % 16384) i.val)) (fun i => Ideal.sin (angle (r.val % 16384) i.val))
        (fun v => Ideal.div v (Ideal.ofBits .f32 0x41000000#32 * Ideal.log (Ideal.ofBits .f32 0x40000000#32))) j := by
  refine (last_eq _ r j).trans ?_
  have key : ∀ H : Fin 6, H.val = j.val / 512 → ((res_main_v166 V0 : FVec Ideal S3x16384x6x8x64 .f32) (ix5 ⟨r.val / 16384, by omega⟩ ⟨r.val % 16384, by omega⟩ H ⟨j.val / 64 % 8, by omega⟩ ⟨j.val % 64, by omega⟩) : EReal)
      = heads (rowOf (fun r k => arg0 V0 (ix2 r k)) (fun r k => arg1 V0 (ix2 r k)) r) (fun k => arg3 V0 (ix2 L k)) (fun k j => arg4 V0 (ix3 L k j)) (fun d => arg5 V0 (ix2 L d)) (fun d => arg6 V0 (ix2 L d)) (fun d => arg7 V0 (ix2 L d)) (fun d => arg8 V0 (ix2 L d)) (fun i => Ideal.cos (angle (r.val % 16384) i.val)) (fun i => Ideal.sin (angle (r.val % 16384) i.val))
        (fun v => Ideal.div v (Ideal.ofBits .f32 0x41000000#32 * Ideal.log (Ideal.ofBits .f32 0x40000000#32))) j := ?_
  · exact key ⟨j.val / 512, by omega⟩ rfl
  intro H hH
  have hy : ∀ e : Fin 64, ((res_main_v21 V0 : FVec Ideal S3x16384x6x8x64 .f32) (ix5 ⟨r.val / 16384, by omega⟩ ⟨r.val % 16384, by omega⟩ H ⟨j.val / 64 % 8, by omega⟩ e) : EReal)
      = proj (rowOf (fun r k => arg0 V0 (ix2 r k)) (fun r k => arg1 V0 (ix2 r k)) r) (fun k => arg3 V0 (ix2 L k)) (fun k => arg4 V0 (ix3 L k ⟨j.val / 64 * 64 + e.val, by omega⟩)) := fun e => by
    refine (v21_apply V0 L hl _ _ _ _ _).trans ?_
    have e1 : (⟨r.val / 16384 * 16384 + r.val % 16384, by omega⟩ : Fin 49152) = r := Fin.ext (by show r.val / 16384 * 16384 + r.val % 16384 = r.val; omega)
    have e2 : (⟨H.val * 512 + j.val / 64 % 8 * 64 + e.val, by omega⟩ : Fin 3072) = ⟨j.val / 64 * 64 + e.val, by omega⟩ :=
      Fin.ext (by show H.val * 512 + j.val / 64 % 8 * 64 + e.val = j.val / 64 * 64 + e.val; omega)
    exact congrArg₂ (fun q p => proj (rowOf (fun r k => arg0 V0 (ix2 r k)) (fun r k => arg1 V0 (ix2 r k)) q) (fun k => arg3 V0 (ix2 L k)) (fun k => arg4 V0 (ix3 L k p))) e1 e2
  have hj := j.isLt
  unfold heads
  dsimp only
  rcases (by omega : j.val < 512 ∨ (512 ≤ j.val ∧ j.val < 1024) ∨ (1024 ≤ j.val ∧ j.val < 1536) ∨ (1536 ≤ j.val ∧ j.val < 2048)
    ∨ (2048 ≤ j.val ∧ j.val < 2560) ∨ 2560 ≤ j.val) with hc | hc | hc | hc | hc | hc
  · obtain rfl : H = 0 := Fin.ext (by show H.val = 0; omega)
    rw [if_pos (show j.val < 512 by omega)]
    refine (v166_0 V0 L hl _ _ _ _).trans ?_
    exact congrArg (fun v => Ideal.div v (Ideal.ofBits .f32 0x41000000#32 * Ideal.log (Ideal.ofBits .f32 0x40000000#32))) (turned_congr (fun e => headNorm_congr hy (fun _ => rfl) e) (fun _ => rfl) (fun _ => rfl) _)
  · obtain rfl : H = 1 := Fin.ext (by show H.val = 1; omega)
    rw [if_neg (show ¬j.val < 512 by omega)]
    rw [if_pos (show j.val < 1024 by omega)]
    refine (v166_1 V0 L hl _ _ _ _).trans ?_
    exact (turned_congr (fun e => headNorm_congr hy (fun _ => rfl) e) (fun _ => rfl) (fun _ => rfl) _)
  · obtain rfl : H = 2 := Fin.ext (by show H.val = 2; omega)
    rw [if_neg (show ¬j.val < 512 by omega)]
    rw [if_neg (show ¬j.val < 1024 by omega)]
    rw [if_pos (show j.val < 1536 by omega)]
    refine (v166_2 V0 _ _ _ _).trans ?_
    exact hy _
  · obtain rfl : H = 3 := Fin.ext (by show H.val = 3; omega)
    rw [if_neg (show ¬j.val < 512 by omega)]
    rw [if_neg (show ¬j.val < 1024 by omega)]
    rw [if_neg (show ¬j.val < 1536 by omega)]
    rw [if_pos (show j.val < 2048 by omega)]
    refine (v166_3 V0 L hl _ _ _ _).trans ?_
    exact congrArg (fun v => Ideal.div v (Ideal.ofBits .f32 0x41000000#32 * Ideal.log (Ideal.ofBits .f32 0x40000000#32))) (headNorm_congr hy (fun _ => rfl) _)
  · obtain rfl : H = 4 := Fin.ext (by show H.val = 4; omega)
    rw [if_neg (show ¬j.val < 512 by omega)]
    rw [if_neg (show ¬j.val < 1024 by omega)]
    rw [if_neg (show ¬j.val < 1536 by omega)]
    rw [if_neg (show ¬j.val < 2048 by omega)]
    rw [if_pos (show j.val < 2560 by omega)]
    refine (v166_4 V0 L hl _ _ _ _).trans ?_
    exact (headNorm_congr hy (fun _ => rfl) _)
  · obtain rfl : H = 5 := Fin.ext (by show H.val = 5; omega)
    rw [if_neg (show ¬j.val < 512 by omega)]
    rw [if_neg (show ¬j.val < 1024 by omega)]
    rw [if_neg (show ¬j.val < 1536 by omega)]
    rw [if_neg (show ¬j.val < 2048 by omega)]
    rw [if_neg (show ¬j.val < 2560 by omega)]
    refine (v166_5 V0 _ _ _ _).trans ?_
    exact hy _
end

end Cert.Reference2Ideal.InProj

end
-- ==== Proof.Tables.lean ====
/- What the precondition says of the tables: the layer is one of the four stacked layers, every block's expert one of a
   layer's thirty-two experts. -/
module

public import proofs.«01_k».proof.Defs
public import proofs.«01_k».proof.Proof.Gen.Pre_tables_in_range
public import Idealize.ShloMosaic.Lib.ReduceAll
public import Idealize.ShloMosaic.Lib.WordCmp

@[expose] public section

namespace Cert.Tables

open Idealize.ShloMosaic Cert.Pre_tables_in_range Cert.Pre_tables_in_range.Gen

variable {F : FTy → Type} [FloatOps F]

theorem andi_ones (a b : BitVec 1) (h : IntOp.andi a b = 1#1) : a = 1#1 ∧ b = 1#1 := by revert a b; decide

theorem below {k : ℕ} (hk : k < 2 ^ 31) (x : BitVec 32)
    (h : IntOp.andi (IntOp.cmpi .sge x 0#32) (IntOp.cmpi .slt x (BitVec.ofNat 32 k)) = 1#1) : x.toNat < k := by
  rw [WordCmp.andi_sge_zero_slt_ofNat hk] at h
  by_contra hx
  rw [decide_eq_false hx] at h
  exact absurd h (by decide)

/-- The precondition, all ones, bounds the layer and every expert. -/
theorem in_range (a0 : FVec F S114688x1024 .bf16) (a1 : IVec S1 32) (a2 : IVec S224 32) (a3 : IVec S1 32)
    (a4 a5 : FVec F S4x32x1024x512 .f32) (a6 : FVec F S4x32x512x1024 .f32)
    (h : Cert.Pre_tables_in_range.fn (F := F) a0 a1 a2 a3 a4 a5 a6 = fun _ => 1#1) :
    (∀ j, (a1 j).toNat < 4) ∧ ∀ j, (a2 j).toNat < 32 := by
  haveI : Subsingleton S_.Idx := ⟨fun a b => funext fun x => x.elim0⟩
  have h' := congrFun h (fun x => x.elim0)
  unfold Cert.Pre_tables_in_range.fn at h'
  obtain ⟨hl, he⟩ := andi_ones _ _ h'
  refine ⟨fun j => ?_, fun j => ?_⟩
  · exact below (k := 4) (by decide) _ (Host.reduce_andi_all _ _ _ _ _ hl j)
  · exact below (k := 32) (by decide) _ (Host.reduce_andi_all _ _ _ _ _ he j)

end Cert.Tables
-- ==== Proof.InProj.lean ====
/- The claims of `in_proj`: the kernel and its idealization run and leave every semaphore at zero, the reference runs, and
   the idealized kernel's first output is the reference's result. -/
module

public import proofs.«01_k».proof.Defs
public import proofs.«01_k».proof.Proof.Gen.Pre_layer_in_range
public import proofs.«01_k».proof.Proof.Kernel2Frame
public import proofs.«01_k».proof.Proof.Kernel2Layer
public import proofs.«01_k».proof.Proof.Kernel2IdealOutput
public import proofs.«01_k».proof.Proof.Reference2IdealValue
public import proofs.«01_k».proof.Proof.Tables

@[expose] public section

namespace Cert.InProj

open Idealize.ShloMosaic Idealize.ShloMosaic.TcCoe Idealize.SL.Sem Cert.Heads

/-- The precondition, all ones, bounds the layer. -/
theorem in_range {F : FTy → Type} [FloatOps F] (a0 : FVec F Cert.Pre_layer_in_range.S32768x1024 .f32)
    (a1 : FVec F Cert.Pre_layer_in_range.S16384x1024 .f32) (a2 : IVec Cert.Pre_layer_in_range.S1 32)
    (a3 : FVec F Cert.Pre_layer_in_range.S4x1024 .f32) (a4 : FVec F Cert.Pre_layer_in_range.S4x1024x3072 .f32)
    (a5 a6 a7 a8 : FVec F Cert.Pre_layer_in_range.S4x64 .f32)
    (h : Cert.Pre_layer_in_range.fn (F := F) a0 a1 a2 a3 a4 a5 a6 a7 a8 = fun _ => 1#1) (j : Cert.Pre_layer_in_range.S1.Idx) :
    (a2 j).toNat < 4 := by
  haveI : Subsingleton Cert.Pre_layer_in_range.S_.Idx := ⟨fun a b => funext fun x => x.elim0⟩
  have h' := congrFun h (fun x => x.elim0)
  unfold Cert.Pre_layer_in_range.fn at h'
  exact Cert.Tables.below (k := 4) (by decide) _ (Host.reduce_andi_all _ _ _ _ _ h' j)

theorem ok_Kernel2 (m : (ℓ : Loc Cert.Kernel2.nD Cert.Kernel2.τ Cert.Kernel2.sig) → Buf (Elt Bits) ℓ) (h : Cert.Pre_Kernel2 m) :
    Cert.Kernel2.Gen.Ok m :=
  Cert.Kernel2.InProj.ok_of_range m fun j =>
    Nat.lt_of_le_of_lt (le_of_eq (congrArg (BitVec.toNat (w := 32)) (congrFun (Cert.Kernel2.Gen.V_main_arg2 m 0) j))) (in_range _ _ _ _ _ _ _ _ _ (h 0) j)

theorem ok_Kernel2Ideal (m : (ℓ : Loc Cert.Kernel2Ideal.nD Cert.Kernel2Ideal.τ Cert.Kernel2Ideal.sig) → Buf (Elt Ideal) ℓ)
    (h : Cert.Pre_Kernel2Ideal m) : Cert.Kernel2Ideal.Gen.Ok m :=
  Cert.Kernel2Ideal.InProj.ok_of_range m fun j =>
    Nat.lt_of_le_of_lt (le_of_eq (congrArg (BitVec.toNat (w := 32)) (congrFun (Cert.Kernel2Ideal.Gen.V_main_arg2 m 0) j))) (in_range _ _ _ _ _ _ _ _ _ (h 0) j)

theorem frame_Reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal :=
  IdealRules.named_const.statement Cert.Kernel2Ideal.κ "query_scale" .f32 0x3E38AA3B#32 (((8 * (Real.log 2))⁻¹ : ℝ) : EReal) rfl

/-- The queries' factor, as the certificate's table has it. -/
theorem qscale_eq : Cert.Kernel2Ideal.InProj.qscale = (((8 * (Real.log 2))⁻¹ : ℝ) : EReal) :=
  IdealRules.named_const.ideal_named_scalar _ _ _ _ rfl

theorem ofBits_8 : Ideal.ofBits .f32 0x41000000#32 = ((8 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The kernel's product is the reference's quotient. -/
theorem scale_eq : (fun v : EReal => v * Cert.Kernel2Ideal.InProj.qscale)
    = fun v => Ideal.div v (Ideal.ofBits .f32 0x41000000#32 * Ideal.log (Ideal.ofBits .f32 0x40000000#32)) := by
  funext v
  have hlog : (0 : ℝ) < Real.log 2 := Real.log_pos (by norm_num)
  rw [qscale_eq, ofBits_8, ofBits_2, Ideal.log_coe, if_neg (by norm_num), ← EReal.coe_mul, Ideal.div_coe (by positivity), one_div]

theorem heads_congr {x x' g g' : Fin 1024 → EReal} {w w' : Fin 1024 → Fin 3072 → EReal} {a a' b b' p p' q q' : Fin 64 → EReal}
    {f f' : EReal → EReal} (c s : Fin 8 → EReal) (hx : x = x') (hg : g = g') (hw : w = w') (ha : a = a') (hb : b = b') (hp : p = p') (hq : q = q')
    (hf : f = f') (j : Fin 3072) : heads x g w a b p q c s f j = heads x' g' w' a' b' p' q' c s f' j := by
  subst hx hg hw ha hb hp hq hf; rfl

theorem rowOf_congr {a a' : Fin 32768 → Fin 1024 → EReal} {b b' : Fin 16384 → Fin 1024 → EReal} (ha : a = a') (hb : b = b')
    (r : Fin 49152) : rowOf a b r = rowOf a' b' r := by
  subst ha hb; rfl

/-- The kernel's output array is the reference's result of equal arguments. -/
theorem output_eq (m : (ℓ : Loc Cert.Kernel2Ideal.nD Cert.Kernel2Ideal.τ Cert.Kernel2Ideal.sig) → Buf (Elt Ideal) ℓ)
    (h : Cert.Pre_Kernel2Ideal m) (c : Dev Cert.Kernel2Ideal.nD)
    (V0 : (b : DevRef Cert.Reference2Ideal.τ Cert.Reference2Ideal.sig) → b.ty.Contents (Elt Ideal))
    (h0 : Cert.Reference2Ideal.InProj.arg0 V0 = Cert.Kernel2Ideal.InProj.arg0 m c)
    (h1 : Cert.Reference2Ideal.InProj.arg1 V0 = Cert.Kernel2Ideal.InProj.arg1 m c)
    (h2 : Cert.Reference2Ideal.InProj.arg2 V0 = m ((c.tc : Thread Cert.Kernel2Ideal.nD Cert.Kernel2Ideal.τ).loc Cert.Kernel2Ideal.main_arg2))
    (h3 : Cert.Reference2Ideal.InProj.arg3 V0 = Cert.Kernel2Ideal.InProj.arg3 m c)
    (h4 : Cert.Reference2Ideal.InProj.arg4 V0 = Cert.Kernel2Ideal.InProj.arg4 m c)
    (h5 : Cert.Reference2Ideal.InProj.arg5 V0 = Cert.Kernel2Ideal.InProj.arg5 m c)
    (h6 : Cert.Reference2Ideal.InProj.arg6 V0 = Cert.Kernel2Ideal.InProj.arg6 m c)
    (h7 : Cert.Reference2Ideal.InProj.arg7 V0 = Cert.Kernel2Ideal.InProj.arg7 m c)
    (h8 : Cert.Reference2Ideal.InProj.arg8 V0 = Cert.Kernel2Ideal.InProj.arg8 m c) :
    (Cert.Kernel2Ideal.InProj.dats m (ok_Kernel2Ideal m h) 0 c).arrAt 7 (Cert.Kernel2Ideal.Gen.cfgM m (ok_Kernel2Ideal m h)).N
      = (truncf .bf16 (shapeCast Cert.Reference2Ideal.S49152x3072 (Cert.Reference2Ideal.Value.res_main_v166 V0) Cert.Reference2Ideal.Gen.shapeCasts_S3x16384x6x8x64_S49152x3072)
          Cert.Reference2Ideal.Gen.bitsLt_bf16_f32 : FVec Ideal Cert.Reference2Ideal.S49152x3072 .bf16) := by
  obtain rfl : c = 0 := Subsingleton.elim _ _
  have hr : (m (((0 : Dev Cert.Kernel2Ideal.nD).tc : Thread Cert.Kernel2Ideal.nD Cert.Kernel2Ideal.τ).loc Cert.Kernel2Ideal.main_arg2) (ix1 0)).toNat < 4 :=
    in_range _ _ _ _ _ _ _ _ _ (h 0) (ix1 0)
  have key : ∀ (r : Fin 49152) (j : Fin 3072),
      (Cert.Kernel2Ideal.InProj.dats m (ok_Kernel2Ideal m h) 0 0).arrAt 7 (Cert.Kernel2Ideal.Gen.cfgM m (ok_Kernel2Ideal m h)).N (ix2 r j : Cert.Kernel2Ideal.S49152x3072.Idx)
      = (truncf .bf16 (shapeCast Cert.Reference2Ideal.S49152x3072 (Cert.Reference2Ideal.Value.res_main_v166 V0) Cert.Reference2Ideal.Gen.shapeCasts_S3x16384x6x8x64_S49152x3072)
          Cert.Reference2Ideal.Gen.bitsLt_bf16_f32 : FVec Ideal Cert.Reference2Ideal.S49152x3072 .bf16) (ix2 r j) := fun r j => by
    refine (Cert.Kernel2Ideal.InProj.arrAt_apply m (ok_Kernel2Ideal m h) 0 ⟨_, hr⟩ ?_ r j).trans
      (Eq.trans ?_ (Cert.Reference2Ideal.InProj.result_apply V0 ⟨_, hr⟩ (congrArg (BitVec.toNat (w := 32)) (congrFun h2 (ix1 0))) r j).symm)
    · refine congrArg (BitVec.toNat (w := 32)) ((congrFun (Cert.Kernel2Ideal.Gen.V_main_arg2 m 0) _).trans ?_)
      exact congrArg (m (((0 : Dev Cert.Kernel2Ideal.nD).tc : Thread Cert.Kernel2Ideal.nD Cert.Kernel2Ideal.τ).loc Cert.Kernel2Ideal.main_arg2))
        (funext fun a => by match a with | ⟨0, _⟩ => rfl)
    · exact heads_congr _ _
        (rowOf_congr (funext fun r => funext fun k => (congrFun h0 (ix2 r k)).symm) (funext fun r => funext fun k => (congrFun h1 (ix2 r k)).symm) r)
        (funext fun k => (congrFun h3 (ix2 _ k)).symm) (funext fun k => funext fun j => (congrFun h4 (ix3 _ k j)).symm)
        (funext fun d => (congrFun h5 (ix2 _ d)).symm) (funext fun d => (congrFun h6 (ix2 _ d)).symm)
        (funext fun d => (congrFun h7 (ix2 _ d)).symm) (funext fun d => (congrFun h8 (ix2 _ d)).symm) scale_eq j
  have at_all : ∀ i : Cert.Kernel2Ideal.S49152x3072.Idx,
      (Cert.Kernel2Ideal.InProj.dats m (ok_Kernel2Ideal m h) 0 0).arrAt 7 (Cert.Kernel2Ideal.Gen.cfgM m (ok_Kernel2Ideal m h)).N i
      = (truncf .bf16 (shapeCast Cert.Reference2Ideal.S49152x3072 (Cert.Reference2Ideal.Value.res_main_v166 V0) Cert.Reference2Ideal.Gen.shapeCasts_S3x16384x6x8x64_S49152x3072)
          Cert.Reference2Ideal.Gen.bitsLt_bf16_f32 : FVec Ideal Cert.Reference2Ideal.S49152x3072 .bf16) i := fun i => by
    have e : i = (ix2 (i 0 : Fin 49152) (i 1 : Fin 3072) : Cert.Kernel2Ideal.S49152x3072.Idx) :=
      funext fun a => by match a with | ⟨0, _⟩ => rfl | ⟨1, _⟩ => rfl
    rw [e]
    exact key _ _
  exact funext at_all

theorem algebraic : Cert.algebraic_Kernel2Ideal_Reference2Ideal := fun m ρ m' ρ' h hagree =>
  ⟨fun c => (Cert.Kernel2Ideal.InProj.dats m (ok_Kernel2Ideal m h) 0 c).arrAt 7 (Cert.Kernel2Ideal.Gen.cfgM m (ok_Kernel2Ideal m h)).N,
  by
    refine (θ_run Cert.Kernel2Ideal.defs _ _).mono ?_
      (θ_run_and (Cert.Kernel2Ideal.InProj.run_main m ρ (ok_Kernel2Ideal m h)) (Cert.Kernel2Ideal.InProj.unchanged m ρ (ok_Kernel2Ideal m h)))
    exact fun r q c => ⟨(q.1 c).1 7, q.2 c⟩,
  (θ_run Cert.Reference2Ideal.defs _ _).mono (fun r q c => ⟨(q c).1.trans (by
      obtain ⟨h0, h1, h2, h3, h4, h5, h6, h7, h8⟩ := hagree c
      exact (output_eq m h c (StableHlo.launchContents m' c) h0 h1 h2 h3 h4 h5 h6 h7 h8).symm), (q c).2⟩)
    (Cert.Reference2Ideal.Value.run (F := Ideal) m' ρ')⟩

end Cert.InProj
-- ==== Proof.KernelIdealSetup.lean ====
/- The experts' kernel as its pipeline runs it: the table words its branches read, the blocks its windows hold,
   and the memrefs its body is handed at each point. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Window 0 (operand 3 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 4 (result 0 (%0)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg1) (Memref.isWhole_whole _) (Memref.whole main_arg2) (Memref.isWhole_whole _) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _) (Memref.whole cc0_scratch2) (Memref.isWhole_whole _)

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S1 .i32 := Memref.whole main_arg1
abbrev htbM0_0 : tbM0_0.IsWhole := Memref.isWhole_whole _
abbrev tbM0_1 : Memref sig .tc .smem S224 .i32 := Memref.whole main_arg2
abbrev htbM0_1 : tbM0_1.IsWhole := Memref.isWhole_whole _
abbrev tbM0_2 : Memref sig .tc .smem S1 .i32 := Memref.whole main_arg3
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = {0, 1, 2} from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    the run postcondition read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).1 3).trans (((dats 0 c).arrAt_in 3 rfl _).trans ((hA c 3).trans (V_main_arg6 m c)))⟩) h

/-- Each window's current staging memref at point `t`, spelled as the pipeline passes it (`bodyAt0`), and its wholeness. -/
abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x1024 .bf16 := Memref.whole cc0_scratch2
/-- The scratch `arg9` the kernel carries between points, as a view: what it holds is stated through it. -/
abbrev VS0_0 : View sig .tc .vmem S1024x512 .bf16 := scM0_0.view
/-- The scratch `arg10` the kernel carries between points, as a view: what it holds is stated through it. -/
abbrev VS0_1 : View sig .tc .vmem S1024x512 .bf16 := scM0_1.view
/-- The scratch `arg11` the kernel carries between points, as a view: what it holds is stated through it. -/
abbrev VS0_2 : View sig .tc .vmem S512x1024 .bf16 := scM0_2.view

/-- The frame kit's invariant with the scratch operands as memrefs owned at some contents (each scratch buffer
    owned whole): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-! ## The words the body's branches read -/

/-- The table of the blocks' experts read at an offset. -/
abbrev expertAt (T : S224.Idx → Elt F .i32) (off : Fin 1 → ℕ) (inb : ∀ a, off a + S1.size a ≤ S224.size a) : Elt F .i32 :=
  View.readAt (Elt F) tbM0_1.view (Rect.unit (s := S224) off S1.size inb).toLoadRect T (Shape.Idx.first (numel1_S1.symm ▸ Nat.one_pos))
/-- The number of blocks in use. -/
abbrev used (T : S1.Idx → Elt F .i32) : Elt F .i32 :=
  View.readAt (Elt F) tbM0_2.view (Rect.unit (s := S1) ![0] S1.size inb_S1_S1_0).toLoadRect T (Shape.Idx.first (numel1_S1.symm ▸ Nat.one_pos))
/-- The body converts the weights at point `i`: the first point, or the block's expert is another than the block before's. -/
abbrev Reload (T : S224.Idx → Elt F .i32) (i : grid0.Coords) : Prop :=
  Scalar.cmpi .ne (Scalar.extui (Scalar.ori (Scalar.cmpi .eq (BitVec.ofNat 32 (i 0).val) 0#32)
    (Scalar.cmpi .ne (expertAt T (k0_off1 i) (k0_off1_inb i)) (expertAt T (k0_off2 i) (k0_off2_inb i))))) 0#32 = 1#1

end Cert.KernelIdeal.Experts

end
-- ==== Proof.KernelIdealRun.lean ====
/- One grid point of the experts' kernel: from the blocks its windows hold, its body leaves the converted weights in the
   scratch buffers and the block of outputs in the output window. -/
module

public import proofs.«01_k».proof.Proof.KernelIdealSetup
public import Idealize.ShloMosaic.Lib.Pipeline.Value
public import Idealize.ShloMosaic.Lib.WholeRead

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The upper and the lower half of the rows of a block of slots. -/
abbrev upper : Rect S512x1024 := Rect.unit (s := S512x1024) ![0, 0] S256x1024.size inb_S512x1024_S256x1024_0_0
abbrev lower : Rect S512x1024 := Rect.unit (s := S512x1024) ![256, 0] S256x1024.size inb_S512x1024_S256x1024_256_0

/-- The stores of a block in use: the gated MLP of its upper rows, then of its lower rows. -/
abbrev usedPieces (x0 : Vec F S512x1024 .bf16) (s0 s1 : Vec F S1024x512 .bf16) (s2 : Vec F S512x1024 .bf16) :
    List (View.Piece (Elt F) S512x1024 .bf16) :=
  [⟨lower, k0_pay5 (View.ld x0 lower) s0 s1 s2⟩, ⟨upper, k0_pay4 (View.ld x0 upper) s0 s1 s2⟩]
/-- What a block in use is left with. -/
def outUsed (x0 : Vec F S512x1024 .bf16) (s0 s1 : Vec F S1024x512 .bf16) (s2 : Vec F S512x1024 .bf16) :
    Vec F S512x1024 .bf16 := View.canon (usedPieces x0 s0 s1 s2)

/-- A load through a rectangle of a buffer that holds `X` reads `X` there. -/
theorem readAt_rect {S : Shape} {e : EltTy} {M : Memref sig .tc .vmem S e} (h : M.IsWhole) (X : S.Idx → Elt F e) (r : Rect S) :
    View.readAt (Elt F) M.view r.toLoadRect (h.unread X) = View.ld X r :=
  funext fun x => h.readAt_unread X r.toLoadRect x

theorem zero2 : (![0, 0] : Fin 2 → ℕ) = fun _ => 0 := by funext a; fin_cases a <;> rfl
theorem zero4 : (![0, 0, 0, 0] : Fin 4 → ℕ) = fun _ => 0 := by funext a; fin_cases a <;> rfl

set_option maxHeartbeats 1600000 in
/-- A point that converts the weights and computes its block. -/
theorem run_reload_used (c : Dev nD) (i : grid0.Coords) (arg4 : Memref sig .tc .vmem S512x1024 .bf16) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S512x1024 .bf16) (x1 x2 : Vec F S1x1x1024x512 .f32) (x3 : Vec F S1x1x512x1024 .f32) (xt0 : TbBuf0 (F := F) c tbM0_0) (xt1 : TbBuf0 (F := F) c tbM0_1) (xt2 : TbBuf0 (F := F) c tbM0_2)
    (hr : Reload xt1 i) (h2 : k0_cond2 i (used xt2) = 1#1) (h3 : ¬k0_cond3 i (used xt2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outUsed x0 (k0_pay1 x1) (k0_pay2 x2) (k0_pay3 x3)) ∗ owns (c : Thread nD τ) arg9 fullShare (k0_pay1 x1) ∗ owns (c : Thread nD τ) arg10 fullShare (k0_pay2 x2) ∗ owns (c : Thread nD τ) arg11 fullShare (k0_pay3 x3) ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  rw [cc0_experts_eq_skeleton]; unfold cc0_experts_skel owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, HT2, Hk⟩
  obtain rfl := harg4.eq_unread hf0; obtain rfl := harg5.eq_unread hf1; obtain rfl := harg6.eq_unread hf2; obtain rfl := harg7.eq_unread hf3
  sl_exec! (disch := first | (guard_target = Scalar.cmpi _ _ _ = _; exact hr) | (guard_target = k0_cond2 _ _ = _; exact h2) | (guard_target = ¬(k0_cond3 _ _ = _); exact h3))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    rw [View.read_writes_junk_eq_canon]; unfold outUsed; dsimp only [run_reload_used.sl.H4_2]
    simp only [readAt_rect]
    have e1 : run_reload_used.sl.v20 c arg5 harg5 arg9 x1 = k0_pay1 x1 :=
      (View.readCov_unit_zero (S := S1024x512) _ zero2 _ _).trans (by rw [readAt_rect, View.ld_unit_zero (S := S1x1x1024x512) zero4])
    have e2 : run_reload_used.sl.v22 c arg6 harg6 arg10 x2 = k0_pay2 x2 :=
      (View.readCov_unit_zero (S := S1024x512) _ zero2 _ _).trans (by rw [readAt_rect, View.ld_unit_zero (S := S1x1x1024x512) zero4])
    have e3 : run_reload_used.sl.v33 c arg7 harg7 arg11 x3 = k0_pay3 x3 :=
      (View.readCov_unit_zero (S := S512x1024) _ zero2 _ _).trans (by rw [readAt_rect, View.ld_unit_zero (S := S1x1x512x1024) zero4])
    rw [e1, e2, e3]
  isplitl [HS0]
  · iexists _; isplitr
    swap; · iexact HS0
    ipureintro
    rw [View.read_writes_junk_eq_canon]
    refine (View.canon_unit_zero (S := S1024x512) zero2 _ _).trans ?_
    rw [readAt_rect, View.ld_unit_zero (S := S1x1x1024x512) zero4]
  isplitl [HS1]
  · iexists _; isplitr
    swap; · iexact HS1
    ipureintro
    rw [View.read_writes_junk_eq_canon]
    refine (View.canon_unit_zero (S := S1024x512) zero2 _ _).trans ?_
    rw [readAt_rect, View.ld_unit_zero (S := S1x1x1024x512) zero4]
  isplitl [HS2]
  · iexists _; isplitr
    swap; · iexact HS2
    ipureintro
    rw [View.read_writes_junk_eq_canon]
    refine (View.canon_unit_zero (S := S512x1024) zero2 _ _).trans ?_
    rw [readAt_rect, View.ld_unit_zero (S := S1x1x512x1024) zero4]
  isplitl [HT0]; · iexact HT0
  isplitl [HT1]; · iexact HT1
  iexact HT2

set_option maxHeartbeats 1600000 in
/-- A point that converts the weights, its block past those in use. -/
theorem run_reload_unused (c : Dev nD) (i : grid0.Coords) (arg4 : Memref sig .tc .vmem S512x1024 .bf16) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S512x1024 .bf16) (x1 x2 : Vec F S1x1x1024x512 .f32) (x3 : Vec F S1x1x512x1024 .f32) (xt0 : TbBuf0 (F := F) c tbM0_0) (xt1 : TbBuf0 (F := F) c tbM0_1) (xt2 : TbBuf0 (F := F) c tbM0_2)
    (hr : Reload xt1 i) (h2 : ¬k0_cond2 i (used xt2) = 1#1) (h3 : k0_cond3 i (used xt2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay6 ∗ owns (c : Thread nD τ) arg9 fullShare (k0_pay1 x1) ∗ owns (c : Thread nD τ) arg10 fullShare (k0_pay2 x2) ∗ owns (c : Thread nD τ) arg11 fullShare (k0_pay3 x3) ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  rw [cc0_experts_eq_skeleton]; unfold cc0_experts_skel owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, HT2, Hk⟩
  obtain rfl := harg4.eq_unread hf0; obtain rfl := harg5.eq_unread hf1; obtain rfl := harg6.eq_unread hf2; obtain rfl := harg7.eq_unread hf3
  sl_exec! (disch := first | (guard_target = Scalar.cmpi _ _ _ = _; exact hr) | (guard_target = ¬(k0_cond2 _ _ = _); exact h2) | (guard_target = k0_cond3 _ _ = _; exact h3))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    rw [View.read_writes_junk_eq_canon]; exact View.canon_unit_zero (S := S512x1024) zero2 _ _
  isplitl [HS0]
  · iexists _; isplitr
    swap; · iexact HS0
    ipureintro
    rw [View.read_writes_junk_eq_canon]
    refine (View.canon_unit_zero (S := S1024x512) zero2 _ _).trans ?_
    rw [readAt_rect, View.ld_unit_zero (S := S1x1x1024x512) zero4]
  isplitl [HS1]
  · iexists _; isplitr
    swap; · iexact HS1
    ipureintro
    rw [View.read_writes_junk_eq_canon]
    refine (View.canon_unit_zero (S := S1024x512) zero2 _ _).trans ?_
    rw [readAt_rect, View.ld_unit_zero (S := S1x1x1024x512) zero4]
  isplitl [HS2]
  · iexists _; isplitr
    swap; · iexact HS2
    ipureintro
    rw [View.read_writes_junk_eq_canon]
    refine (View.canon_unit_zero (S := S512x1024) zero2 _ _).trans ?_
    rw [readAt_rect, View.ld_unit_zero (S := S1x1x512x1024) zero4]
  isplitl [HT0]; · iexact HT0
  isplitl [HT1]; · iexact HT1
  iexact HT2

set_option maxHeartbeats 1600000 in
/-- A point that finds the weights converted and computes its block. -/
theorem run_keep_used (c : Dev nD) (i : grid0.Coords) (arg4 : Memref sig .tc .vmem S512x1024 .bf16) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S512x1024 .bf16) (x1 x2 : Vec F S1x1x1024x512 .f32) (x3 : Vec F S1x1x512x1024 .f32) (xt0 : TbBuf0 (F := F) c tbM0_0) (xt1 : TbBuf0 (F := F) c tbM0_1) (xt2 : TbBuf0 (F := F) c tbM0_2) (xs0 xs1 : Vec F S1024x512 .bf16) (xs2 : Vec F S512x1024 .bf16)
    (hr : ¬Reload xt1 i) (h2 : k0_cond2 i (used xt2) = 1#1) (h3 : ¬k0_cond3 i (used xt2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (outUsed x0 xs0 xs1 xs2) ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  rw [cc0_experts_eq_skeleton]; unfold cc0_experts_skel owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, HT0, HT1, HT2, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  sl_exec! (disch := first | (guard_target = ¬(Scalar.cmpi _ _ _ = _); exact hr) | (guard_target = k0_cond2 _ _ = _; exact h2) | (guard_target = ¬(k0_cond3 _ _ = _); exact h3))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    rw [View.read_writes_junk_eq_canon]; unfold outUsed; dsimp only [run_keep_used.sl.H4_2]
    simp only [readAt_rect]
    rw [View.ld_unit_zero (S := S1024x512) zero2, View.ld_unit_zero (S := S1024x512) zero2, View.ld_unit_zero (S := S512x1024) zero2]
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HT0]; · iexact HT0
  isplitl [HT1]; · iexact HT1
  iexact HT2

set_option maxHeartbeats 1600000 in
/-- A point that finds the weights converted, its block past those in use. -/
theorem run_keep_unused (c : Dev nD) (i : grid0.Coords) (arg4 : Memref sig .tc .vmem S512x1024 .bf16) (harg4 : arg4.IsWhole) (arg5 : Memref sig .tc .vmem S1x1x1024x512 .f32) (harg5 : arg5.IsWhole) (arg6 : Memref sig .tc .vmem S1x1x1024x512 .f32) (harg6 : arg6.IsWhole) (arg7 : Memref sig .tc .vmem S1x1x512x1024 .f32) (harg7 : arg7.IsWhole) (arg8 : Memref sig .tc .vmem S512x1024 .bf16) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S512x1024 .bf16) (harg11 : arg11.IsWhole)
    (x0 : Vec F S512x1024 .bf16) (x1 x2 : Vec F S1x1x1024x512 .f32) (x3 : Vec F S1x1x512x1024 .f32) (xt0 : TbBuf0 (F := F) c tbM0_0) (xt1 : TbBuf0 (F := F) c tbM0_1) (xt2 : TbBuf0 (F := F) c tbM0_2) (xs0 xs1 : Vec F S1024x512 .bf16) (xs2 : Vec F S512x1024 .bf16)
    (hr : ¬Reload xt1 i) (h2 : ¬k0_cond2 i (used xt2) = 1#1) (h3 : k0_cond3 i (used xt2) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare k0_pay6 ∗ owns (c : Thread nD τ) arg9 fullShare xs0 ∗ owns (c : Thread nD τ) arg10 fullShare xs1 ∗ owns (c : Thread nD τ) arg11 fullShare xs2 ∗ tbPt0 c tbM0_0 xt0 ∗ tbPt0 c tbM0_1 xt1 ∗ tbPt0 c tbM0_2 xt2) -∗ K ⟨⟩))
      ⊢ wp frame (wpE (defs₀ (F := F)) Variants.none c none) E (cc0_experts i tbM0_0 htbM0_0 tbM0_1 htbM0_1 tbM0_2 htbM0_2 arg4 harg4 arg5 harg5 arg6 harg6 arg7 harg7 arg8 harg8 arg9 harg9 arg10 harg10 arg11 harg11) K := by
  rw [cc0_experts_eq_skeleton]; unfold cc0_experts_skel owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, HT0, HT1, HT2, Hk⟩
  obtain rfl := harg4.eq_unread hf0; obtain rfl := harg5.eq_unread hf1; obtain rfl := harg6.eq_unread hf2; obtain rfl := harg7.eq_unread hf3; obtain rfl := harg9.eq_unread hfs0; obtain rfl := harg10.eq_unread hfs1; obtain rfl := harg11.eq_unread hfs2
  sl_exec! (disch := first | (guard_target = ¬(Scalar.cmpi _ _ _ = _); exact hr) | (guard_target = ¬(k0_cond2 _ _ = _); exact h2) | (guard_target = k0_cond3 _ _ = _; exact h3))
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr
    swap; · iexact H4
    ipureintro
    rw [View.read_writes_junk_eq_canon]; exact View.canon_unit_zero (S := S512x1024) zero2 _ _
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [HT0]; · iexact HT0
  isplitl [HT1]; · iexact HT1
  iexact HT2

end Cert.KernelIdeal.Experts

end
-- ==== Proof.KernelIdealFrame.lean ====
/- The experts' kernel from launch to end: after a point its scratch buffers hold the converted weights of that point's
   expert, whether it converted them or kept those of the point before, and its output window holds the block's outputs. -/
module

public import proofs.«01_k».proof.Proof.KernelIdealRun
public import Idealize.ShloMosaic.Lib.Pipeline.Value
public import Idealize.ShloMosaic.Lib.Claim

@[expose] public section

set_option maxRecDepth 16384

noncomputable section

namespace Cert.KernelIdeal.Experts

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches -/

/-- A block past those in use is stored as zeros, and only such a block. -/
theorem cond3_iff (i : grid0.Coords) (w : BitVec 32) : k0_cond3 i w = 1#1 ↔ ¬k0_cond2 i w = 1#1 := by
  have key : ∀ x y : BitVec 32, IntOp.cmpi .sge x y = ~~~(IntOp.cmpi .slt x y) := fun x y => by
    rw [WordCmp.cmpi_sge_eq, WordCmp.cmpi_slt_eq]
    by_cases h : x.toInt < y.toInt
    · rw [decide_eq_true h, decide_eq_false (not_le.mpr h)]; rfl
    · rw [decide_eq_false h, decide_eq_true (not_lt.mp h)]; rfl
  have bit : ∀ b : BitVec 1, (Scalar.cmpi .ne (Scalar.extui (~~~b) : BitVec 32) 0#32 = 1#1) ↔ ¬(Scalar.cmpi .ne (Scalar.extui b : BitVec 32) 0#32 = 1#1) := by
    decide
  unfold k0_cond3 k0_cond2
  dsimp only
  rw [show Scalar.cmpi .sge (BitVec.ofNat 32 (i 0).val) w = ~~~(Scalar.cmpi .slt (BitVec.ofNat 32 (i 0).val) w) from key _ _]
  exact bit _

/-- The output window is stored into at every point. -/
theorem idle_4 (hO : Ok m) (i : grid0.Coords) : (cfgM m hO).idle 4 i = false := by
  show (!(k0_cond2 i ((tbl m).atD 2 ![0]) == 1#1) && !(k0_cond3 i ((tbl m).atD 2 ![0]) == 1#1)) = false
  by_cases h : k0_cond2 i ((tbl m).atD 2 ![0]) = 1#1
  · rw [h]; rfl
  · rw [(cond3_iff i _).mpr h]; rw [Bool.and_eq_false_iff]; right; rfl

/-- A point that keeps the converted weights is not the first, and the two words it compared are equal. -/
theorem keep_iff (T : S224.Idx → Elt F .i32) (i : grid0.Coords) (h : ¬Reload T i) :
    (i 0).val ≠ 0 ∧ expertAt T (k0_off1 i) (k0_off1_inb i) = expertAt T (k0_off2 i) (k0_off2_inb i) := by
  have bit : ∀ a b : BitVec 1, (¬Scalar.cmpi .ne (Scalar.extui (Scalar.ori a b) : BitVec 32) 0#32 = 1#1) → a = 0#1 ∧ b = 0#1 := by decide
  obtain ⟨ha, hb⟩ := bit _ _ h
  refine ⟨fun h0 => ?_, ?_⟩
  · rw [h0] at ha; revert ha; decide
  · generalize expertAt T (k0_off1 i) (k0_off1_inb i) = x at hb ⊢
    generalize expertAt T (k0_off2 i) (k0_off2_inb i) = y at hb ⊢
    by_contra hxy
    have : Scalar.cmpi .ne x y = 1#1 := by
      rw [show Scalar.cmpi .ne x y = BitVec.ofBool (decide (x ≠ y)) from WordCmp.cmpi_ne_eq x y, decide_eq_true hxy]; rfl
    rw [this] at hb; exact absurd hb (by decide)

theorem off2_eq : ∀ i : grid0.Coords, k0_off2 i = ![(i 0).val - 1] := by decide +kernel

/-- The expert's number at a point, as the windows' index maps read it. -/
def expert (T : S224.Idx → Elt F .i32) (n : ℕ) : BitVec 32 := if h : n < 224 then T (fun a => match a with | ⟨0, _⟩ => ⟨n, h⟩) else 0#32

theorem expert_of_lt (T : S224.Idx → Elt F .i32) (n : ℕ) (h : n < 224) (j : S224.Idx) (hj : (j 0).val = n) : expert T n = T j := by
  unfold expert; rw [dif_pos h]
  exact congrArg T (funext fun a => Fin.ext (match a with | ⟨0, _⟩ => hj.symm))

theorem expert_lt (T : S224.Idx → Elt F .i32) (h : ∀ j : S224.Idx, BitVec.toNat (w := 32) (T j) < 32) (n : ℕ) : (expert T n).toNat < 32 := by
  unfold expert
  by_cases hn : n < 224
  · rw [dif_pos hn]; exact h _
  · rw [dif_neg hn]; decide

theorem expertAt_eq (T : S224.Idx → Elt F .i32) (off : Fin 1 → ℕ) (inb : ∀ a, off a + S1.size a ≤ S224.size a) :
    expertAt T off inb = expert T (off 0) := by
  have h : off 0 < 224 := inb 0
  unfold expert; rw [dif_pos h]
  refine congrArg T (funext fun a => Fin.ext ?_)
  match a with
  | ⟨0, _⟩ => show off 0 + 1 * 0 = off 0; omega

theorem coords_0 (t : Fin grid0.N) : (grid0.coords t 0).val = t.val := by
  have ht : t.val < 224 := Nat.lt_of_lt_of_eq t.isLt N_0
  rw [show (grid0.coords t 0).val = t.val / 1 % 224 from Pipeline.Grid.coords_val t 0 (by decide) rfl]
  omega

/-- The layer's number, as the windows' index maps read it. -/
def layer (T : S1.Idx → Elt F .i32) : BitVec 32 := T (fun a => match a with | ⟨0, _⟩ => ⟨0, Nat.one_pos⟩)

theorem transform_1 (T : pre0.Contents (Elt F)) (i : grid0.Coords) :
    cc0_transform_1 inb_S1_S1_0 numel1_S1 k0_off1_inb T i = ![(layer (F := F) (T 0)).toNat, (expert (F := F) (T 1) (i 0).val).toNat, 0, 0] := by
  have e0 : T.at 0 (Rect.unit (s := S1) ![0] S1.size inb_S1_S1_0) numel1_S1 = layer (F := F) (T 0) :=
    congrArg (T 0) (funext fun a => match a with | ⟨0, _⟩ => rfl)
  have e1 : T.at 1 (Rect.unit (s := S224) (k0_off1 i) S1.size (k0_off1_inb i)) numel1_S1 = expert (F := F) (T 1) (i 0).val := by
    have h := expertAt_eq (F := F) (T 1) (k0_off1 i) (k0_off1_inb i)
    rw [show k0_off1 i 0 = (i 0).val from congrFun (k0_off1_eq i) 0] at h
    exact h
  show ![BitVec.toNat (T.at 0 (Rect.unit (s := S1) ![0] S1.size inb_S1_S1_0) numel1_S1),
    BitVec.toNat (T.at 1 (Rect.unit (s := S224) (k0_off1 i) S1.size (k0_off1_inb i)) numel1_S1), 0, 0] = _
  rw [e0, e1]

/-- Window 1's block at a point is the layer's and the expert's matrix in the stacked array. -/
theorem iblk_1 (hO : Ok m) (c : Dev nD) (t : Fin (cfgM m hO).N) (x : S1x1x1024x512.Idx) (y : S4x32x1024x512.Idx)
    (h0 : (y 0).val = (layer (F := F) (tbl m 0)).toNat) (h1 : (y 1).val = (expert (F := F) (tbl m 1) t.val).toNat)
    (h2 : (y 2).val = (x 2).val) (h3 : (y 3).val = (x 3).val) : iblk m hO c 1 t x = V m c main_arg4 y := by
  refine congrArg (V m c main_arg4) (funext fun a => Fin.ext ?_)
  refine (Pipeline.Window.rect_emb_val ((cfgM m hO).win 1) t x a rfl).trans ?_
  show cc0_transform_1 inb_S1_S1_0 numel1_S1 k0_off1_inb (tbl m) (grid0.coords t) a * S1x1x1024x512.size a + (x a).val = (y a).val
  have x0 : (x 0).val = 0 := Nat.lt_one_iff.mp (x 0).isLt
  have x1 : (x 1).val = 0 := Nat.lt_one_iff.mp (x 1).isLt
  rw [transform_1, coords_0]
  match a with
  | ⟨0, _⟩ => show (layer (F := F) (tbl m 0)).toNat * 1 + (x 0).val = (y 0).val; omega
  | ⟨1, _⟩ => show (expert (F := F) (tbl m 1) t.val).toNat * 1 + (x 1).val = (y 1).val; omega
  | ⟨2, _⟩ => show 0 * 1024 + (x 2).val = (y 2).val; omega
  | ⟨3, _⟩ => show 0 * 512 + (x 3).val = (y 3).val; omega

/-- Two points of one expert have the same block in window 1. -/
theorem iblk_1_congr (hO : Ok m) (c : Dev nD) (t t' : Fin (cfgM m hO).N)
    (h : expert (F := F) (tbl m 1) t.val = expert (F := F) (tbl m 1) t'.val) : iblk m hO c 1 t = iblk m hO c 1 t' := by
  refine funext fun (x : S1x1x1024x512.Idx) => ?_
  have e (u : Fin (cfgM m hO).N) (a : Fin 4) := (Pipeline.Window.rect_emb_val ((cfgM m hO).win 1) u x a rfl).trans
    (congrArg (· * S1x1x1024x512.size a + (x a).val) (congrFun ((transform_1 (tbl m) (grid0.coords u)).trans (by rw [coords_0])) a))
  have x0 : (x 0).val = 0 := Nat.lt_one_iff.mp (x 0).isLt
  have x1 : (x 1).val = 0 := Nat.lt_one_iff.mp (x 1).isLt
  refine iblk_1 m hO c t x ((((cfgM m hO).win 1).rect t').emb x) ?_ ?_ ?_ ?_
  · refine (e t' 0).trans ?_
    show (layer (F := F) (tbl m 0)).toNat * 1 + (x 0).val = _; omega
  · refine (e t' 1).trans ?_
    show (expert (F := F) (tbl m 1) t'.val).toNat * 1 + (x 1).val = _; rw [h]; omega
  · refine (e t' 2).trans ?_
    show 0 * 1024 + (x 2).val = _; omega
  · refine (e t' 3).trans ?_
    show 0 * 512 + (x 3).val = _; omega

theorem transform_2 (T : pre0.Contents (Elt F)) (i : grid0.Coords) :
    cc0_transform_2 inb_S1_S1_0 numel1_S1 k0_off1_inb T i = ![(layer (F := F) (T 0)).toNat, (expert (F := F) (T 1) (i 0).val).toNat, 0, 0] := by
  have e0 : T.at 0 (Rect.unit (s := S1) ![0] S1.size inb_S1_S1_0) numel1_S1 = layer (F := F) (T 0) :=
    congrArg (T 0) (funext fun a => match a with | ⟨0, _⟩ => rfl)
  have e1 : T.at 1 (Rect.unit (s := S224) (k0_off1 i) S1.size (k0_off1_inb i)) numel1_S1 = expert (F := F) (T 1) (i 0).val := by
    have h := expertAt_eq (F := F) (T 1) (k0_off1 i) (k0_off1_inb i)
    rw [show k0_off1 i 0 = (i 0).val from congrFun (k0_off1_eq i) 0] at h
    exact h
  show ![BitVec.toNat (T.at 0 (Rect.unit (s := S1) ![0] S1.size inb_S1_S1_0) numel1_S1),
    BitVec.toNat (T.at 1 (Rect.unit (s := S224) (k0_off1 i) S1.size (k0_off1_inb i)) numel1_S1), 0, 0] = _
  rw [e0, e1]

/-- Window 2's block at a point is the layer's and the expert's matrix in the stacked array. -/
theorem iblk_2 (hO : Ok m) (c : Dev nD) (t : Fin (cfgM m hO).N) (x : S1x1x1024x512.Idx) (y : S4x32x1024x512.Idx)
    (h0 : (y 0).val = (layer (F := F) (tbl m 0)).toNat) (h1 : (y 1).val = (expert (F := F) (tbl m 1) t.val).toNat)
    (h2 : (y 2).val = (x 2).val) (h3 : (y 3).val = (x 3).val) : iblk m hO c 2 t x = V m c main_arg5 y := by
  refine congrArg (V m c main_arg5) (funext fun a => Fin.ext ?_)
  refine (Pipeline.Window.rect_emb_val ((cfgM m hO).win 2) t x a rfl).trans ?_
  show cc0_transform_2 inb_S1_S1_0 numel1_S1 k0_off1_inb (tbl m) (grid0.coords t) a * S1x1x1024x512.size a + (x a).val = (y a).val
  have x0 : (x 0).val = 0 := Nat.lt_one_iff.mp (x 0).isLt
  have x1 : (x 1).val = 0 := Nat.lt_one_iff.mp (x 1).isLt
  rw [transform_2, coords_0]
  match a with
  | ⟨0, _⟩ => show (layer (F := F) (tbl m 0)).toNat * 1 + (x 0).val = (y 0).val; omega
  | ⟨1, _⟩ => show (expert (F := F) (tbl m 1) t.val).toNat * 1 + (x 1).val = (y 1).val; omega
  | ⟨2, _⟩ => show 0 * 1024 + (x 2).val = (y 2).val; omega
  | ⟨3, _⟩ => show 0 * 512 + (x 3).val = (y 3).val; omega

/-- Two points of one expert have the same block in window 2. -/
theorem iblk_2_congr (hO : Ok m) (c : Dev nD) (t t' : Fin (cfgM m hO).N)
    (h : expert (F := F) (tbl m 1) t.val = expert (F := F) (tbl m 1) t'.val) : iblk m hO c 2 t = iblk m hO c 2 t' := by
  refine funext fun (x : S1x1x1024x512.Idx) => ?_
  have e (u : Fin (cfgM m hO).N) (a : Fin 4) := (Pipeline.Window.rect_emb_val ((cfgM m hO).win 2) u x a rfl).trans
    (congrArg (· * S1x1x1024x512.size a + (x a).val) (congrFun ((transform_2 (tbl m) (grid0.coords u)).trans (by rw [coords_0])) a))
  have x0 : (x 0).val = 0 := Nat.lt_one_iff.mp (x 0).isLt
  have x1 : (x 1).val = 0 := Nat.lt_one_iff.mp (x 1).isLt
  refine iblk_2 m hO c t x ((((cfgM m hO).win 2).rect t').emb x) ?_ ?_ ?_ ?_
  · refine (e t' 0).trans ?_
    show (layer (F := F) (tbl m 0)).toNat * 1 + (x 0).val = _; omega
  · refine (e t' 1).trans ?_
    show (expert (F := F) (tbl m 1) t'.val).toNat * 1 + (x 1).val = _; rw [h]; omega
  · refine (e t' 2).trans ?_
    show 0 * 1024 + (x 2).val = _; omega
  · refine (e t' 3).trans ?_
    show 0 * 512 + (x 3).val = _; omega

theorem transform_3 (T : pre0.Contents (Elt F)) (i : grid0.Coords) :
    cc0_transform_3 inb_S1_S1_0 numel1_S1 k0_off1_inb T i = ![(layer (F := F) (T 0)).toNat, (expert (F := F) (T 1) (i 0).val).toNat, 0, 0] := by
  have e0 : T.at 0 (Rect.unit (s := S1) ![0] S1.size inb_S1_S1_0) numel1_S1 = layer (F := F) (T 0) :=
    congrArg (T 0) (funext fun a => match a with | ⟨0, _⟩ => rfl)
  have e1 : T.at 1 (Rect.unit (s := S224) (k0_off1 i) S1.size (k0_off1_inb i)) numel1_S1 = expert (F := F) (T 1) (i 0).val := by
    have h := expertAt_eq (F := F) (T 1) (k0_off1 i) (k0_off1_inb i)
    rw [show k0_off1 i 0 = (i 0).val from congrFun (k0_off1_eq i) 0] at h
    exact h
  show ![BitVec.toNat (T.at 0 (Rect.unit (s := S1) ![0] S1.size inb_S1_S1_0) numel1_S1),
    BitVec.toNat (T.at 1 (Rect.unit (s := S224) (k0_off1 i) S1.size (k0_off1_inb i)) numel1_S1), 0, 0] = _
  rw [e0, e1]

/-- Window 3's block at a point is the layer's and the expert's matrix in the stacked array. -/
theorem iblk_3 (hO : Ok m) (c : Dev nD) (t : Fin (cfgM m hO).N) (x : S1x1x512x1024.Idx) (y : S4x32x512x1024.Idx)
    (h0 : (y 0).val = (layer (F := F) (tbl m 0)).toNat) (h1 : (y 1).val = (expert (F := F) (tbl m 1) t.val).toNat)
    (h2 : (y 2).val = (x 2).val) (h3 : (y 3).val = (x 3).val) : iblk m hO c 3 t x = V m c main_arg6 y := by
  refine congrArg (V m c main_arg6) (funext fun a => Fin.ext ?_)
  refine (Pipeline.Window.rect_emb_val ((cfgM m hO).win 3) t x a rfl).trans ?_
  show cc0_transform_3 inb_S1_S1_0 numel1_S1 k0_off1_inb (tbl m) (grid0.coords t) a * S1x1x512x1024.size a + (x a).val = (y a).val
  have x0 : (x 0).val = 0 := Nat.lt_one_iff.mp (x 0).isLt
  have x1 : (x 1).val = 0 := Nat.lt_one_iff.mp (x 1).isLt
  rw [transform_3, coords_0]
  match a with
  | ⟨0, _⟩ => show (layer (F := F) (tbl m 0)).toNat * 1 + (x 0).val = (y 0).val; omega
  | ⟨1, _⟩ => show (expert (F := F) (tbl m 1) t.val).toNat * 1 + (x 1).val = (y 1).val; omega
  | ⟨2, _⟩ => show 0 * 512 + (x 2).val = (y 2).val; omega
  | ⟨3, _⟩ => show 0 * 1024 + (x 3).val = (y 3).val; omega

/-- Two points of one expert have the same block in window 3. -/
theorem iblk_3_congr (hO : Ok m) (c : Dev nD) (t t' : Fin (cfgM m hO).N)
    (h : expert (F := F) (tbl m 1) t.val = expert (F := F) (tbl m 1) t'.val) : iblk m hO c 3 t = iblk m hO c 3 t' := by
  refine funext fun (x : S1x1x512x1024.Idx) => ?_
  have e (u : Fin (cfgM m hO).N) (a : Fin 4) := (Pipeline.Window.rect_emb_val ((cfgM m hO).win 3) u x a rfl).trans
    (congrArg (· * S1x1x512x1024.size a + (x a).val) (congrFun ((transform_3 (tbl m) (grid0.coords u)).trans (by rw [coords_0])) a))
  have x0 : (x 0).val = 0 := Nat.lt_one_iff.mp (x 0).isLt
  have x1 : (x 1).val = 0 := Nat.lt_one_iff.mp (x 1).isLt
  refine iblk_3 m hO c t x ((((cfgM m hO).win 3).rect t').emb x) ?_ ?_ ?_ ?_
  · refine (e t' 0).trans ?_
    show (layer (F := F) (tbl m 0)).toNat * 1 + (x 0).val = _; omega
  · refine (e t' 1).trans ?_
    show (expert (F := F) (tbl m 1) t'.val).toNat * 1 + (x 1).val = _; rw [h]; omega
  · refine (e t' 2).trans ?_
    show 0 * 512 + (x 2).val = _; omega
  · refine (e t' 3).trans ?_
    show 0 * 1024 + (x 3).val = _; omega

/-! ## The pipeline's side condition of the tables -/

/-- With the layer one of the stacked layers and every block's expert one of a layer's experts, every block the windows
    name lies inside its array. -/
theorem ok_of_range (hl : ∀ j : S1.Idx, BitVec.toNat (w := 32) (tbl m 0 j) < 4) (he : ∀ j : S224.Idx, BitVec.toNat (w := 32) (tbl m 1 j) < 32) : Ok m := by
  have h0 : (layer (F := F) (tbl m 0)).toNat < 4 := hl _
  have h1 := expert_lt (F := F) (tbl m 1) he
  refine ⟨fun i => ⟨fun a => ?_, .inl rfl⟩, fun i => ⟨fun a => ?_, .inl rfl⟩, fun i => ⟨fun a => ?_, .inl rfl⟩⟩
  · rw [transform_1]
    have := h1 (i 0).val
    match a with
    | ⟨0, _⟩ => show ((layer (F := F) (tbl m 0)).toNat + 1) * 1 ≤ 4; omega
    | ⟨1, _⟩ => show ((expert (F := F) (tbl m 1) (i 0).val).toNat + 1) * 1 ≤ 32; omega
    | ⟨2, _⟩ => show (0 + 1) * 1024 ≤ 1024; omega
    | ⟨3, _⟩ => show (0 + 1) * 512 ≤ 512; omega
  · rw [transform_2]
    have := h1 (i 0).val
    match a with
    | ⟨0, _⟩ => show ((layer (F := F) (tbl m 0)).toNat + 1) * 1 ≤ 4; omega
    | ⟨1, _⟩ => show ((expert (F := F) (tbl m 1) (i 0).val).toNat + 1) * 1 ≤ 32; omega
    | ⟨2, _⟩ => show (0 + 1) * 1024 ≤ 1024; omega
    | ⟨3, _⟩ => show (0 + 1) * 512 ≤ 512; omega
  · rw [transform_3]
    have := h1 (i 0).val
    match a with
    | ⟨0, _⟩ => show ((layer (F := F) (tbl m 0)).toNat + 1) * 1 ≤ 4; omega
    | ⟨1, _⟩ => show ((expert (F := F) (tbl m 1) (i 0).val).toNat + 1) * 1 ≤ 32; omega
    | ⟨2, _⟩ => show (0 + 1) * 512 ≤ 512; omega
    | ⟨3, _⟩ => show (0 + 1) * 1024 ≤ 1024; omega

/-- A point that keeps the converted weights is the point before's expert's. -/
theorem expert_keep (hO : Ok m) (t : Fin (cfgM m hO).N) (h : ¬Reload (F := F) (tbl m 1) (grid0.coords t)) :
    t.val ≠ 0 ∧ expert (F := F) (tbl m 1) t.val = expert (F := F) (tbl m 1) (t.val - 1) := by
  obtain ⟨h0, he⟩ := keep_iff (F := F) _ _ h
  rw [coords_0] at h0
  have he := (expertAt_eq (F := F) (tbl m 1) _ (k0_off1_inb _)).symm.trans (he.trans (expertAt_eq (F := F) (tbl m 1) _ (k0_off2_inb _)))
  rw [show k0_off1 (grid0.coords t) 0 = t.val from (congrFun (k0_off1_eq _) 0).trans (coords_0 t),
    show k0_off2 (grid0.coords t) 0 = t.val - 1 from (congrFun (off2_eq _) 0).trans (congrArg (· - 1) (coords_0 t))] at he
  exact ⟨h0, he⟩

/-! ## What a point leaves -/

/-- The converted weights of the point's expert. -/
abbrev sc0 (hO : Ok m) (c : Dev nD) (t : Fin (cfgM m hO).N) : Vec F S1024x512 .bf16 := k0_pay1 (iblk m hO c 1 t)
abbrev sc1 (hO : Ok m) (c : Dev nD) (t : Fin (cfgM m hO).N) : Vec F S1024x512 .bf16 := k0_pay2 (iblk m hO c 2 t)
abbrev sc2 (hO : Ok m) (c : Dev nD) (t : Fin (cfgM m hO).N) : Vec F S512x1024 .bf16 := k0_pay3 (iblk m hO c 3 t)

open Classical in
/-- The outputs of the point's block: the gated MLP of a block in use, zeros past those. -/
def outAt (hO : Ok m) (c : Dev nD) (t : Fin (cfgM m hO).N) : Vec F S512x1024 .bf16 :=
  if k0_cond2 (grid0.coords t) (used (F := F) (tbl m 2)) = 1#1 then
    outUsed (iblk m hO c 0 t) (sc0 m hO c t) (sc1 m hO c t) (sc2 m hO c t)
  else k0_pay6

/-- Between points the scratch buffers hold the converted weights of the last point's expert. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (sc0 m hO c ⟨n, hn⟩) ∗ owns (c : Thread nD τ) scM0_1 fullShare (sc1 m hO c ⟨n, hn⟩) ∗ owns (c : Thread nD τ) scM0_2 fullShare (sc2 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (sc0 m hO c ⟨n, hn⟩) ∗ owns (c : Thread nD τ) scM0_1 fullShare (sc1 m hO c ⟨n, hn⟩) ∗ owns (c : Thread nD τ) scM0_2 fullShare (sc2 m hO c ⟨n, hn⟩)) ∗ (∃ r, prngReg c r)) ∗ Pipeline.ΦT pre0 (tbl m) c) := rfl

/-- After the first point the scratch buffers are held, at some contents. -/
theorem PhiS_any (hO : Ok m) (c : Dev nD) (n : ℕ) (h : n ≤ (cfgM m hO).N) :
    PhiS m hO c n h ⊢ iprop(Pipeline.ΦA spec0 c ∗ Pipeline.ΦT pre0 (tbl m) c) := by
  cases n with
  | zero => exact .rfl
  | succ n =>
    rw [PhiS_succ, PhiA0_eq]
    iintro ⟨⟨⟨HS0, HS1, HS2⟩, Hg⟩, HT⟩
    isplitl [HS0 HS1 HS2 Hg]
    · isplitl [HS0 HS1 HS2]
      · isplitl [HS0]
        · iexists _; iexact HS0
        isplitl [HS1]
        · iexists _; iexact HS1
        iexists _; iexact HS2
      iexact Hg
    iexact HT

/-- At a point that keeps the converted weights they are that point's expert's. -/
theorem PhiS_keep (hO : Ok m) (c : Dev nD) (t : Fin (cfgM m hO).N) (h : ¬Reload (F := F) (tbl m 1) (grid0.coords t)) :
    PhiS m hO c t.val (Nat.le_of_lt t.isLt) = PhiS m hO c (t.val + 1) t.isLt := by
  obtain ⟨h0, he⟩ := expert_keep m hO t h
  have e : PhiS m hO c t.val (Nat.le_of_lt t.isLt) = PhiS m hO c (t.val - 1 + 1) (by omega) := by congr 1; omega
  have ht : t.val - 1 < (cfgM m hO).N := by omega
  rw [e, PhiS_succ m hO c _ ht, PhiS_succ m hO c _ t.isLt]
  have q := iblk_1_congr m hO c t ⟨t.val - 1, ht⟩ he
  have q2 := iblk_2_congr m hO c t ⟨t.val - 1, ht⟩ he
  have q3 := iblk_3_congr m hO c t ⟨t.val - 1, ht⟩ he
  unfold sc0 sc1 sc2
  rw [show (⟨t.val, t.isLt⟩ : Fin (cfgM m hO).N) = t from rfl, q, q2, q3]

/-! ## The pipeline's proof data -/

/-- The arrays as the region finds them; after a point every input window at its block and the output window at the
    block's outputs. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

/-- What the pipeline hands the body at a point, and what it takes back. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 6400000 in
/-- The body at a point takes what it is handed to what the pipeline takes back: by whether it converts the weights, and by
    whether its block is in use. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_castSucc m hO c t]
  by_cases hr : Reload (F := F) (tbl m 1) (grid0.coords t)
  · refine (sep_mono (PhiS_any m hO c _ _) .rfl).trans ?_
    rw [PhiS_succ, PhiT0_eq, PhiA0_eq]
    by_cases h2 : k0_cond2 (grid0.coords t) (used (F := F) (tbl m 2)) = 1#1
    · rw [show outAt m hO c t = outUsed (iblk m hO c 0 t) (sc0 m hO c t) (sc1 m hO c t) (sc2 m hO c t) from if_pos h2]
      iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
      iapply (run_reload_used c (grid0.coords t) _ _ _ _ _ _ _ _ _ _ _ _ _ _ _ _ (iblk m hO c 0 t) (iblk m hO c 1 t) (iblk m hO c 2 t) (iblk m hO c 3 t) (tbl m 0) (tbl m 1) (tbl m 2) hr h2 (fun h => (cond3_iff _ _).mp h h2) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, H4, HS0, HS1, HS2, HT0, HT1, HT2⟩
      isplitl [HS0 HS1 HS2 Hg HT0 HT1 HT2]
      · isplitl [HS0 HS1 HS2 Hg]
        · isplitl [HS0 HS1 HS2]
          · isplitl [HS0]; · iexact HS0
            isplitl [HS1]; · iexact HS1
            iexact HS2
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4
    · rw [show outAt m hO c t = k0_pay6 from if_neg h2]
      iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
      iapply (run_reload_unused c (grid0.coords t) _ _ _ _ _ _ _ _ _ _ _ _ _ _ _ _ (iblk m hO c 0 t) (iblk m hO c 1 t) (iblk m hO c 2 t) (iblk m hO c 3 t) (tbl m 0) (tbl m 1) (tbl m 2) hr h2 ((cond3_iff _ _).mpr h2) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, H4, HS0, HS1, HS2, HT0, HT1, HT2⟩
      isplitl [HS0 HS1 HS2 Hg HT0 HT1 HT2]
      · isplitl [HS0 HS1 HS2 Hg]
        · isplitl [HS0 HS1 HS2]
          · isplitl [HS0]; · iexact HS0
            isplitl [HS1]; · iexact HS1
            iexact HS2
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4
  · rw [PhiS_keep m hO c t hr, PhiS_succ, PhiT0_eq]
    by_cases h2 : k0_cond2 (grid0.coords t) (used (F := F) (tbl m 2)) = 1#1
    · rw [show outAt m hO c t = outUsed (iblk m hO c 0 t) (sc0 m hO c t) (sc1 m hO c t) (sc2 m hO c t) from if_pos h2]
      iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
      iapply (run_keep_used c (grid0.coords t) _ _ _ _ _ _ _ _ _ _ _ _ _ _ _ _ (iblk m hO c 0 t) (iblk m hO c 1 t) (iblk m hO c 2 t) (iblk m hO c 3 t) (tbl m 0) (tbl m 1) (tbl m 2) _ _ _ hr h2 (fun h => (cond3_iff _ _).mp h h2) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, H4, HS0, HS1, HS2, HT0, HT1, HT2⟩
      isplitl [HS0 HS1 HS2 Hg HT0 HT1 HT2]
      · isplitl [HS0 HS1 HS2 Hg]
        · isplitl [HS0 HS1 HS2]
          · isplitl [HS0]; · iexact HS0
            isplitl [HS1]; · iexact HS1
            iexact HS2
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4
    · rw [show outAt m hO c t = k0_pay6 from if_neg h2]
      iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
      iapply (run_keep_unused c (grid0.coords t) _ _ _ _ _ _ _ _ _ _ _ _ _ _ _ _ (iblk m hO c 0 t) (iblk m hO c 1 t) (iblk m hO c 2 t) (iblk m hO c 3 t) (tbl m 0) (tbl m 1) (tbl m 2) _ _ _ hr h2 ((cond3_iff _ _).mpr h2) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HT0]; · iexact HT0
      isplitl [HT1]; · iexact HT1
      isplitl [HT2]; · iexact HT2
      iintro ⟨H0, H1, H2, H3, H4, HS0, HS1, HS2, HT0, HT1, HT2⟩
      isplitl [HS0 HS1 HS2 Hg HT0 HT1 HT2]
      · isplitl [HS0 HS1 HS2 Hg]
        · isplitl [HS0 HS1 HS2]
          · isplitl [HS0]; · iexact HS0
            isplitl [HS1]; · iexact HS1
            iexact HS2
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO, idle_4 m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After the last point the invariant gives the scratch buffers back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl]
  refine (PhiS_any m hO c _ _).trans ?_
  iintro ⟨H, -⟩
  iexact H

/-! ## The run and the frame -/

-- `θ_run_frameP_track`'s implicit arguments are found by unifying its conclusion with this one, which takes unfolding plain
-- definitions in a metavariable's type
set_option backward.isDefEq.respectTransparency.types false in
/-- The launch, from the body at every point: every array of the pipeline ends as its data says, and every semaphore counter is zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (`FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- From any memory whose tables are in range the kernel runs, leaves its arguments as they were, and ends with every
    semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.KernelIdeal.Experts

end
-- ==== Proof.Mlp.lean ====
/- The gated MLP of one row, as a function of the row and of one expert's three matrices: the one formula that the kernel's
   blocks and the reference are both shown to hold. -/
module

public import Idealize.ShloMosaic.Lib.Pointwise

@[expose] public section

noncomputable section

namespace Cert.Mlp

open Idealize.ShloMosaic

/-- A row times a matrix of 1024 rows and 512 columns, at column `k`. -/
def times (x : Fin 1024 → EReal) (w : Fin 1024 → Fin 512 → EReal) (k : Fin 512) : EReal := ∑ d : Fin 1024, x d * w d k

/-- `(silu(x @ wg) * (x @ wu)) @ wd` at column `j`, where `silu(g)` is `g` times the logistic function of `g`. -/
def mlp (x : Fin 1024 → EReal) (wg wu : Fin 1024 → Fin 512 → EReal) (wd : Fin 512 → Fin 1024 → EReal) (j : Fin 1024) : EReal :=
  ∑ k : Fin 512, times x wg k * Ideal.logistic (times x wg k) * times x wu k * wd k j

/-- A row of the result, in block `b`: the gated MLP of the row where fewer than `n` blocks come before its own, else zero. -/
def rowOut (b : ℕ) (n : BitVec 32) (x : Fin 1024 → EReal) (wg wu : Fin 1024 → Fin 512 → EReal) (wd : Fin 512 → Fin 1024 → EReal)
    (j : Fin 1024) : EReal :=
  Scalar.select (IntOp.cmpi .slt (BitVec.ofNat 32 b) n) (mlp x wg wu wd j) 0

end Cert.Mlp

end
-- ==== Proof.KernelIdealValue.lean ====
/- What the idealized experts' kernel leaves in its output: at every row of a block in use the gated MLP of the row, under the
   matrices of the block's expert, and zeros in the blocks past those. -/
module

public import proofs.«01_k».proof.Proof.KernelIdealFrame
public import proofs.«01_k».proof.Proof.Mlp

@[expose] public section

set_option maxRecDepth 16384

noncomputable section

namespace Cert.KernelIdeal.Experts

open Cert.KernelIdeal.Gen Cert.Mlp
open Idealize.ShloMosaic Idealize.ShloMosaic.TcCoe
open Idealize.ShloMosaic.Pipeline (Dat Cfg Window)
open Idealize.SL.Sem

/-- The products of the upper half of a block are the gated MLP of its rows. -/
theorem pay4_apply (x : Vec Ideal S256x1024 .bf16) (wg wu : Vec Ideal S1024x512 .bf16) (wd : Vec Ideal S512x1024 .bf16)
    (r : Fin 256) (j : Fin 1024) :
    k0_pay4 x wg wu wd (ix2 r j)
      = mlp (fun d => x (ix2 r d)) (fun d k => wg (ix2 d k)) (fun d k => wu (ix2 d k)) (fun k j => wd (ix2 k j)) j := by
  unfold mlp times
  pointwise [k0_pay4]

/-- The products of the lower half of a block are the gated MLP of its rows. -/
theorem pay5_apply (x : Vec Ideal S256x1024 .bf16) (wg wu : Vec Ideal S1024x512 .bf16) (wd : Vec Ideal S512x1024 .bf16)
    (r : Fin 256) (j : Fin 1024) :
    k0_pay5 x wg wu wd (ix2 r j)
      = mlp (fun d => x (ix2 r d)) (fun d k => wg (ix2 d k)) (fun d k => wu (ix2 d k)) (fun k j => wd (ix2 k j)) j := by
  unfold mlp times
  pointwise [k0_pay5]

theorem pay1_apply (w : Vec Ideal S1x1x1024x512 .f32) (d : Fin 1024) (k : Fin 512) :
    k0_pay1 w (ix2 d k) = w (ix4 0 0 d k) := by
  pointwise [k0_pay1]

theorem pay2_apply (w : Vec Ideal S1x1x1024x512 .f32) (d : Fin 1024) (k : Fin 512) :
    k0_pay2 w (ix2 d k) = w (ix4 0 0 d k) := by
  pointwise [k0_pay2]

theorem pay3_apply (w : Vec Ideal S1x1x512x1024 .f32) (k : Fin 512) (j : Fin 1024) :
    k0_pay3 w (ix2 k j) = w (ix4 0 0 k j) := by
  pointwise [k0_pay3]

theorem pay6_apply (y : S512x1024.Idx) : k0_pay6 (F := Ideal) y = 0 := by
  pointwise [k0_pay6]

/-- A block in use holds, at each of its rows, the gated MLP of the row. -/
theorem outUsed_apply (x : Vec Ideal S512x1024 .bf16) (wg wu : Vec Ideal S1024x512 .bf16) (wd : Vec Ideal S512x1024 .bf16)
    (r : Fin 512) (j : Fin 1024) :
    outUsed x wg wu wd (ix2 r j)
      = mlp (fun d => x (ix2 r d)) (fun d k => wg (ix2 d k)) (fun d k => wu (ix2 d k)) (fun k j => wd (ix2 k j)) j := by
  unfold outUsed usedPieces
  by_cases h : r.val < 256
  · have e : ∀ d : Fin 1024, (ix2 r d : S512x1024.Idx) = upper.emb (ix2 (⟨r.val, h⟩ : Fin 256) d) := fun d => by
      funext a; refine Fin.ext ?_
      rw [Rect.emb_apply]
      match a with
      | ⟨0, _⟩ => show r.val = 0 + 1 * r.val; omega
      | ⟨1, _⟩ => show d.val = 0 + 1 * d.val; omega
    rw [View.canon_cons_of_not_mem, e, View.canon_cons_emb]
    · refine (pay4_apply _ _ _ _ _ _).trans ?_
      congr 1
      funext d
      exact congrArg x (e d).symm
    · exact Rect.not_mem_set_of_axis lower _ 0 256 256 rfl rfl rfl (Or.inl h)
  · have hr : r.val - 256 < 256 := by omega
    have e : ∀ d : Fin 1024, (ix2 r d : S512x1024.Idx) = lower.emb (ix2 (⟨r.val - 256, hr⟩ : Fin 256) d) := fun d => by
      funext a; refine Fin.ext ?_
      rw [Rect.emb_apply]
      match a with
      | ⟨0, _⟩ => show r.val = 256 + 1 * (r.val - 256); omega
      | ⟨1, _⟩ => show d.val = 0 + 1 * d.val; omega
    rw [e, View.canon_cons_emb]
    refine (pay5_apply _ _ _ _ _ _).trans ?_
    congr 1
    funext d
    exact congrArg x (e d).symm

variable (m : (ℓ : Loc nD τ sig) → Buf (Elt Ideal) ℓ) (ρ : Dev nD → PrngReg)

/-- The number of blocks in use, read from its table. -/
def count (T : S1.Idx → Elt Ideal .i32) : BitVec 32 := T (ix1 0)

theorem used_eq (T : S1.Idx → Elt Ideal .i32) : used T = count T := by
  refine congrArg T (funext fun a => ?_)
  match a with
  | ⟨0, h⟩ => exact Fin.ext (Nat.lt_one_iff.mp (Fin.isLt (n := 1) _) |>.trans (Nat.lt_one_iff.mp (Fin.isLt (n := 1) _)).symm)

theorem index_0 (t : Fin grid0.N) : cc0_transform_0 (grid0.coords t) = ![t.val, 0] := by
  have ht : t.val < 224 := t.isLt
  show ![(BitVec.ofNat 32 (grid0.coords t 0).val).toNat, _] = _
  rw [coords_0, BitVec.toNat_ofNat, Nat.mod_eq_of_lt (by omega)]
  rfl

theorem index_4 (t : Fin grid0.N) : cc0_transform_4 (grid0.coords t) = ![t.val, 0] := index_0 t

/-- The rows of the block at a point. -/
theorem iblk_0 (hO : Ok m) (c : Dev nD) (t : Fin (cfgM m hO).N) (x : S512x1024.Idx) (y : S114688x1024.Idx)
    (h0 : (y 0).val = t.val * 512 + (x 0).val) (h1 : (y 1).val = (x 1).val) : iblk m hO c 0 t x = V m c main_arg0 y := by
  refine congrArg (V m c main_arg0) (funext fun a => Fin.ext ?_)
  refine (Pipeline.Window.rect_emb_val ((cfgM m hO).win 0) t x a rfl).trans ?_
  show cc0_transform_0 (grid0.coords t) a * S512x1024.size a + (x a).val = (y a).val
  rw [index_0]
  match a with
  | ⟨0, _⟩ => show t.val * 512 + (x 0).val = (y 0).val; omega
  | ⟨1, _⟩ => show 0 * 1024 + (x 1).val = (y 1).val; omega

/-- Where an element of the block that a point writes lies in the output. -/
theorem emb_4 (hO : Ok m) (t : Fin (cfgM m hO).N) (x : S512x1024.Idx) (y : S114688x1024.Idx)
    (h0 : (y 0).val = t.val * 512 + (x 0).val) (h1 : (y 1).val = (x 1).val) :
    (((cfgM m hO).win 4).blk t).view.emb x = y := by
  refine funext fun a => Fin.ext ?_
  refine (Pipeline.Window.rect_emb_val ((cfgM m hO).win 4) t x a rfl).trans ?_
  show cc0_transform_4 (grid0.coords t) a * S512x1024.size a + (x a).val = (y a).val
  rw [index_4]
  match a with
  | ⟨0, _⟩ => show t.val * 512 + (x 0).val = (y 0).val; omega
  | ⟨1, _⟩ => show 0 * 1024 + (x 1).val = (y 1).val; omega

/-- The branch on the number of blocks in use, as the comparison that the select of `rowOut` reads. -/
theorem cond2_iff (i : grid0.Coords) (w : BitVec 32) : k0_cond2 i w = 1#1 ↔ IntOp.cmpi .slt (BitVec.ofNat 32 (i 0).val) w = 1#1 := by
  unfold k0_cond2
  show IntOp.cmpi .ne (Scalar.extui (IntOp.cmpi .slt (BitVec.ofNat 32 (i 0).val) w)) 0#32 = 1#1 ↔ _
  generalize IntOp.cmpi .slt (BitVec.ofNat 32 (i 0).val) w = b
  revert b; decide

theorem mlp_congr {x x' : Fin 1024 → EReal} {wg wg' wu wu' : Fin 1024 → Fin 512 → EReal} {wd wd' : Fin 512 → Fin 1024 → EReal}
    (h0 : x = x') (h1 : wg = wg') (h2 : wu = wu') (h3 : wd = wd') (j : Fin 1024) : mlp x wg wu wd j = mlp x' wg' wu' wd' j := by
  subst h0 h1 h2 h3; rfl

/-- A choice between two blocks, read at an element. -/
theorem choose_apply {S : Shape} {p : Prop} [Decidable p] {b : BitVec 1} (h : p ↔ b = 1#1) (A B : S.Idx → EReal) (y : S.Idx) (v : EReal)
    (hA : A y = v) (hB : B y = 0) : (if p then A else B) y = Scalar.select b v 0 := by
  unfold Scalar.select
  by_cases hp : p
  · rw [if_pos hp]; exact hA.trans (if_pos (h.mp hp)).symm
  · rw [if_neg hp]; exact hB.trans (if_neg fun hb => hp (h.mpr hb)).symm

/-- The block that a point writes, at an element. -/
theorem outAt_apply (hO : Ok m) (c : Dev nD) (t : Fin (cfgM m hO).N) (b : Fin 512) (r : Fin 114688) (j : Fin 1024) (L : Fin 4) (E : Fin 32)
    (hr : r.val = t.val * 512 + b.val) (hl : (layer (F := Ideal) (tbl m 0)).toNat = L.val)
    (he : (expert (F := Ideal) (tbl m 1) t.val).toNat = E.val) :
    outAt m hO c t (ix2 b j)
      = rowOut t.val (count (tbl m 2)) (fun k => V m c main_arg0 (ix2 r k)) (fun k i => V m c main_arg4 (ix4 L E k i))
        (fun k i => V m c main_arg5 (ix4 L E k i)) (fun k i => V m c main_arg6 (ix4 L E k i)) j := by
  have e0 : (fun k => iblk m hO c 0 t (ix2 b k)) = fun k => V m c main_arg0 (ix2 r k) := funext fun k => iblk_0 m hO c t _ _ hr rfl
  have e1 : (fun k i => sc0 m hO c t (ix2 k i)) = fun k i => V m c main_arg4 (ix4 L E k i) := funext fun k => funext fun i =>
    (pay1_apply _ k i).trans (iblk_1 m hO c t _ _ hl.symm he.symm rfl rfl)
  have e2 : (fun k i => sc1 m hO c t (ix2 k i)) = fun k i => V m c main_arg5 (ix4 L E k i) := funext fun k => funext fun i =>
    (pay2_apply _ k i).trans (iblk_2 m hO c t _ _ hl.symm he.symm rfl rfl)
  have e3 : (fun k i => sc2 m hO c t (ix2 k i)) = fun k i => V m c main_arg6 (ix4 L E k i) := funext fun k => funext fun i =>
    (pay3_apply _ k i).trans (iblk_3 m hO c t _ _ hl.symm he.symm rfl rfl)
  have hc : k0_cond2 (grid0.coords t) (used (F := Ideal) (tbl m 2)) = 1#1
      ↔ IntOp.cmpi .slt (BitVec.ofNat 32 t.val) (count (tbl m 2)) = 1#1 := by
    refine (cond2_iff _ _).trans (Eq.to_iff ?_)
    exact congrArg₂ (fun p q => IntOp.cmpi .slt (BitVec.ofNat 32 p) q = 1#1) (coords_0 t) (used_eq (tbl m 2))
  exact choose_apply hc _ _ _ _ ((outUsed_apply _ _ _ _ b j).trans (mlp_congr e0 e1 e2 e3 j)) (pay6_apply _)

/-- The output array after the run, at an element. -/
theorem arrAt_apply (hO : Ok m) (c : Dev nD) (r : Fin 114688) (j : Fin 1024) (L : Fin 4) (E : Fin 32)
    (hl : (layer (F := Ideal) (tbl m 0)).toNat = L.val) (he : (expert (F := Ideal) (tbl m 1) (r.val / 512)).toNat = E.val) :
    (dats m hO 0 c).arrAt 4 (cfgM m hO).N (ix2 r j : S114688x1024.Idx)
      = rowOut (r.val / 512) (count (tbl m 2)) (fun k => V m c main_arg0 (ix2 r k)) (fun k i => V m c main_arg4 (ix4 L E k i))
        (fun k i => V m c main_arg5 (ix4 L E k i)) (fun k i => V m c main_arg6 (ix4 L E k i)) j := by
  let P : S114688x1024.Idx → EReal → Prop := fun y v => ∀ (r : Fin 114688) (j : Fin 1024) (L : Fin 4) (E : Fin 32), y = ix2 r j →
    (layer (F := Ideal) (tbl m 0)).toNat = L.val → (expert (F := Ideal) (tbl m 1) (r.val / 512)).toNat = E.val →
    v = rowOut (r.val / 512) (count (tbl m 2)) (fun k => V m c main_arg0 (ix2 r k)) (fun k i => V m c main_arg4 (ix4 L E k i))
        (fun k i => V m c main_arg5 (ix4 L E k i)) (fun k i => V m c main_arg6 (ix4 L E k i)) j
  have hr := r.isLt
  let t : Fin (cfgM m hO).N := ⟨r.val / 512, by show r.val / 512 < 224; omega⟩
  have hmem : (ix2 r j : S114688x1024.Idx) ∈ (((cfgM m hO).win 4).blk t).view.set := by
    have e := emb_4 m hO t (ix2 ⟨r.val % 512, by omega⟩ j) (ix2 r j) (by show r.val = r.val / 512 * 512 + r.val % 512; omega) rfl
    rw [← e]
    exact View.emb_mem_set _ _
  refine (dats m hO 0 c).arrAt_forall_of_flushed 4 P ?_ (cfgM m hO).N t _ t.isLt (flush0_4 _ t) hmem r j L E rfl hl he
  have key : ∀ (t' : Fin (cfgM m hO).N) (y : S512x1024.Idx), P ((((cfgM m hO).win 4).blk t').view.emb y) (outAt m hO c t' y) := by
    intro t' y r' j' L' E' hy hl' he'
    have ht' : t'.val < 224 := t'.isLt
    have hb : (y 0).val < 512 := (y 0).isLt
    have e := (emb_4 m hO t' y (ix2 ⟨t'.val * 512 + (y 0).val, by omega⟩ (y 1)) rfl rfl).symm.trans hy
    have hr' : r'.val = t'.val * 512 + (y 0).val := (congrArg (fun q : S114688x1024.Idx => (q 0).val) e).symm
    have hj' : (y 1 : Fin 1024) = j' := congrArg (fun q : S114688x1024.Idx => q 1) e
    have hd : r'.val / 512 = t'.val := by omega
    have ey : y = ix2 (y 0 : Fin 512) j' := by
      funext a
      match a with
      | ⟨0, _⟩ => rfl
      | ⟨1, _⟩ => exact hj'
    rw [hd] at he'
    refine (congrArg (outAt m hO c t') ey).trans ((outAt_apply m hO c t' (y 0) r' j' L' E' hr' hl' he').trans ?_)
    exact congrArg (fun b => rowOut b _ _ _ _ _ _) hd.symm
  exact fun t' _ y => (Eq.to_iff (congrArg (P _) (congrFun (after0_4 m hO c t') y))).mpr (key t' y)

end Cert.KernelIdeal.Experts

end
-- ==== Proof.Kernel3IdealSetup.lean ====
/- The `out_proj_route` kernel as its pipeline runs it: what the launch finds, the blocks its windows hold, the memrefs its body
   is handed at each point, and where its two row outputs are stored and written back. -/
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The kernel's body at point `t`, on what the pipeline calls it with. -/
abbrev bodyAt0 (a : (pcfg0 (F := F)).Adm) (t : Fin (cfg0 a).N) : Prog (TpuEff nD τ sig (Elt F) Λ₀ .tc) PUnit :=
  cc0_out_proj_route (grid0.coords t) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (Memref.whole cc0_scratch0) (Memref.isWhole_whole _)

variable (m : (ℓ : Loc nD τ sig) → Buf (Elt F) ℓ) (ρ : Dev nD → PrngReg)

/-! ## The arrays the launch finds -/

/-- Core `c`'s buffers when the launch begins: what the four host operations leave. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the launch is those host operations. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_eq (c : Dev nD) (b : Ref sig .tc) (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h.1, StableHlo.devRef_ne_of_ne h.2.1, StableHlo.devRef_ne_of_ne h.2.2.1, StableHlo.devRef_ne_of_ne h.2.2.2⟩))
theorem V_main_arg0 (c : Dev nD) : V m c main_arg0 = m ((c : Thread nD τ).loc main_arg0) := V_eq m c _ (by decide)
theorem V_main_arg1 (c : Dev nD) : V m c main_arg1 = m ((c : Thread nD τ).loc main_arg1) := V_eq m c _ (by decide)
theorem V_main_arg2 (c : Dev nD) : V m c main_arg2 = m ((c : Thread nD τ).loc main_arg2) := V_eq m c _ (by decide)
theorem V_main_arg3 (c : Dev nD) : V m c main_arg3 = m ((c : Thread nD τ).loc main_arg3) := V_eq m c _ (by decide)
theorem V_main_arg4 (c : Dev nD) : V m c main_arg4 = m ((c : Thread nD τ).loc main_arg4) := V_eq m c _ (by decide)
theorem V_main_arg5 (c : Dev nD) : V m c main_arg5 = m ((c : Thread nD τ).loc main_arg5) := V_eq m c _ (by decide)
theorem V_main_arg6 (c : Dev nD) : V m c main_arg6 = m ((c : Thread nD τ).loc main_arg6) := V_eq m c _ (by decide)
theorem V_main_arg7 (c : Dev nD) : V m c main_arg7 = m ((c : Thread nD τ).loc main_arg7) := V_eq m c _ (by decide)
theorem V_main_arg8 (c : Dev nD) : V m c main_arg8 = m ((c : Thread nD τ).loc main_arg8) := V_eq m c _ (by decide)
theorem V_main_arg9 (c : Dev nD) : V m c main_arg9 = m ((c : Thread nD τ).loc main_arg9) := V_eq m c _ (by decide)
theorem V_main_arg10 (c : Dev nD) : V m c main_arg10 = m ((c : Thread nD τ).loc main_arg10) := V_eq m c _ (by decide)
theorem V_main_arg11 (c : Dev nD) : V m c main_arg11 = m ((c : Thread nD τ).loc main_arg11) := V_eq m c _ (by decide)

/-! ## The table of the layer's number -/

/-- The table's contents. -/
def tbl : pre0.Contents (Elt F) := fun j => V m (0 : Dev nD) (pre0.ref j)

theorem V_pre (c : Dev nD) (j : Fin 1) : V m c (pre0.ref j) = tbl m j := by
  obtain rfl : c = 0 := Subsingleton.elim _ _; rfl

/-- Every block lies inside its array. -/
abbrev Ok : Prop := ok0 (F := F) (tbl m)

abbrev adm (hO : Ok m) : (pcfg0 (F := F)).Adm := ⟨tbl m, hO⟩

abbrev cfgM (hO : Ok m) : Pipeline.Cfg sig Λ₀ := cfg0 (adm m hO)

/-! ## The windows' blocks -/

/-- Window `w`'s block at point `t`, read off its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The memrefs the body is handed -/

abbrev ms0_0 (hO : Ok m) (t : Fin (cfgM m hO).N) : Memref sig .tc .vmem S4x512x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1024x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024x256 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S512x512 .bf16 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S512x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S512x1024 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S512x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S2x512 .i32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S2x512 .i32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S512x128 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S32x128 .f32 := spec0_17.stage ((cfgM m hO).slots t 17)
abbrev hs0_17 (hO : Ok m) (t : Fin (cfgM m hO).N) : (ms0_17 m hO t).IsWhole := hstage0_17 (((cfgM m hO).slots t 17).cast nbuf0_17)
/-- The running counts' scratch. -/
abbrev scM0_0 : Memref sig .tc .vmem S32x128 .f32 := Memref.whole cc0_scratch0

/-- The launch's invariant with that scratch owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- Where a block of 512 rows is looked at: one staging buffer of the first row output. -/
abbrev VO0_11 : View sig .tc .vmem S512x1024 .f32 := (Memref.whole cc0_stg11_0 : Memref sig .tc .vmem S512x1024 .f32).view

/-! ## The body's branches and the two row outputs' schedules -/

/-- The first point: the counts are set to zero. -/
abbrev First (i : grid0.Coords) : Prop :=
  Scalar.cmpi .ne (Scalar.extui (Scalar.cmpi .eq (BitVec.ofNat 32 (i 0).val) 0#32) : BitVec 32) 0#32 = 1#1

theorem first_iff : ∀ t : Fin grid0.N, First (grid0.coords t) ↔ t.val = 0 :=
  (by decide +kernel : ∀ t : Fin grid0.N, First (grid0.coords t) ↔ t.val = 0)

theorem cond1_iff : ∀ t : Fin grid0.N, k0_cond1 (grid0.coords t) = 1#1 ↔ t.val < 64 :=
  (by decide +kernel : ∀ t : Fin grid0.N, k0_cond1 (grid0.coords t) = 1#1 ↔ t.val < 64)

theorem cond3_iff : ∀ t : Fin grid0.N, k0_cond3 (grid0.coords t) = 1#1 ↔ 64 ≤ t.val :=
  (by decide +kernel : ∀ t : Fin grid0.N, k0_cond3 (grid0.coords t) = 1#1 ↔ 64 ≤ t.val)

theorem live_11 (hO : Ok m) : ∀ t : Fin (cfgM m hO).N, t.val < 64 → (cfgM m hO).idle 11 (grid0.coords t) = false :=
  (by decide +kernel : ∀ t : Fin grid0.N, t.val < 64 → idle0 11 (grid0.coords t) = false)

theorem idle_11 (hO : Ok m) : ∀ t : Fin (cfgM m hO).N, 64 ≤ t.val → (cfgM m hO).idle 11 (grid0.coords t) = true :=
  (by decide +kernel : ∀ t : Fin grid0.N, 64 ≤ t.val → idle0 11 (grid0.coords t) = true)

theorem live_12 (hO : Ok m) : ∀ t : Fin (cfgM m hO).N, 64 ≤ t.val → (cfgM m hO).idle 12 (grid0.coords t) = false :=
  (by decide +kernel : ∀ t : Fin grid0.N, 64 ≤ t.val → idle0 12 (grid0.coords t) = false)

theorem idle_12 (hO : Ok m) : ∀ t : Fin (cfgM m hO).N, t.val < 64 → (cfgM m hO).idle 12 (grid0.coords t) = true :=
  (by decide +kernel : ∀ t : Fin grid0.N, t.val < 64 → idle0 12 (grid0.coords t) = true)

theorem flush_11 (hO : Ok m) : ∀ t : Fin (cfgM m hO).N, ((cfgM m hO).win 11).flush t = true ↔ (t.val < 63 ∨ t.val = 95) :=
  (by decide +kernel : ∀ t : Fin grid0.N, Pipeline.Window.flushOf grid0 true cc0_transform_11 t = true ↔ (t.val < 63 ∨ t.val = 95))

theorem flush_12 (hO : Ok m) : ∀ t : Fin (cfgM m hO).N, ((cfgM m hO).win 12).flush t = true ↔ 64 ≤ t.val :=
  (by decide +kernel : ∀ t : Fin grid0.N, Pipeline.Window.flushOf grid0 true cc0_transform_12 t = true ↔ 64 ≤ t.val)

end Cert.Kernel3Ideal.OutProj

end
-- ==== Proof.Kernel3IdealLayer.lean ====
/- The layer whose blocks the `out_proj_route` launch reads, and that with that layer one of the stacked layers every block lies
   inside its array. -/
module

public import proofs.«01_k».proof.Proof.Kernel3IdealSetup

@[expose] public section

set_option maxRecDepth 16384

noncomputable section

namespace Cert.Kernel3Ideal.OutProj

open Cert.Kernel3Ideal.Gen
open Idealize.ShloMosaic Idealize.ShloMosaic.TcCoe Idealize.ShloMosaic.Tactic

variable {F : FTy → Type} [FloatOps F]

variable (m : (ℓ : Loc nD τ sig) → Buf (Elt F) ℓ)

/-- The layer's number, as the windows' index maps read it. -/
def layer (T : S1.Idx → Elt F .i32) : BitVec 32 := T (fun a => match a with | ⟨0, _⟩ => ⟨0, Nat.one_pos⟩)

theorem transform_4 (T : pre0.Contents (Elt F)) (i : grid0.Coords) :
    cc0_transform_4 inb_S1_S1_0 numel1_S1 T i = ![(layer (F := F) (T 0)).toNat, 0, 0] := by
  have e0 : T.at 0 (Rect.unit (s := S1) ![0] S1.size inb_S1_S1_0) numel1_S1 = layer (F := F) (T 0) :=
    congrArg (T 0) (funext fun a => match a with | ⟨0, _⟩ => rfl)
  show ![BitVec.toNat (T.at 0 (Rect.unit (s := S1) ![0] S1.size inb_S1_S1_0) numel1_S1), 0, 0] = _
  rw [e0]

theorem transform_5 (T : pre0.Contents (Elt F)) (i : grid0.Coords) :
    cc0_transform_5 inb_S1_S1_0 numel1_S1 T i = ![(layer (F := F) (T 0)).toNat, 0, 0] := transform_4 T i

theorem transform_6 (T : pre0.Contents (Elt F)) (i : grid0.Coords) :
    cc0_transform_6 inb_S1_S1_0 numel1_S1 T i = ![(layer (F := F) (T 0)).toNat, 0, 0] := transform_4 T i

theorem transform_7 (T : pre0.Contents (Elt F)) (i : grid0.Coords) :
    cc0_transform_7 inb_S1_S1_0 numel1_S1 T i = ![(layer (F := F) (T 0)).toNat, 0, 0] := transform_4 T i

theorem transform_8 (T : pre0.Contents (Elt F)) (i : grid0.Coords) :
    cc0_transform_8 inb_S1_S1_0 numel1_S1 T i = ![(layer (F := F) (T 0)).toNat, 0, 0] := transform_4 T i

theorem transform_9 (T : pre0.Contents (Elt F)) (i : grid0.Coords) :
    cc0_transform_9 inb_S1_S1_0 numel1_S1 T i = ![(layer (F := F) (T 0)).toNat, 0, 0] := transform_4 T i

/-- With the layer one of the stacked layers every block lies inside its array. -/
theorem ok_of_range (hl : ∀ j : S1.Idx, BitVec.toNat (w := 32) (tbl m 0 j) < 4) : Ok m := by
  have h0 : (layer (F := F) (tbl m 0)).toNat < 4 := hl _
  refine ⟨fun i => ⟨fun a => ?_, .inl rfl⟩, fun i => ⟨fun a => ?_, .inl rfl⟩, fun i => ⟨fun a => ?_, ?_⟩, fun i => ⟨fun a => ?_, .inl rfl⟩, fun i => ⟨fun a => ?_, ?_⟩, fun i => ⟨fun a => ?_, .inl rfl⟩⟩
  · rw [transform_4]
    match a with
    | ⟨0, _⟩ => show ((layer (F := F) (tbl m 0)).toNat + 1) * 1 ≤ 4; omega
    | ⟨1, _⟩ => show (0 + 1) * 1 ≤ 1; omega
    | ⟨2, _⟩ => show (0 + 1) * 512 ≤ 512; omega
  · rw [transform_5]
    match a with
    | ⟨0, _⟩ => show ((layer (F := F) (tbl m 0)).toNat + 1) * 1 ≤ 4; omega
    | ⟨1, _⟩ => show (0 + 1) * 1 ≤ 1; omega
    | ⟨2, _⟩ => show (0 + 1) * 512 ≤ 512; omega
  · rw [transform_6]
    match a with
    | ⟨0, _⟩ => show ((layer (F := F) (tbl m 0)).toNat + 1) * 1 ≤ 4; omega
    | ⟨1, _⟩ => show (0 + 1) * 1024 ≤ 1024; omega
    | ⟨2, _⟩ => show (0 + 1) * 1024 ≤ 1024; omega
  · exact .inr (Affine.block_words_dvd (of_decide_eq_true rfl) (by decide))
  · rw [transform_7]
    match a with
    | ⟨0, _⟩ => show ((layer (F := F) (tbl m 0)).toNat + 1) * 1 ≤ 4; omega
    | ⟨1, _⟩ => show (0 + 1) * 1 ≤ 1; omega
    | ⟨2, _⟩ => show (0 + 1) * 1024 ≤ 1024; omega
  · rw [transform_8]
    match a with
    | ⟨0, _⟩ => show ((layer (F := F) (tbl m 0)).toNat + 1) * 1 ≤ 4; omega
    | ⟨1, _⟩ => show (0 + 1) * 1024 ≤ 1024; omega
    | ⟨2, _⟩ => show (0 + 1) * 256 ≤ 256; omega
  · exact .inr (Affine.block_words_dvd (of_decide_eq_true rfl) (by decide))
  · rw [transform_9]
    match a with
    | ⟨0, _⟩ => show ((layer (F := F) (tbl m 0)).toNat + 1) * 1 ≤ 4; omega
    | ⟨1, _⟩ => show (0 + 1) * 1 ≤ 1; omega
    | ⟨2, _⟩ => show (0 + 1) * 128 ≤ 128; omega

end Cert.Kernel3Ideal.OutProj

end
-- ==== Proof.Kernel3IdealRuns.lean ====
/- The body of `out_proj_route`, run at a point of each of its three kinds: the first, the others before the 64th, and those from
   the 64th on. Of what it leaves, the rows' block is named; of the others it is only said that they hold something. -/
module

public import proofs.«01_k».proof.Proof.Kernel3IdealSetup

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .smem S1 .i32) (harg1 : arg1.IsWhole) (arg2 : Memref sig .tc .vmem S4x512x128 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x1x512 .f32) (harg6 : arg6.IsWhole) (arg7 : Memref sig .tc .vmem S1x1x512 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024x256 .bf16) (harg10 : arg10.IsWhole)
  (arg11 : Memref sig .tc .vmem S1x1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole)
  (arg16 : Memref sig .tc .vmem S2x512 .i32) (harg16 : arg16.IsWhole) (arg17 : Memref sig .tc .vmem S2x512 .i32) (harg17 : arg17.IsWhole) (arg18 : Memref sig .tc .vmem S512x128 .f32) (harg18 : arg18.IsWhole) (arg19 : Memref sig .tc .vmem S32x128 .f32) (harg19 : arg19.IsWhole) (arg20 : Memref sig .tc .vmem S32x128 .f32) (harg20 : arg20.IsWhole)

set_option maxHeartbeats 4000000 in
/-- The first point. -/
noncomputable def runA
    (h1 : k0_cond1 i = 1#1) (h0 : First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_out_proj_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_out_proj_route_eq_skeleton]; unfold cc0_out_proj_route_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %g13, -, G13⟩, ⟨%d15, %g15, -, G15⟩, ⟨%d16, %g16, -, G16⟩, ⟨%d17, %g17, -, G17⟩, ⟨%d18, %g18, -, G18⟩, ⟨%d19, %g19, -, G19⟩, ⟨%d20, %g20, -, G20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h0 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [G13]; · iexists _; iexact G13
    isplitl [G15]
    · iexists _; iexists _; isplitr
      swap; · iexact G15
      ipureintro; rfl
    isplitl [G16]
    · iexists _; iexists _; isplitr
      swap; · iexact G16
      ipureintro; rfl
    isplitl [G17]
    · iexists _; iexists _; isplitr
      swap; · iexact G17
      ipureintro; rfl
    isplitl [G18]
    · iexists _; iexists _; isplitr
      swap; · iexact G18
      ipureintro; rfl
    isplitl [G19]
    · iexists _; iexists _; isplitr
      swap; · iexact G19
      ipureintro; rfl
    iexists _; iexists _; isplitr
    swap; · iexact G20
    ipureintro; rfl

set_option maxHeartbeats 4000000 in
/-- A later point before the 64th. -/
noncomputable def runB
    (h1 : k0_cond1 i = 1#1) (h0 : ¬First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_out_proj_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_out_proj_route_eq_skeleton]; unfold cc0_out_proj_route_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d13, %g13, -, G13⟩, ⟨%d15, %g15, -, G15⟩, ⟨%d16, %g16, -, G16⟩, ⟨%d17, %g17, -, G17⟩, ⟨%d18, %g18, -, G18⟩, ⟨%d19, %g19, -, G19⟩, ⟨%d20, %g20, -, G20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h0 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [G13]; · iexists _; iexact G13
    isplitl [G15]
    · iexists _; iexists _; isplitr
      swap; · iexact G15
      ipureintro; rfl
    isplitl [G16]
    · iexists _; iexists _; isplitr
      swap; · iexact G16
      ipureintro; rfl
    isplitl [G17]
    · iexists _; iexists _; isplitr
      swap; · iexact G17
      ipureintro; rfl
    isplitl [G18]
    · iexists _; iexists _; isplitr
      swap; · iexact G18
      ipureintro; rfl
    isplitl [G19]
    · iexists _; iexists _; isplitr
      swap; · iexact G19
      ipureintro; rfl
    iexists _; iexists _; isplitr
    swap; · iexact G20
    ipureintro; rfl

set_option maxHeartbeats 4000000 in
/-- A point from the 64th on. -/
noncomputable def runC
    (h1 : ¬k0_cond1 i = 1#1) (h0 : ¬First i) (h3 : k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    { L : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg14.view.loc (c : Thread nD τ) ↦[arg14.view.set]{fullShare} arg14.view.writes (Elt F) f L) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_out_proj_route i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, fun E K => ?run⟩
  case run =>
    simp only [cc0_out_proj_route_eq_skeleton]; unfold cc0_out_proj_route_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d14, %g14, -, G14⟩, ⟨%d15, %g15, -, G15⟩, ⟨%d16, %g16, -, G16⟩, ⟨%d17, %g17, -, G17⟩, ⟨%d18, %g18, -, G18⟩, ⟨%d19, %g19, -, G19⟩, ⟨%d20, %g20, -, G20⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact h1 | sl_exact h0 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [G14]; · iexists _; iexact G14
    isplitl [G15]
    · iexists _; iexists _; isplitr
      swap; · iexact G15
      ipureintro; rfl
    isplitl [G16]
    · iexists _; iexists _; isplitr
      swap; · iexact G16
      ipureintro; rfl
    isplitl [G17]
    · iexists _; iexists _; isplitr
      swap; · iexact G17
      ipureintro; rfl
    isplitl [G18]
    · iexists _; iexists _; isplitr
      swap; · iexact G18
      ipureintro; rfl
    isplitl [G19]
    · iexists _; iexists _; isplitr
      swap; · iexact G19
      ipureintro; rfl
    iexists _; iexists _; isplitr
    swap; · iexact G20
    ipureintro; rfl

end Cert.Kernel3Ideal.OutProj

end
-- ==== Proof.Kernel3IdealRows.lean ====
/- What the body of `out_proj_route` stores into a block of its rows, in the three kinds of point: the same formula of the blocks it
   loads. -/
module

public import proofs.«01_k».proof.Proof.Kernel3IdealRuns
public import Idealize.ShloMosaic.Lib.Claim

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows stored, from what is loaded: the four planes of the first half, its gain, the second half, its gain, the two
    halves of the weights and the rows they are added to. -/
def rowsOf (a b c d : Vec F S1x512x128 .f32) (g : Vec F S1x1x512 .f32) (n : Vec F S512x512 .f32) (g' : Vec F S1x1x512 .f32)
    (w w' : Vec F S1x512x1024 .bf16) (x : Vec F S512x1024 .f32) : FVec F S512x1024 .f32 :=
  k0_pay12 (k0_pay9 a b c d g) n (k0_pay10 g') (k0_pay11 n) w w' x

/-- The one store of the rows, from what is loaded. -/
def loaded (a b c d : Vec F S1x512x128 .f32) (g : Vec F S1x1x512 .f32) (n : Vec F S512x512 .f32) (g' : Vec F S1x1x512 .f32)
    (w w' : Vec F S1x512x1024 .bf16) (x : Vec F S512x1024 .f32) : List (View.Piece (Elt F) S512x1024 .f32) :=
  [⟨Rect.unit ![0, 0] ![512, 1024] inb_S512x1024_S512x1024_0_0, rowsOf a b c d g n g' w w' x⟩]

/-- The same from the blocks. -/
def stores (y : Vec F S4x512x128 .f32) (n : Vec F S512x512 .f32) (x : Vec F S512x1024 .f32) (g g' : Vec F S1x1x512 .f32)
    (w : Vec F S1x1024x1024 .bf16) : List (View.Piece (Elt F) S512x1024 .f32) :=
  loaded (View.ld y (Rect.unit ![0, 0, 0] ![1, 512, 128] inb_S4x512x128_S1x512x128_0_0_0)) (View.ld y (Rect.unit ![1, 0, 0] ![1, 512, 128] inb_S4x512x128_S1x512x128_1_0_0))
    (View.ld y (Rect.unit ![2, 0, 0] ![1, 512, 128] inb_S4x512x128_S1x512x128_2_0_0)) (View.ld y (Rect.unit ![3, 0, 0] ![1, 512, 128] inb_S4x512x128_S1x512x128_3_0_0))
    (View.ld g (Rect.unit ![0, 0, 0] ![1, 1, 512] inb_S1x1x512_S1x1x512_0_0_0)) (View.ld n (Rect.unit ![0, 0] ![512, 512] inb_S512x512_S512x512_0_0))
    (View.ld g' (Rect.unit ![0, 0, 0] ![1, 1, 512] inb_S1x1x512_S1x1x512_0_0_0)) (View.ld w (Rect.unit ![0, 0, 0] ![1, 512, 1024] inb_S1x1024x1024_S1x512x1024_0_0_0))
    (View.ld w (Rect.unit ![0, 512, 0] ![1, 512, 1024] inb_S1x1024x1024_S1x512x1024_0_512_0))
    (View.ld x (Rect.unit ![0, 0] ![512, 1024] inb_S512x1024_S512x1024_0_0))

section
variable (c : Dev nD) (i : grid0.Coords)
  (arg1 : Memref sig .tc .smem S1 .i32) (harg1 : arg1.IsWhole) (arg2 : Memref sig .tc .vmem S4x512x128 .f32) (harg2 : arg2.IsWhole) (arg3 : Memref sig .tc .vmem S512x512 .f32) (harg3 : arg3.IsWhole) (arg4 : Memref sig .tc .vmem S512x1024 .f32) (harg4 : arg4.IsWhole) (arg5 : Memref sig .tc .vmem S512x1024 .f32) (harg5 : arg5.IsWhole)
  (arg6 : Memref sig .tc .vmem S1x1x512 .f32) (harg6 : arg6.IsWhole) (arg7 : Memref sig .tc .vmem S1x1x512 .f32) (harg7 : arg7.IsWhole) (arg8 : Memref sig .tc .vmem S1x1024x1024 .bf16) (harg8 : arg8.IsWhole) (arg9 : Memref sig .tc .vmem S1x1x1024 .f32) (harg9 : arg9.IsWhole) (arg10 : Memref sig .tc .vmem S1x1024x256 .bf16) (harg10 : arg10.IsWhole)
  (arg11 : Memref sig .tc .vmem S1x1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .bf16) (harg15 : arg15.IsWhole)
  (arg16 : Memref sig .tc .vmem S2x512 .i32) (harg16 : arg16.IsWhole) (arg17 : Memref sig .tc .vmem S2x512 .i32) (harg17 : arg17.IsWhole) (arg18 : Memref sig .tc .vmem S512x128 .f32) (harg18 : arg18.IsWhole) (arg19 : Memref sig .tc .vmem S32x128 .f32) (harg19 : arg19.IsWhole) (arg20 : Memref sig .tc .vmem S32x128 .f32) (harg20 : arg20.IsWhole)

set_option maxHeartbeats 1000000 in
theorem found_A
    (h1 : k0_cond1 i = 1#1) (h0 : First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = loaded
      (View.ld (View.read (Elt F) arg2.view (harg2.unread x0)) (Rect.unit ![0, 0, 0] ![1, 512, 128] inb_S4x512x128_S1x512x128_0_0_0))
      (View.ld (View.read (Elt F) arg2.view (harg2.unread x0)) (Rect.unit ![1, 0, 0] ![1, 512, 128] inb_S4x512x128_S1x512x128_1_0_0))
      (View.ld (View.read (Elt F) arg2.view (harg2.unread x0)) (Rect.unit ![2, 0, 0] ![1, 512, 128] inb_S4x512x128_S1x512x128_2_0_0))
      (View.ld (View.read (Elt F) arg2.view (harg2.unread x0)) (Rect.unit ![3, 0, 0] ![1, 512, 128] inb_S4x512x128_S1x512x128_3_0_0))
      (View.ld (View.read (Elt F) arg6.view (harg6.unread x4)) (Rect.unit ![0, 0, 0] ![1, 1, 512] inb_S1x1x512_S1x1x512_0_0_0))
      (View.ld (View.read (Elt F) arg3.view (harg3.unread x1)) (Rect.unit ![0, 0] ![512, 512] inb_S512x512_S512x512_0_0))
      (View.ld (View.read (Elt F) arg7.view (harg7.unread x5)) (Rect.unit ![0, 0, 0] ![1, 1, 512] inb_S1x1x512_S1x1x512_0_0_0))
      (View.ld (View.read (Elt F) arg8.view (harg8.unread x6)) (Rect.unit ![0, 0, 0] ![1, 512, 1024] inb_S1x1024x1024_S1x512x1024_0_0_0))
      (View.ld (View.read (Elt F) arg8.view (harg8.unread x6)) (Rect.unit ![0, 512, 0] ![1, 512, 1024] inb_S1x1024x1024_S1x512x1024_0_512_0))
      (View.ld (View.read (Elt F) arg4.view (harg4.unread x2)) (Rect.unit ![0, 0] ![512, 1024] inb_S512x1024_S512x1024_0_0)) := by
  unfold runA
  dsimp only
  sl_kernel_rfl

theorem stores_A
    (h1 : k0_cond1 i = 1#1) (h0 : First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = stores x0 x1 x2 x4 x5 x6 := by
  refine (found_A _ _ _ _ _ _ _ _ _ _ _ _ _ _ _ _ _ _ _ _ _ _ _ _ _ _ _ _ _ _ _ _ _ _ _ _ _ _ _ _ _ _ _ _ _ _ _ _ _ _ _ _ _ _ _ _).trans ?_
  unfold stores
  simp only [Memref.IsWhole.read_unread]

set_option maxHeartbeats 1000000 in
theorem found_B
    (h1 : k0_cond1 i = 1#1) (h0 : ¬First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = loaded
      (View.ld (View.read (Elt F) arg2.view (harg2.unread x0)) (Rect.unit ![0, 0, 0] ![1, 512, 128] inb_S4x512x128_S1x512x128_0_0_0))
      (View.ld (View.read (Elt F) arg2.view (harg2.unread x0)) (Rect.unit ![1, 0, 0] ![1, 512, 128] inb_S4x512x128_S1x512x128_1_0_0))
      (View.ld (View.read (Elt F) arg2.view (harg2.unread x0)) (Rect.unit ![2, 0, 0] ![1, 512, 128] inb_S4x512x128_S1x512x128_2_0_0))
      (View.ld (View.read (Elt F) arg2.view (harg2.unread x0)) (Rect.unit ![3, 0, 0] ![1, 512, 128] inb_S4x512x128_S1x512x128_3_0_0))
      (View.ld (View.read (Elt F) arg6.view (harg6.unread x4)) (Rect.unit ![0, 0, 0] ![1, 1, 512] inb_S1x1x512_S1x1x512_0_0_0))
      (View.ld (View.read (Elt F) arg3.view (harg3.unread x1)) (Rect.unit ![0, 0] ![512, 512] inb_S512x512_S512x512_0_0))
      (View.ld (View.read (Elt F) arg7.view (harg7.unread x5)) (Rect.unit ![0, 0, 0] ![1, 1, 512] inb_S1x1x512_S1x1x512_0_0_0))
      (View.ld (View.read (Elt F) arg8.view (harg8.unread x6)) (Rect.unit ![0, 0, 0] ![1, 512, 1024] inb_S1x1024x1024_S1x512x1024_0_0_0))
      (View.ld (View.read (Elt F) arg8.view (harg8.unread x6)) (Rect.unit ![0, 512, 0] ![1, 512, 1024] inb_S1x1024x1024_S1x512x1024_0_512_0))
      (View.ld (View.read (Elt F) arg4.view (harg4.unread x2)) (Rect.unit ![0, 0] ![512, 1024] inb_S512x1024_S512x1024_0_0)) := by
  unfold runB
  dsimp only
  sl_kernel_rfl

theorem stores_B
    (h1 : k0_cond1 i = 1#1) (h0 : ¬First i) (h3 : ¬k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = stores x0 x1 x2 x4 x5 x6 := by
  refine (found_B _ _ _ _ _ _ _ _ _ _ _ _ _ _ _ _ _ _ _ _ _ _ _ _ _ _ _ _ _ _ _ _ _ _ _ _ _ _ _ _ _ _ _ _ _ _ _ _ _ _ _ _ _ _ _ _).trans ?_
  unfold stores
  simp only [Memref.IsWhole.read_unread]

set_option maxHeartbeats 1000000 in
theorem found_C
    (h1 : ¬k0_cond1 i = 1#1) (h0 : ¬First i) (h3 : k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = loaded
      (View.ld (View.read (Elt F) arg2.view (harg2.unread x0)) (Rect.unit ![0, 0, 0] ![1, 512, 128] inb_S4x512x128_S1x512x128_0_0_0))
      (View.ld (View.read (Elt F) arg2.view (harg2.unread x0)) (Rect.unit ![1, 0, 0] ![1, 512, 128] inb_S4x512x128_S1x512x128_1_0_0))
      (View.ld (View.read (Elt F) arg2.view (harg2.unread x0)) (Rect.unit ![2, 0, 0] ![1, 512, 128] inb_S4x512x128_S1x512x128_2_0_0))
      (View.ld (View.read (Elt F) arg2.view (harg2.unread x0)) (Rect.unit ![3, 0, 0] ![1, 512, 128] inb_S4x512x128_S1x512x128_3_0_0))
      (View.ld (View.read (Elt F) arg6.view (harg6.unread x4)) (Rect.unit ![0, 0, 0] ![1, 1, 512] inb_S1x1x512_S1x1x512_0_0_0))
      (View.ld (View.read (Elt F) arg3.view (harg3.unread x1)) (Rect.unit ![0, 0] ![512, 512] inb_S512x512_S512x512_0_0))
      (View.ld (View.read (Elt F) arg7.view (harg7.unread x5)) (Rect.unit ![0, 0, 0] ![1, 1, 512] inb_S1x1x512_S1x1x512_0_0_0))
      (View.ld (View.read (Elt F) arg8.view (harg8.unread x6)) (Rect.unit ![0, 0, 0] ![1, 512, 1024] inb_S1x1024x1024_S1x512x1024_0_0_0))
      (View.ld (View.read (Elt F) arg8.view (harg8.unread x6)) (Rect.unit ![0, 512, 0] ![1, 512, 1024] inb_S1x1024x1024_S1x512x1024_0_512_0))
      (View.ld (View.read (Elt F) arg5.view (harg5.unread x3)) (Rect.unit ![0, 0] ![512, 1024] inb_S512x1024_S512x1024_0_0)) := by
  unfold runC
  dsimp only
  sl_kernel_rfl

theorem stores_C
    (h1 : ¬k0_cond1 i = 1#1) (h0 : ¬First i) (h3 : k0_cond3 i = 1#1)
    (x0 : Vec F S4x512x128 .f32) (x1 : Vec F S512x512 .f32) (x2 : Vec F S512x1024 .f32) (x3 : Vec F S512x1024 .f32) (x4 : Vec F S1x1x512 .f32) (x5 : Vec F S1x1x512 .f32) (x6 : Vec F S1x1024x1024 .bf16) (x7 : Vec F S1x1x1024 .f32) (x8 : Vec F S1x1024x256 .bf16) (x9 : Vec F S1x1x128 .f32) (x10 : Vec F S512x512 .bf16) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h0 h3 x0 x1 x2 x3 x4 x5 x6 x7 x8 x9 x10).1 = stores x0 x1 x3 x4 x5 x6 := by
  refine (found_C _ _ _ _ _ _ _ _ _ _ _ _ _ _ _ _ _ _ _ _ _ _ _ _ _ _ _ _ _ _ _ _ _ _ _ _ _ _ _ _ _ _ _ _ _ _ _ _ _ _ _ _ _ _ _ _).trans ?_
  unfold stores
  simp only [Memref.IsWhole.read_unread]

end

/-- That store covers the block. -/
theorem tiles (y : Vec F S4x512x128 .f32) (n : Vec F S512x512 .f32) (x : Vec F S512x1024 .f32) (g g' : Vec F S1x1x512 .f32)
    (w : Vec F S1x1024x1024 .bf16) (j : S512x1024.Idx) : ∃ pc ∈ stores y n x g g' w, j ∈ pc.1.set :=
  View.cover_of_tiledL (stores y n x g g' w) S512x1024.size (by sl_kernel_rfl) j

end Cert.Kernel3Ideal.OutProj

end
-- ==== Proof.OutRows.lean ====
/- The mathematics of the output projection on the extended reals: the two halves of a row normed, projected together on one
   column and added to the row they go into. -/
module

public import Idealize.ShloMosaic.Lib.Pointwise
public import Idealize.ShloMosaic.Lib.IdealHost

@[expose] public section

noncomputable section

namespace Cert.OutRows

open Idealize.ShloMosaic

/-- Half of a row normed: over the root of its mean square, times the gains. -/
def halfNorm (x g : Fin 512 → EReal) (k : Fin 512) : EReal :=
  x k * Ideal.rsqrt (Ideal.div (∑ i, x i * x i) (Ideal.ofBits .f32 0x44000000#32) + Ideal.ofBits .f32 0x358637BD#32) * g k

/-- The two halves of a row, each normed, projected on one column and added to `x`. -/
def mixed (x : EReal) (d n gd gn : Fin 512 → EReal) (w : Fin 1024 → EReal) : EReal :=
  x + (∑ k : Fin 512, halfNorm d gd k * w ⟨k.val, by omega⟩ + ∑ k : Fin 512, halfNorm n gn k * w ⟨512 + k.val, by omega⟩)

/-- A sum over a row is the sum over its halves. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

theorem mixed_congr {x x' : EReal} {d d' n n' gd gd' gn gn' : Fin 512 → EReal} {w w' : Fin 1024 → EReal} (hx : x = x')
    (hd : ∀ k, d k = d' k) (hn : ∀ k, n k = n' k) (hgd : ∀ k, gd k = gd' k) (hgn : ∀ k, gn k = gn' k) (hw : ∀ k, w k = w' k) :
    mixed x d n gd gn w = mixed x' d' n' gd' gn' w' := by
  rw [hx, funext hd, funext hn, funext hgd, funext hgn, funext hw]

end Cert.OutRows

end
-- ==== Proof.Kernel3IdealBlock.lean ====
/- What a point of the idealized `out_proj_route` kernel stores into its block of the rows, element by element. -/
module

public import proofs.«01_k».proof.Proof.Kernel3IdealRows
public import proofs.«01_k».proof.Proof.OutRows
public import Idealize.ShloMosaic.Lib.Pipeline.ValueKit

@[expose] public section

set_option maxRecDepth 16384

noncomputable section

namespace Cert.Kernel3Ideal.OutProj

open Cert.Kernel3Ideal.Gen Cert.OutRows
open Idealize.ShloMosaic Idealize.ShloMosaic.TcCoe Idealize.ShloMosaic.Tactic

/-- Four planes side by side. -/
def beside (a b c d : Fin 128 → EReal) (k : Fin 512) : EReal :=
  if h : k.val < 128 then a ⟨k.val, h⟩ else if h : k.val - 128 < 128 then b ⟨k.val - 128, h⟩
    else if h : k.val - 128 - 128 < 128 then c ⟨k.val - 128 - 128, h⟩ else d ⟨k.val - 128 - 128 - 128, by omega⟩

theorem first_half (a b c d : Vec Ideal S1x512x128 .f32) (g : Vec Ideal S1x1x512 .f32) (r k : Fin 512) :
    (k0_pay9 a b c d g (ix2 r k) : EReal)
      = halfNorm (beside (fun l => a (ix3 0 r l)) (fun l => b (ix3 0 r l)) (fun l => c (ix3 0 r l)) (fun l => d (ix3 0 r l))) (fun k => g (ix3 0 0 k)) k := by
  unfold halfNorm beside
  pointwise [k0_pay9]

theorem rest (f : FVec Ideal S512x512 .bf16) (g : Vec Ideal S1x1x512 .f32) (n : Vec Ideal S512x512 .f32) (w w' : Vec Ideal S1x512x1024 .bf16)
    (x : Vec Ideal S512x1024 .f32) (r : Fin 512) (p : Fin 1024) :
    (k0_pay12 f n (k0_pay10 g) (k0_pay11 n) w w' x (ix2 r p) : EReal)
      = x (ix2 r p) + (∑ k : Fin 512, f (ix2 r k) * w (ix3 0 k p) + ∑ k : Fin 512, halfNorm (fun k => n (ix2 r k)) (fun k => g (ix3 0 0 k)) k * w' (ix3 0 k p)) := by
  unfold halfNorm
  pointwise [k0_pay12, k0_pay10, k0_pay11]

/-- The planes of a block's rows side by side are its elements. -/
theorem beside_eq (y : Vec Ideal S4x512x128 .f32) (r k : Fin 512) :
    beside (fun l => y (ix3 0 r l)) (fun l => y (ix3 1 r l)) (fun l => y (ix3 2 r l)) (fun l => y (ix3 3 r l)) k
      = y (ix3 ⟨k.val / 128, by omega⟩ r ⟨k.val % 128, by omega⟩) := by
  have at_ : ∀ (a a' : Fin 4) (l l' : Fin 128), a.val = a'.val → l.val = l'.val → y (ix3 a r l) = y (ix3 a' r l') :=
    fun a a' l l' h h' => by rw [Fin.ext h, Fin.ext h']
  unfold beside
  have hk := k.isLt
  split
  · refine at_ _ _ _ _ ?_ ?_
    · show 0 = k.val / 128; omega
    · show k.val = k.val % 128; omega
  · split
    · refine at_ _ _ _ _ ?_ ?_
      · show 1 = k.val / 128; omega
      · show k.val - 128 = k.val % 128; omega
    · split
      · refine at_ _ _ _ _ ?_ ?_
        · show 2 = k.val / 128; omega
        · show k.val - 128 - 128 = k.val % 128; omega
      · refine at_ _ _ _ _ ?_ ?_
        · show 3 = k.val / 128; omega
        · show k.val - 128 - 128 - 128 = k.val % 128; omega

theorem plane_apply (y : Vec Ideal S4x512x128 .f32) (o : Fin 3 → ℕ) (h : ∀ a, o a + (![1, 512, 128] : Fin 3 → ℕ) a ≤ S4x512x128.size a)
    (a : Fin 4) (h0 : o 0 = a.val) (h1 : o 1 = 0) (h2 : o 2 = 0) (r : Fin 512) (l : Fin 128) :
    View.ld y (Rect.unit (s := S4x512x128) o ![1, 512, 128] h) (ix3 0 r l) = y (ix3 a r l) := by
  refine congrArg y (funext fun q => Fin.ext ?_)
  match q with
  | ⟨0, _⟩ => show o 0 + 1 * 0 = a.val; omega
  | ⟨1, _⟩ => show o 1 + 1 * r.val = r.val; omega
  | ⟨2, _⟩ => show o 2 + 1 * l.val = l.val; omega

theorem weight_apply (w : Vec Ideal S1x1024x1024 .bf16) (o : Fin 3 → ℕ) (h : ∀ a, o a + (![1, 512, 1024] : Fin 3 → ℕ) a ≤ S1x1024x1024.size a)
    (h0 : o 0 = 0) (h2 : o 2 = 0) (k : Fin 512) (p : Fin 1024) (k' : Fin 1024) (h1 : k'.val = o 1 + k.val) :
    View.ld w (Rect.unit (s := S1x1024x1024) o ![1, 512, 1024] h) (ix3 0 k p) = w (ix3 0 k' p) := by
  refine congrArg w (funext fun q => Fin.ext ?_)
  match q with
  | ⟨0, _⟩ => show o 0 + 1 * 0 = 0; omega
  | ⟨1, _⟩ => show o 1 + 1 * k.val = k'.val; omega
  | ⟨2, _⟩ => show o 2 + 1 * p.val = p.val; omega

/-- An element of the rows stored, from the blocks. -/
def rowAt (y : Vec Ideal S4x512x128 .f32) (n : Vec Ideal S512x512 .f32) (x : Vec Ideal S512x1024 .f32) (g g' : Vec Ideal S1x1x512 .f32)
    (w : Vec Ideal S1x1024x1024 .bf16) (r : Fin 512) (p : Fin 1024) : EReal :=
  mixed (x (ix2 r p)) (fun k => y (ix3 ⟨k.val / 128, by omega⟩ r ⟨k.val % 128, by omega⟩)) (fun k => n (ix2 r k)) (fun k => g (ix3 0 0 k))
    (fun k => g' (ix3 0 0 k)) (fun k => w (ix3 0 k p))

/-- What the store puts down. -/
theorem stores_value (y : Vec Ideal S4x512x128 .f32) (n : Vec Ideal S512x512 .f32) (x : Vec Ideal S512x1024 .f32) (g g' : Vec Ideal S1x1x512 .f32)
    (w : Vec Ideal S1x1024x1024 .bf16) : ∀ pc ∈ stores y n x g g' w, ∀ i : pc.1.shape.Idx,
      pc.2 i = rowAt y n x g g' w (pc.1.emb i 0) (pc.1.emb i 1) := by
  intro pc hpc
  unfold stores loaded at hpc
  obtain rfl := List.mem_singleton.mp hpc
  intro i
  obtain ⟨r, hr⟩ : ∃ r : Fin 512, r = i 0 := ⟨_, rfl⟩
  obtain ⟨p, hp⟩ : ∃ p : Fin 1024, p = i 1 := ⟨_, rfl⟩
  have ei : i = ix2 r p := funext fun a => by match a with | ⟨0, _⟩ => exact hr.symm | ⟨1, _⟩ => exact hp.symm
  have e0 : ((Rect.unit (s := S512x1024) ![0, 0] ![512, 1024] inb_S512x1024_S512x1024_0_0).emb i 0 : Fin 512) = r :=
    Fin.ext (by show 0 + 1 * (i 0).val = r.val; rw [hr]; omega)
  have e1 : ((Rect.unit (s := S512x1024) ![0, 0] ![512, 1024] inb_S512x1024_S512x1024_0_0).emb i 1 : Fin 1024) = p :=
    Fin.ext (by show 0 + 1 * (i 1).val = p.val; rw [hp]; omega)
  refine Eq.trans ?_ (congrArg₂ (rowAt y n x g g' w) e0 e1).symm
  simp (disch := decide) only [View.ld_unit_lit']
  rw [ei]
  unfold rowsOf
  refine (rest _ _ _ _ _ _ r p).trans ?_
  unfold rowAt mixed
  refine congrArg₂ (fun u v : EReal => x (ix2 r p) + (u + v)) (Finset.sum_congr rfl fun k _ => ?_) (Finset.sum_congr rfl fun k _ => ?_)
  · refine congrArg₂ (fun u v : EReal => u * v) ((first_half _ _ _ _ _ r k).trans ?_) (weight_apply w _ _ rfl rfl k p _ (Nat.zero_add _).symm)
    refine congrArg (fun f => halfNorm f (fun k => g (ix3 0 0 k)) k) (funext fun k => Eq.trans ?_ (beside_eq y r k))
    rw [funext fun l => plane_apply y ![0, 0, 0] inb_S4x512x128_S1x512x128_0_0_0 0 rfl rfl rfl r l,
      funext fun l => plane_apply y ![1, 0, 0] inb_S4x512x128_S1x512x128_1_0_0 1 rfl rfl rfl r l,
      funext fun l => plane_apply y ![2, 0, 0] inb_S4x512x128_S1x512x128_2_0_0 2 rfl rfl rfl r l,
      funext fun l => plane_apply y ![3, 0, 0] inb_S4x512x128_S1x512x128_3_0_0 3 rfl rfl rfl r l]
  · exact congrArg (fun v : EReal => halfNorm (fun k => n (ix2 r k)) (fun k => g' (ix3 0 0 k)) k * v) (weight_apply w _ _ rfl rfl k p _ rfl)

end Cert.Kernel3Ideal.OutProj

end
-- ==== Proof.Kernel3IdealBlocks.lean ====
/- The elements of the ideal `out_proj_route` kernel's blocks in the arrays they are blocks of. -/
module

public import proofs.«01_k».proof.Proof.Kernel3IdealLayer
public import Idealize.ShloMosaic.Lib.IdealHost
public import Idealize.ShloMosaic.Lib.Pipeline.Value

@[expose] public section

set_option maxRecDepth 16384

noncomputable section

namespace Cert.Kernel3Ideal.OutProj

open Cert.Kernel3Ideal.Gen
open Idealize.ShloMosaic Idealize.ShloMosaic.TcCoe Idealize.ShloMosaic.Tactic

variable (m : (ℓ : Loc nD τ sig) → Buf (Elt Ideal) ℓ)

theorem index_0 : ∀ t : Fin grid0.N, cc0_transform_0 (grid0.coords t) = ![0, t.val, 0] := by decide +kernel

theorem index_1 : ∀ t : Fin grid0.N, cc0_transform_1 (grid0.coords t) = ![t.val, 0] := by decide +kernel

theorem index_2 : ∀ t : Fin grid0.N, cc0_transform_2 (grid0.coords t) = ![min t.val 63, 0] := by decide +kernel

theorem index_3 : ∀ t : Fin grid0.N, cc0_transform_3 (grid0.coords t) = ![t.val - 64, 0] := by decide +kernel

theorem index_11 : ∀ t : Fin grid0.N, cc0_transform_11 (grid0.coords t) = ![min t.val 63, 0] := by decide +kernel

theorem index_12 : ∀ t : Fin grid0.N, cc0_transform_12 (grid0.coords t) = ![t.val - 64, 0] := by decide +kernel

/-- The planes' rows. -/
theorem iblk_0 (hO : Ok m) (c : Dev nD) (t : Fin (cfgM m hO).N) (x : S4x512x128.Idx) (y : S4x49152x128.Idx)
    (h0 : (y 0).val = (x 0).val) (h1 : (y 1).val = t.val * 512 + (x 1).val) (h2 : (y 2).val = (x 2).val) : iblk m hO c 0 t x = V m c main_arg0 y := by
  refine congrArg (V m c main_arg0) (funext fun a => Fin.ext ?_)
  refine (Pipeline.Window.rect_emb_val ((cfgM m hO).win 0) t x a rfl).trans ?_
  show cc0_transform_0 (grid0.coords t) a * S4x512x128.size a + (x a).val = (y a).val
  rw [index_0]
  match a with
  | ⟨0, _⟩ => show 0 * 4 + (x 0).val = (y 0).val; omega
  | ⟨1, _⟩ => show t.val * 512 + (x 1).val = (y 1).val; omega
  | ⟨2, _⟩ => show 0 * 128 + (x 2).val = (y 2).val; omega

/-- The second half's rows. -/
theorem iblk_1 (hO : Ok m) (c : Dev nD) (t : Fin (cfgM m hO).N) (x : S512x512.Idx) (y : S49152x512.Idx)
    (h0 : (y 0).val = t.val * 512 + (x 0).val) (h1 : (y 1).val = (x 1).val) : iblk m hO c 1 t x = V m c main_arg1 y := by
  refine congrArg (V m c main_arg1) (funext fun a => Fin.ext ?_)
  refine (Pipeline.Window.rect_emb_val ((cfgM m hO).win 1) t x a rfl).trans ?_
  show cc0_transform_1 (grid0.coords t) a * S512x512.size a + (x a).val = (y a).val
  rw [index_1]
  match a with
  | ⟨0, _⟩ => show t.val * 512 + (x 0).val = (y 0).val; omega
  | ⟨1, _⟩ => show 0 * 512 + (x 1).val = (y 1).val; omega

/-- The rows of the first array. -/
theorem iblk_2 (hO : Ok m) (c : Dev nD) (t : Fin (cfgM m hO).N) (x : S512x1024.Idx) (y : S32768x1024.Idx)
    (h0 : (y 0).val = min t.val 63 * 512 + (x 0).val) (h1 : (y 1).val = (x 1).val) : iblk m hO c 2 t x = V m c main_arg2 y := by
  refine congrArg (V m c main_arg2) (funext fun a => Fin.ext ?_)
  refine (Pipeline.Window.rect_emb_val ((cfgM m hO).win 2) t x a rfl).trans ?_
  show cc0_transform_2 (grid0.coords t) a * S512x1024.size a + (x a).val = (y a).val
  rw [index_2]
  match a with
  | ⟨0, _⟩ => show min t.val 63 * 512 + (x 0).val = (y 0).val; omega
  | ⟨1, _⟩ => show 0 * 1024 + (x 1).val = (y 1).val; omega

/-- The rows of the second. -/
theorem iblk_3 (hO : Ok m) (c : Dev nD) (t : Fin (cfgM m hO).N) (x : S512x1024.Idx) (y : S16384x1024.Idx)
    (h0 : (y 0).val = (t.val - 64) * 512 + (x 0).val) (h1 : (y 1).val = (x 1).val) : iblk m hO c 3 t x = V m c main_arg3 y := by
  refine congrArg (V m c main_arg3) (funext fun a => Fin.ext ?_)
  refine (Pipeline.Window.rect_emb_val ((cfgM m hO).win 3) t x a rfl).trans ?_
  show cc0_transform_3 (grid0.coords t) a * S512x1024.size a + (x a).val = (y a).val
  rw [index_3]
  match a with
  | ⟨0, _⟩ => show (t.val - 64) * 512 + (x 0).val = (y 0).val; omega
  | ⟨1, _⟩ => show 0 * 1024 + (x 1).val = (y 1).val; omega

/-- The layer's gains of the first half. -/
theorem iblk_4 (hO : Ok m) (c : Dev nD) (t : Fin (cfgM m hO).N) (x : S1x1x512.Idx) (y : S4x1x512.Idx)
    (h0 : (y 0).val = (layer (F := Ideal) (tbl m 0)).toNat) (h1 : (y 1).val = (x 1).val) (h2 : (y 2).val = (x 2).val) : iblk m hO c 4 t x = V m c main_v0 y := by
  refine congrArg (V m c main_v0) (funext fun a => Fin.ext ?_)
  refine (Pipeline.Window.rect_emb_val ((cfgM m hO).win 4) t x a rfl).trans ?_
  show cc0_transform_4 inb_S1_S1_0 numel1_S1 (tbl m) (grid0.coords t) a * S1x1x512.size a + (x a).val = (y a).val
  have x0 : (x 0).val = 0 := Nat.lt_one_iff.mp (x 0).isLt
  rw [transform_4]
  match a with
  | ⟨0, _⟩ => show (layer (F := Ideal) (tbl m 0)).toNat * 1 + (x 0).val = (y 0).val; omega
  | ⟨1, _⟩ => show 0 * 1 + (x 1).val = (y 1).val; omega
  | ⟨2, _⟩ => show 0 * 512 + (x 2).val = (y 2).val; omega

/-- The layer's gains of the second half. -/
theorem iblk_5 (hO : Ok m) (c : Dev nD) (t : Fin (cfgM m hO).N) (x : S1x1x512.Idx) (y : S4x1x512.Idx)
    (h0 : (y 0).val = (layer (F := Ideal) (tbl m 0)).toNat) (h1 : (y 1).val = (x 1).val) (h2 : (y 2).val = (x 2).val) : iblk m hO c 5 t x = V m c main_v1 y := by
  refine congrArg (V m c main_v1) (funext fun a => Fin.ext ?_)
  refine (Pipeline.Window.rect_emb_val ((cfgM m hO).win 5) t x a rfl).trans ?_
  show cc0_transform_5 inb_S1_S1_0 numel1_S1 (tbl m) (grid0.coords t) a * S1x1x512.size a + (x a).val = (y a).val
  have x0 : (x 0).val = 0 := Nat.lt_one_iff.mp (x 0).isLt
  rw [transform_5]
  match a with
  | ⟨0, _⟩ => show (layer (F := Ideal) (tbl m 0)).toNat * 1 + (x 0).val = (y 0).val; omega
  | ⟨1, _⟩ => show 0 * 1 + (x 1).val = (y 1).val; omega
  | ⟨2, _⟩ => show 0 * 512 + (x 2).val = (y 2).val; omega

/-- The layer's matrix. -/
theorem iblk_6 (hO : Ok m) (c : Dev nD) (t : Fin (cfgM m hO).N) (x : S1x1024x1024.Idx) (y : S4x1024x1024.Idx)
    (h0 : (y 0).val = (layer (F := Ideal) (tbl m 0)).toNat) (h1 : (y 1).val = (x 1).val) (h2 : (y 2).val = (x 2).val) : iblk m hO c 6 t x = V m c main_v2 y := by
  refine congrArg (V m c main_v2) (funext fun a => Fin.ext ?_)
  refine (Pipeline.Window.rect_emb_val ((cfgM m hO).win 6) t x a rfl).trans ?_
  show cc0_transform_6 inb_S1_S1_0 numel1_S1 (tbl m) (grid0.coords t) a * S1x1024x1024.size a + (x a).val = (y a).val
  have x0 : (x 0).val = 0 := Nat.lt_one_iff.mp (x 0).isLt
  rw [transform_6]
  match a with
  | ⟨0, _⟩ => show (layer (F := Ideal) (tbl m 0)).toNat * 1 + (x 0).val = (y 0).val; omega
  | ⟨1, _⟩ => show 0 * 1024 + (x 1).val = (y 1).val; omega
  | ⟨2, _⟩ => show 0 * 1024 + (x 2).val = (y 2).val; omega

/-- Where an element of the block that a point writes lies in the output. -/
theorem emb_11 (hO : Ok m) (t : Fin (cfgM m hO).N) (x : S512x1024.Idx) (y : S32768x1024.Idx)
    (h0 : (y 0).val = min t.val 63 * 512 + (x 0).val) (h1 : (y 1).val = (x 1).val) :
    (((cfgM m hO).win 11).blk t).view.emb x = y := by
  refine funext fun a => Fin.ext ?_
  refine (Pipeline.Window.rect_emb_val ((cfgM m hO).win 11) t x a rfl).trans ?_
  show cc0_transform_11 (grid0.coords t) a * S512x1024.size a + (x a).val = (y a).val
  rw [index_11]
  match a with
  | ⟨0, _⟩ => show min t.val 63 * 512 + (x 0).val = (y 0).val; omega
  | ⟨1, _⟩ => show 0 * 1024 + (x 1).val = (y 1).val; omega

/-- Where an element of the block that a point writes lies in the output. -/
theorem emb_12 (hO : Ok m) (t : Fin (cfgM m hO).N) (x : S512x1024.Idx) (y : S16384x1024.Idx)
    (h0 : (y 0).val = (t.val - 64) * 512 + (x 0).val) (h1 : (y 1).val = (x 1).val) :
    (((cfgM m hO).win 12).blk t).view.emb x = y := by
  refine funext fun a => Fin.ext ?_
  refine (Pipeline.Window.rect_emb_val ((cfgM m hO).win 12) t x a rfl).trans ?_
  show cc0_transform_12 (grid0.coords t) a * S512x1024.size a + (x a).val = (y a).val
  rw [index_12]
  match a with
  | ⟨0, _⟩ => show (t.val - 64) * 512 + (x 0).val = (y 0).val; omega
  | ⟨1, _⟩ => show 0 * 1024 + (x 1).val = (y 1).val; omega

end Cert.Kernel3Ideal.OutProj

end
-- ==== Proof.Kernel3IdealFrame.lean ====
/- The launch of `out_proj_route`. Its grid has 96 points; the first 64 store the rows of the first output, the last 32 those of the
   second. The first output's last block is held back until the last point, which writes it out without having stored into it
   again; the other outputs' contents are not named. From the body's obligation follow the launch and the statement that the
   arguments are left as they were. -/
module

public import proofs.«01_k».proof.Proof.Kernel3IdealRows
public import Idealize.ShloMosaic.Lib.Claim

@[expose] public section

set_option maxRecDepth 16384

noncomputable section

namespace Cert.Kernel3Ideal.OutProj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves in the rows' blocks -/

/-- The rows stored at point `s` over the rows `x`. -/
def rowsAt (hO : Ok m) (c : Dev nD) (s : Fin (cfgM m hO).N) (x : Vec F S512x1024 .f32) : Vec F S512x1024 .f32 :=
  VO0_11.read (Elt F) (VO0_11.writes (Elt F) VO0_11.junk (stores (iblk m hO c 0 s) (iblk m hO c 1 s) x (iblk m hO c 4 s) (iblk m hO c 5 s) (iblk m hO c 6 s)))

/-- The last point, up to `t`, that stored into the first output's block. -/
def upTo (hO : Ok m) (t : Fin (cfgM m hO).N) : Fin (cfgM m hO).N := ⟨min t.val 63, lt_of_le_of_lt (min_le_left _ _) t.isLt⟩

/-- The first output's block after point `t`. -/
def out11 (hO : Ok m) (c : Dev nD) (t : Fin (cfgM m hO).N) : Vec F S512x1024 .f32 :=
  rowsAt m hO c (upTo m hO t) (iblk m hO c 2 (upTo m hO t))

/-- The second output's block after a point from the 64th on. -/
def out12 (hO : Ok m) (c : Dev nD) (t : Fin (cfgM m hO).N) : Vec F S512x1024 .f32 := rowsAt m hO c t (iblk m hO c 3 t)

theorem upTo_of_lt (hO : Ok m) (t : Fin (cfgM m hO).N) (h : t.val < 64) : upTo m hO t = t :=
  Fin.ext (show min t.val 63 = t.val by omega)

/-- The outputs whose contents are not named. -/
abbrev unnamed : Fin 18 → Bool := fun w => Nat.ble 13 w.val

/-! ## The data of the launch -/

/-- The arrays as the launch finds them; the inputs' blocks stay and the rows' are the stores above; the invariant keeps the
    scratch, at anything, and the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => out11 m hO c t
    | ⟨12, _⟩ => out12 m hO c t
    | ⟨13, _⟩ => Dat.unnamed 13 t
    | ⟨14, _⟩ => Dat.unnamed 14 t
    | ⟨15, _⟩ => Dat.unnamed 15 t
    | ⟨16, _⟩ => Dat.unnamed 16 t
    | ⟨17, _⟩ => Dat.unnamed 17 t
    | ⟨k + 18, h⟩ => absurd (show k + 18 < 18 from h) (by omega)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = iblk m hO c 7 t := by dsimp only [dats]; try rfl
theorem after_8 (hO : Ok m) (c : Dev nD) (t : Fin (cfgM m hO).N) : (dats m hO 0 c).after 8 t = iblk m hO c 8 t := by dsimp only [dats]; try rfl
theorem after_9 (hO : Ok m) (c : Dev nD) (t : Fin (cfgM m hO).N) : (dats m hO 0 c).after 9 t = iblk m hO c 9 t := by dsimp only [dats]; try rfl
theorem after_10 (hO : Ok m) (c : Dev nD) (t : Fin (cfgM m hO).N) : (dats m hO 0 c).after 10 t = iblk m hO c 10 t := by dsimp only [dats]; try rfl
theorem after_11 (hO : Ok m) (c : Dev nD) (t : Fin (cfgM m hO).N) : (dats m hO 0 c).after 11 t = out11 m hO c t := by dsimp only [dats]; try rfl
theorem after_12 (hO : Ok m) (c : Dev nD) (t : Fin (cfgM m hO).N) : (dats m hO 0 c).after 12 t = out12 m hO c t := by dsimp only [dats]; try rfl

theorem blockOf_eq (hO : Ok m) (c : Dev nD) (w : Fin (cfgM m hO).W) (t : Fin (cfgM m hO).N) : (dats m hO 0 c).blockOf w t = iblk m hO c w t := by
  unfold Dat.blockOf iblk; rw [A_eq]; try rfl

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => (after_0 m hO c t).trans (blockOf_eq m hO c 0 t).symm) t d).trans (blockOf_eq m hO c 0 t)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => (after_1 m hO c t).trans (blockOf_eq m hO c 1 t).symm) t d).trans (blockOf_eq m hO c 1 t)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => (after_2 m hO c t).trans (blockOf_eq m hO c 2 t).symm) t d).trans (blockOf_eq m hO c 2 t)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => (after_3 m hO c t).trans (blockOf_eq m hO c 3 t).symm) t d).trans (blockOf_eq m hO c 3 t)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => (after_4 m hO c t).trans (blockOf_eq m hO c 4 t).symm) t d).trans (blockOf_eq m hO c 4 t)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => (after_5 m hO c t).trans (blockOf_eq m hO c 5 t).symm) t d).trans (blockOf_eq m hO c 5 t)
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => (after_6 m hO c t).trans (blockOf_eq m hO c 6 t).symm) t d).trans (blockOf_eq m hO c 6 t)
theorem before_7 (hO : Ok m) (c : Dev nD) (t : Fin (cfgM m hO).N) (d) : (dats m hO 0 c).before 7 t d = iblk m hO c 7 t :=
  ((dats m hO 0 c).before_in_eq_fetched 7 rfl (fun _ => rfl) (fun _ _ _ => rfl) (fun t => (after_7 m hO c t).trans (blockOf_eq m hO c 7 t).symm) t d).trans (blockOf_eq m hO c 7 t)
theorem before_8 (hO : Ok m) (c : Dev nD) (t : Fin (cfgM m hO).N) (d) : (dats m hO 0 c).before 8 t d = iblk m hO c 8 t :=
  ((dats m hO 0 c).before_in_eq_fetched 8 rfl (fun _ => rfl) (fun _ _ _ => rfl) (fun t => (after_8 m hO c t).trans (blockOf_eq m hO c 8 t).symm) t d).trans (blockOf_eq m hO c 8 t)
theorem before_9 (hO : Ok m) (c : Dev nD) (t : Fin (cfgM m hO).N) (d) : (dats m hO 0 c).before 9 t d = iblk m hO c 9 t :=
  ((dats m hO 0 c).before_in_eq_fetched 9 rfl (fun _ => rfl) (fun _ _ _ => rfl) (fun t => (after_9 m hO c t).trans (blockOf_eq m hO c 9 t).symm) t d).trans (blockOf_eq m hO c 9 t)
theorem before_10 (hO : Ok m) (c : Dev nD) (t : Fin (cfgM m hO).N) (d) : (dats m hO 0 c).before 10 t d = iblk m hO c 10 t :=
  ((dats m hO 0 c).before_in_eq_fetched 10 rfl (fun _ => rfl) (fun _ _ _ => rfl) (fun t => (after_10 m hO c t).trans (blockOf_eq m hO c 10 t).symm) t d).trans (blockOf_eq m hO c 10 t)

/-- A block wholly moved is kept as it was left. -/
theorem kept_11 (hO : Ok m) (c : Dev nD) (t : Fin (cfgM m hO).N) (d) : (dats m hO 0 c).kept 11 t d = out11 m hO c t := by
  unfold Dat.kept
  rw [Pipeline.fill_of_clip_none 11 _ (fun _ => rfl) d ((dats m hO 0 c).after 11 t), Window.fill_cut, after_11]

/-- From the 64th point on the first output's block is the one the 63rd left. -/
theorem before_11 (hO : Ok m) (c : Dev nD) (n : ℕ) : ∀ (t : Fin (cfgM m hO).N), t.val = 64 + n → ∀ d, (dats m hO 0 c).before 11 t d = out11 m hO c t := by
  induction n with
  | zero =>
    intro t ht d
    have hN : (cfgM m hO).N = 96 := N_0
    have hl := t.isLt
    rw [(dats m hO 0 c).before_of_pos 11 t (by omega) (((cfgM m hO).win 11).fetch_out rfl t) d,
      if_neg (fun hf => by have := (flush_11 m hO _).mp hf; dsimp only at this; omega)]
    unfold Dat.left
    rw [live_11 m hO _ (by dsimp only; omega)]
    dsimp only
    rw [kept_11]
    unfold out11
    rw [show upTo m hO ⟨t.val - 1, _⟩ = upTo m hO t from Fin.ext (show min (t.val - 1) 63 = min t.val 63 by omega)]
  | succ n ih =>
    intro t ht d
    have hN : (cfgM m hO).N = 96 := N_0
    have hl := t.isLt
    rw [(dats m hO 0 c).before_of_pos 11 t (by omega) (((cfgM m hO).win 11).fetch_out rfl t) d,
      if_neg (fun hf => by have := (flush_11 m hO _).mp hf; dsimp only at this; omega)]
    unfold Dat.left
    rw [idle_11 m hO _ (by dsimp only; omega)]
    dsimp only
    rw [ih ⟨t.val - 1, Nat.lt_of_le_of_lt (Nat.sub_le _ _) t.isLt⟩ (by dsimp only; omega) d]
    unfold out11
    rw [show upTo m hO ⟨t.val - 1, _⟩ = upTo m hO t from Fin.ext (show min (t.val - 1) 63 = min t.val 63 by omega)]

/-! ## The body at a point -/

/-- What the body holds when point `t` starts. -/
def held (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ X, owns (c : Thread nD τ) (ms0_13 m hO t) fullShare X)
    ∗ (∃ X, owns (c : Thread nD τ) (ms0_14 m hO t) fullShare X)
    ∗ (∃ X, owns (c : Thread nD τ) (ms0_15 m hO t) fullShare X)
    ∗ (∃ X, owns (c : Thread nD τ) (ms0_16 m hO t) fullShare X)
    ∗ (∃ X, owns (c : Thread nD τ) (ms0_17 m hO t) fullShare X))

/-- What it holds when the point ends. -/
def left (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (∃ X, owns (c : Thread nD τ) (ms0_13 m hO t) fullShare X)
    ∗ (∃ X, owns (c : Thread nD τ) (ms0_14 m hO t) fullShare X)
    ∗ (∃ X, owns (c : Thread nD τ) (ms0_15 m hO t) fullShare X)
    ∗ (∃ X, owns (c : Thread nD τ) (ms0_16 m hO t) fullShare X)
    ∗ (∃ X, owns (c : Thread nD τ) (ms0_17 m hO t) fullShare X))

theorem leaves_0 (hO : Ok m) (c : Dev nD) (t : Fin (cfgM m hO).N) :
    (dats m hO 0 c).leavesExact 0 t = owns (c : Thread nD τ) (ms0_0 m hO t) fullShare ((dats m hO 0 c).after 0 t) := by
  unfold Dat.leavesExact
  rw [show (cfgM m hO).idle 0 ((cfgM m hO).grid.coords t) = false from rfl]; try rfl
theorem leaves_1 (hO : Ok m) (c : Dev nD) (t : Fin (cfgM m hO).N) :
    (dats m hO 0 c).leavesExact 1 t = owns (c : Thread nD τ) (ms0_1 m hO t) fullShare ((dats m hO 0 c).after 1 t) := by
  unfold Dat.leavesExact
  rw [show (cfgM m hO).idle 1 ((cfgM m hO).grid.coords t) = false from rfl]; try rfl
theorem leaves_2 (hO : Ok m) (c : Dev nD) (t : Fin (cfgM m hO).N) :
    (dats m hO 0 c).leavesExact 2 t = owns (c : Thread nD τ) (ms0_2 m hO t) fullShare ((dats m hO 0 c).after 2 t) := by
  unfold Dat.leavesExact
  rw [show (cfgM m hO).idle 2 ((cfgM m hO).grid.coords t) = false from rfl]; try rfl
theorem leaves_3 (hO : Ok m) (c : Dev nD) (t : Fin (cfgM m hO).N) :
    (dats m hO 0 c).leavesExact 3 t = owns (c : Thread nD τ) (ms0_3 m hO t) fullShare ((dats m hO 0 c).after 3 t) := by
  unfold Dat.leavesExact
  rw [show (cfgM m hO).idle 3 ((cfgM m hO).grid.coords t) = false from rfl]; try rfl
theorem leaves_4 (hO : Ok m) (c : Dev nD) (t : Fin (cfgM m hO).N) :
    (dats m hO 0 c).leavesExact 4 t = owns (c : Thread nD τ) (ms0_4 m hO t) fullShare ((dats m hO 0 c).after 4 t) := by
  unfold Dat.leavesExact
  rw [show (cfgM m hO).idle 4 ((cfgM m hO).grid.coords t) = false from rfl]; try rfl
theorem leaves_5 (hO : Ok m) (c : Dev nD) (t : Fin (cfgM m hO).N) :
    (dats m hO 0 c).leavesExact 5 t = owns (c : Thread nD τ) (ms0_5 m hO t) fullShare ((dats m hO 0 c).after 5 t) := by
  unfold Dat.leavesExact
  rw [show (cfgM m hO).idle 5 ((cfgM m hO).grid.coords t) = false from rfl]; try rfl
theorem leaves_6 (hO : Ok m) (c : Dev nD) (t : Fin (cfgM m hO).N) :
    (dats m hO 0 c).leavesExact 6 t = owns (c : Thread nD τ) (ms0_6 m hO t) fullShare ((dats m hO 0 c).after 6 t) := by
  unfold Dat.leavesExact
  rw [show (cfgM m hO).idle 6 ((cfgM m hO).grid.coords t) = false from rfl]; try rfl
theorem leaves_7 (hO : Ok m) (c : Dev nD) (t : Fin (cfgM m hO).N) :
    (dats m hO 0 c).leavesExact 7 t = owns (c : Thread nD τ) (ms0_7 m hO t) fullShare ((dats m hO 0 c).after 7 t) := by
  unfold Dat.leavesExact
  rw [show (cfgM m hO).idle 7 ((cfgM m hO).grid.coords t) = false from rfl]; try rfl
theorem leaves_8 (hO : Ok m) (c : Dev nD) (t : Fin (cfgM m hO).N) :
    (dats m hO 0 c).leavesExact 8 t = owns (c : Thread nD τ) (ms0_8 m hO t) fullShare ((dats m hO 0 c).after 8 t) := by
  unfold Dat.leavesExact
  rw [show (cfgM m hO).idle 8 ((cfgM m hO).grid.coords t) = false from rfl]; try rfl
theorem leaves_9 (hO : Ok m) (c : Dev nD) (t : Fin (cfgM m hO).N) :
    (dats m hO 0 c).leavesExact 9 t = owns (c : Thread nD τ) (ms0_9 m hO t) fullShare ((dats m hO 0 c).after 9 t) := by
  unfold Dat.leavesExact
  rw [show (cfgM m hO).idle 9 ((cfgM m hO).grid.coords t) = false from rfl]; try rfl
theorem leaves_10 (hO : Ok m) (c : Dev nD) (t : Fin (cfgM m hO).N) :
    (dats m hO 0 c).leavesExact 10 t = owns (c : Thread nD τ) (ms0_10 m hO t) fullShare ((dats m hO 0 c).after 10 t) := by
  unfold Dat.leavesExact
  rw [show (cfgM m hO).idle 10 ((cfgM m hO).grid.coords t) = false from rfl]; try rfl
theorem leaves_11 (hO : Ok m) (c : Dev nD) (t : Fin (cfgM m hO).N) (h : t.val < 64) :
    (dats m hO 0 c).leavesExact 11 t = owns (c : Thread nD τ) (ms0_11 m hO t) fullShare ((dats m hO 0 c).after 11 t) := by
  unfold Dat.leavesExact
  rw [live_11 m hO t h]; try rfl
theorem leaves_12 (hO : Ok m) (c : Dev nD) (t : Fin (cfgM m hO).N) (h : 64 ≤ t.val) :
    (dats m hO 0 c).leavesExact 12 t = owns (c : Thread nD τ) (ms0_12 m hO t) fullShare ((dats m hO 0 c).after 12 t) := by
  unfold Dat.leavesExact
  rw [live_12 m hO t h]; try rfl
/-- From the 64th point on the first output's block may be handed back as it was found. -/
theorem keeps_11 (hO : Ok m) (c : Dev nD) (t : Fin (cfgM m hO).N) (h : 64 ≤ t.val) :
    iprop(∃ d, owns (c : Thread nD τ) (ms0_11 m hO t) fullShare ((dats m hO 0 c).before 11 t d)) ⊢ ((dats m hO 0 c).leavesExact 11 t : sProp 𝕄) := by
  unfold Dat.leavesExact
  rw [idle_11 m hO t h]
  cases hf : ((cfgM m hO).win 11).flush t with
  | false => exact .rfl
  | true =>
    dsimp only
    rw [after_11]
    iintro ⟨%d, H⟩
    rw [before_11 m hO c (t.val - 64) t (by omega) d]
    iexact H

/-- Before the 64th point the second output's block is handed back as it was found. -/
theorem keeps_12 (hO : Ok m) (c : Dev nD) (t : Fin (cfgM m hO).N) (h : t.val < 64) :
    iprop(∃ d, owns (c : Thread nD τ) (ms0_12 m hO t) fullShare ((dats m hO 0 c).before 12 t d)) ⊢ ((dats m hO 0 c).leavesExact 12 t : sProp 𝕄) := by
  unfold Dat.leavesExact
  rw [idle_12 m hO t h]
  cases hf : ((cfgM m hO).win 12).flush t with
  | false => exact .rfl
  | true => exact absurd ((flush_12 m hO t).mp hf) (by omega)

/-- The run of that kind of point, on the point's blocks. -/
abbrev atA (hO : Ok m) (c : Dev nD) (t : Fin (cfgM m hO).N) (h : t.val = 0) :=
  runA c (grid0.coords t) (Memref.whole main_arg4) (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((cond1_iff t).mpr (by omega)) ((first_iff t).mpr h) (fun h' => absurd ((cond3_iff t).mp h') (by omega)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)

theorem atA_stores (hO : Ok m) (c : Dev nD) (t : Fin (cfgM m hO).N) (h : t.val = 0) :
    (atA m hO c t h).1 = stores (iblk m hO c 0 t) (iblk m hO c 1 t) (iblk m hO c 2 t) (iblk m hO c 4 t) (iblk m hO c 5 t) (iblk m hO c 6 t) :=
  stores_A _ _ _ _ _ _ _ _ _ _ _ _ _ _ _ _ _ _ _ _ _ _ _ _ _ _ _ _ _ _ _ _ _ _ _ _ _ _ _ _ _ _ _ _ _ _ _ _ _ _ _ _ _ _ _ _

set_option maxHeartbeats 1600000 in
/-- The body at the first point. -/
theorem body_A (hO : Ok m) (c : Dev nD) (t : Fin (cfgM m hO).N) (h : t.val = 0) :
    held m hO c t ⊢ wp frame (wpE (defs₀ (F := F)) Variants.none c none) Set.univ (bodyAt0 (adm m hO) t) (fun _ => left m hO c t) := by
  unfold held left bodyAt0
  simp only [before_0, before_1, before_2, before_3, before_4, before_5, before_6, before_7, before_8, before_9, before_10]
  rw [leaves_0 m hO c t, after_0 m hO c t, leaves_1 m hO c t, after_1 m hO c t, leaves_2 m hO c t, after_2 m hO c t, leaves_3 m hO c t, after_3 m hO c t, leaves_4 m hO c t, after_4 m hO c t, leaves_5 m hO c t, after_5 m hO c t, leaves_6 m hO c t, after_6 m hO c t, leaves_7 m hO c t, after_7 m hO c t, leaves_8 m hO c t, after_8 m hO c t, leaves_9 m hO c t, after_9 m hO c t, leaves_10 m hO c t, after_10 m hO c t, leaves_11 m hO c t (by omega), after_11 m hO c t]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiA0_eq]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17⟩
  iapply ((atA m hO c t h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%d, H⟩; iexists _; iexact H
  isplitl [H13]; · iexact H13
  isplitl [H14]; · iexact H14
  isplitl [H15]; · iexact H15
  isplitl [H16]; · iexact H16
  isplitl [H17]; · iexact H17
  isplitl [HS]; · iexact HS
  iintro ⟨H0, H1, H2, H3, H4, H5, H6, H7, H8, H9, H10, ⟨%e, H11⟩, H13, H14, H15, H16, H17, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [atA_stores m hO c t h]; unfold out11; rw [upTo_of_lt m hO t (by omega)]; exact View.read_writes_of_cover _ _ _ _ _ (tiles _ _ _ _ _ _)
  isplitl [H12]; · iapply (keeps_12 m hO c t (by omega)); iexact H12
  isplitl [H13]; · iexact H13
  isplitl [H14]; · iexact H14
  isplitl [H15]; · iexact H15
  isplitl [H16]; · iexact H16
  iexact H17

/-- The run of that kind of point, on the point's blocks. -/
abbrev atB (hO : Ok m) (c : Dev nD) (t : Fin (cfgM m hO).N) (h0 : t.val ≠ 0) (h : t.val < 64) :=
  runB c (grid0.coords t) (Memref.whole main_arg4) (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) ((cond1_iff t).mpr h) (fun h' => h0 ((first_iff t).mp h')) (fun h' => absurd ((cond3_iff t).mp h') (by omega)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)

theorem atB_stores (hO : Ok m) (c : Dev nD) (t : Fin (cfgM m hO).N) (h0 : t.val ≠ 0) (h : t.val < 64) :
    (atB m hO c t h0 h).1 = stores (iblk m hO c 0 t) (iblk m hO c 1 t) (iblk m hO c 2 t) (iblk m hO c 4 t) (iblk m hO c 5 t) (iblk m hO c 6 t) :=
  stores_B _ _ _ _ _ _ _ _ _ _ _ _ _ _ _ _ _ _ _ _ _ _ _ _ _ _ _ _ _ _ _ _ _ _ _ _ _ _ _ _ _ _ _ _ _ _ _ _ _ _ _ _ _ _ _ _

set_option maxHeartbeats 1600000 in
/-- The body at a later point before the 64th. -/
theorem body_B (hO : Ok m) (c : Dev nD) (t : Fin (cfgM m hO).N) (h0 : t.val ≠ 0) (h : t.val < 64) :
    held m hO c t ⊢ wp frame (wpE (defs₀ (F := F)) Variants.none c none) Set.univ (bodyAt0 (adm m hO) t) (fun _ => left m hO c t) := by
  unfold held left bodyAt0
  simp only [before_0, before_1, before_2, before_3, before_4, before_5, before_6, before_7, before_8, before_9, before_10]
  rw [leaves_0 m hO c t, after_0 m hO c t, leaves_1 m hO c t, after_1 m hO c t, leaves_2 m hO c t, after_2 m hO c t, leaves_3 m hO c t, after_3 m hO c t, leaves_4 m hO c t, after_4 m hO c t, leaves_5 m hO c t, after_5 m hO c t, leaves_6 m hO c t, after_6 m hO c t, leaves_7 m hO c t, after_7 m hO c t, leaves_8 m hO c t, after_8 m hO c t, leaves_9 m hO c t, after_9 m hO c t, leaves_10 m hO c t, after_10 m hO c t, leaves_11 m hO c t h, after_11 m hO c t]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiA0_eq]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17⟩
  iapply ((atB m hO c t h0 h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · icases H11 with ⟨%d, H⟩; iexists _; iexact H
  isplitl [H13]; · iexact H13
  isplitl [H14]; · iexact H14
  isplitl [H15]; · iexact H15
  isplitl [H16]; · iexact H16
  isplitl [H17]; · iexact H17
  isplitl [HS]; · iexact HS
  iintro ⟨H0, H1, H2, H3, H4, H5, H6, H7, H8, H9, H10, ⟨%e, H11⟩, H13, H14, H15, H16, H17, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rw [atB_stores m hO c t h0 h]; unfold out11; rw [upTo_of_lt m hO t h]; exact View.read_writes_of_cover _ _ _ _ _ (tiles _ _ _ _ _ _)
  isplitl [H12]; · iapply (keeps_12 m hO c t h); iexact H12
  isplitl [H13]; · iexact H13
  isplitl [H14]; · iexact H14
  isplitl [H15]; · iexact H15
  isplitl [H16]; · iexact H16
  iexact H17

/-- The run of that kind of point, on the point's blocks. -/
abbrev atC (hO : Ok m) (c : Dev nD) (t : Fin (cfgM m hO).N) (h : 64 ≤ t.val) :=
  runC c (grid0.coords t) (Memref.whole main_arg4) (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) scM0_0 (Memref.isWhole_whole _) (fun h' => absurd ((cond1_iff t).mp h') (by omega)) (fun h' => absurd ((first_iff t).mp h') (by omega)) ((cond3_iff t).mpr h) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t)

theorem atC_stores (hO : Ok m) (c : Dev nD) (t : Fin (cfgM m hO).N) (h : 64 ≤ t.val) :
    (atC m hO c t h).1 = stores (iblk m hO c 0 t) (iblk m hO c 1 t) (iblk m hO c 3 t) (iblk m hO c 4 t) (iblk m hO c 5 t) (iblk m hO c 6 t) :=
  stores_C _ _ _ _ _ _ _ _ _ _ _ _ _ _ _ _ _ _ _ _ _ _ _ _ _ _ _ _ _ _ _ _ _ _ _ _ _ _ _ _ _ _ _ _ _ _ _ _ _ _ _ _ _ _ _ _

set_option maxHeartbeats 1600000 in
/-- The body at a point from the 64th on. -/
theorem body_C (hO : Ok m) (c : Dev nD) (t : Fin (cfgM m hO).N) (h : 64 ≤ t.val) :
    held m hO c t ⊢ wp frame (wpE (defs₀ (F := F)) Variants.none c none) Set.univ (bodyAt0 (adm m hO) t) (fun _ => left m hO c t) := by
  unfold held left bodyAt0
  simp only [before_0, before_1, before_2, before_3, before_4, before_5, before_6, before_7, before_8, before_9, before_10]
  rw [leaves_0 m hO c t, after_0 m hO c t, leaves_1 m hO c t, after_1 m hO c t, leaves_2 m hO c t, after_2 m hO c t, leaves_3 m hO c t, after_3 m hO c t, leaves_4 m hO c t, after_4 m hO c t, leaves_5 m hO c t, after_5 m hO c t, leaves_6 m hO c t, after_6 m hO c t, leaves_7 m hO c t, after_7 m hO c t, leaves_8 m hO c t, after_8 m hO c t, leaves_9 m hO c t, after_9 m hO c t, leaves_10 m hO c t, after_10 m hO c t, leaves_12 m hO c t h, after_12 m hO c t]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (tbl m) c) from rfl, PhiA0_eq]
  iintro ⟨⟨⟨HS, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17⟩
  iapply ((atC m hO c t h).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]
  · icases H12 with ⟨%d, H⟩; iexists _; iexact H
  isplitl [H13]; · iexact H13
  isplitl [H14]; · iexact H14
  isplitl [H15]; · iexact H15
  isplitl [H16]; · iexact H16
  isplitl [H17]; · iexact H17
  isplitl [HS]; · iexact HS
  iintro ⟨H0, H1, H2, H3, H4, H5, H6, H7, H8, H9, H10, ⟨%e, H12⟩, H13, H14, H15, H16, H17, HS⟩
  isplitl [HS Hg HT]
  · isplitl [HS Hg]
    · isplitl [HS]; · iexact HS
      iexact Hg
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (keeps_11 m hO c t h); iexact H11
  isplitl [H12]
  · unfold owns; iexists _; isplitr
    swap; · iexact H12
    ipureintro; rw [atC_stores m hO c t h]; unfold out12; exact View.read_writes_of_cover _ _ _ _ _ (tiles _ _ _ _ _ _)
  isplitl [H13]; · iexact H13
  isplitl [H14]; · iexact H14
  isplitl [H15]; · iexact H15
  isplitl [H16]; · iexact H16
  iexact H17

/-- The body at any point. -/
theorem body (hO : Ok m) (c : Dev nD) (t : Fin (cfgM m hO).N) :
    held m hO c t ⊢ wp frame (wpE (defs₀ (F := F)) Variants.none c none) Set.univ (bodyAt0 (adm m hO) t) (fun _ => left m hO c t) :=
  if h0 : t.val = 0 then body_A m hO c t h0 else if h : t.val < 64 then body_B m hO c t h0 h else body_C m hO c t (by omega)

/-- The body table's row at point `t` is the body. -/
theorem row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem obligation (hO : Ok m) (c : Dev nD) : BodyObligation (dats (F := F) m hO 0 c) (defs₀ (F := F)) Variants.none () Set.univ unnamed := fun t => by
  rw [bigSep_W0, bigSep_W0, row m hO]
  exact triple_restated (body m hO c t) rfl .rfl fun _ => .rfl

/-! ## The launch and the frame -/

-- the launch rule's implicit arguments are found by unifying its conclusion with this one
set_option backward.isDefEq.respectTransparency.types false in
/-- Every array of the launch ends as its data says, those not named at something, and every semaphore counter is zero. -/
theorem run_main_quiescent (hO : Ok m) : θ_run defs (onTc (τ := τ) (main (F := F))) (s₀ m ρ) (fun r => (Pipeline.RDat.FramePost (cfgM m hO) (fun c => (dats m hO 0 c).toRForget unnamed) (V m)) r ∧ r.2.sem = fun _ => 0) :=
  Pipeline.θ_run_frameP_forget (Q' := _) pcfgs (fun _ => adm m hO) (dats m hO) (0 : Fin 1) launch0 defs₀ Variants.none unnamed m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The named arrays at the end. -/
theorem run_named (hO : Ok m) : θ_run defs (onTc (τ := τ) (main (F := F))) (s₀ m ρ) (fun r => ∀ c : Dev nD,
      (∀ w, unnamed w = false → r.2.mem (((cfgM m hO).spec w).arr.view.loc (c.tc : Thread nD τ)) = (dats m hO 0 c).arrAt w (cfgM m hO).N)
        ∧ ∀ b ∈ Pipeline.restRefs sig spec0, r.2.mem ((c.tc : Thread nD τ).loc b) = V m c b) :=
  (θ_run defs _ _).mono (fun _ h c => ⟨fun w hw => ((dats m hO 0 c).toRForget_arrAt_iff hw _ _).mp ((h.1 c).1 w), (h.1 c).2⟩) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 0 rfl).trans (((dats m hO 0 c).arrAt_in 0 rfl _).trans ((A_eq m hO c 0).trans (V_main_arg0 m c))),
      ((h c).1 1 rfl).trans (((dats m hO 0 c).arrAt_in 1 rfl _).trans ((A_eq m hO c 1).trans (V_main_arg1 m c))),
      ((h c).1 2 rfl).trans (((dats m hO 0 c).arrAt_in 2 rfl _).trans ((A_eq m hO c 2).trans (V_main_arg2 m c))),
      ((h c).1 3 rfl).trans (((dats m hO 0 c).arrAt_in 3 rfl _).trans ((A_eq m hO c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c),
      ((h c).1 8 rfl).trans (((dats m hO 0 c).arrAt_in 8 rfl _).trans ((A_eq m hO c 8).trans (V_main_arg9 m c))),
      ((h c).1 9 rfl).trans (((dats m hO 0 c).arrAt_in 9 rfl _).trans ((A_eq m hO c 9).trans (V_main_arg10 m c))),
      ((h c).1 10 rfl).trans (((dats m hO 0 c).arrAt_in 10 rfl _).trans ((A_eq m hO c 10).trans (V_main_arg11 m c)))⟩) (run_named m ρ hO)

/-- From any memory whose table is in range the kernel runs, leaves its arguments as they were, and ends with every
    semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO) ((θ_run defs _ _).mono (fun _ h => h.2) (run_main_quiescent m ρ hO))

end Cert.Kernel3Ideal.OutProj

end
-- ==== Proof.Kernel3IdealHost.lean ====
/- What the arrays that the ideal `out_proj_route` kernel reads hold, as the operations before its launch leave them. -/
module

public import proofs.«01_k».proof.Proof.Kernel3IdealSetup
public import Idealize.ShloMosaic.Lib.Pointwise
public import Idealize.ShloMosaic.Lib.IdealHost
public import Idealize.ShloMosaic.Lib.StableHlo.ReadAt

@[expose] public section

set_option maxRecDepth 16384

noncomputable section

namespace Cert.Kernel3Ideal.OutProj

open Cert.Kernel3Ideal Cert.Kernel3Ideal.Gen
open Idealize.ShloMosaic Idealize.ShloMosaic.TcCoe Idealize.ShloMosaic.StableHlo

variable (m : (ℓ : Loc nD τ sig) → Buf (Elt Ideal) ℓ) (c : Dev nD)

theorem V_gd (l : Fin 4) (k : Fin 512) :
    ((V m c main_v0 : FVec Ideal S4x1x512 .f32) (ix3 l 0 k) : EReal) = (m ((c : Thread nD τ).loc main_arg5) : FVec Ideal S4x512 .f32) (ix2 l k) := by
  after_reads_at

theorem V_gn (l : Fin 4) (k : Fin 512) :
    ((V m c main_v1 : FVec Ideal S4x1x512 .f32) (ix3 l 0 k) : EReal) = (m ((c : Thread nD τ).loc main_arg6) : FVec Ideal S4x512 .f32) (ix2 l k) := by
  after_reads_at

theorem V_w (l : Fin 4) (k j : Fin 1024) :
    ((V m c main_v2 : FVec Ideal S4x1024x1024 .bf16) (ix3 l k j) : EReal) = (m ((c : Thread nD τ).loc main_arg7) : FVec Ideal S4x1024x1024 .f32) (ix3 l k j) := by
  after_reads_at

end Cert.Kernel3Ideal.OutProj

end
-- ==== Proof.Kernel3IdealOutput.lean ====
/- The first two output arrays of the idealized `out_proj_route` kernel after its run: at every row the two halves of that row,
   normed and projected with the layer's gains and matrix, added to the row of the activations. -/
module

public import proofs.«01_k».proof.Proof.Kernel3IdealBlock
public import proofs.«01_k».proof.Proof.Kernel3IdealBlocks
public import proofs.«01_k».proof.Proof.Kernel3IdealFrame
public import proofs.«01_k».proof.Proof.Kernel3IdealHost

@[expose] public section

set_option maxRecDepth 16384

noncomputable section

namespace Cert.Kernel3Ideal.OutProj

open Cert.Kernel3Ideal.Gen Cert.OutRows
open Idealize.ShloMosaic Idealize.ShloMosaic.TcCoe Idealize.ShloMosaic.Tactic
open Idealize.ShloMosaic.Pipeline (Dat Cfg Window)

variable (m : (ℓ : Loc nD τ sig) → Buf (Elt Ideal) ℓ)

abbrev arg0 (c : Dev nD) : FVec Ideal S4x49152x128 .f32 := m ((c : Thread nD τ).loc main_arg0)
abbrev arg1 (c : Dev nD) : FVec Ideal S49152x512 .f32 := m ((c : Thread nD τ).loc main_arg1)
abbrev arg2 (c : Dev nD) : FVec Ideal S32768x1024 .f32 := m ((c : Thread nD τ).loc main_arg2)
abbrev arg3 (c : Dev nD) : FVec Ideal S16384x1024 .f32 := m ((c : Thread nD τ).loc main_arg3)
abbrev arg4 (c : Dev nD) : IVec S1 32 := m ((c : Thread nD τ).loc main_arg4)
abbrev arg5 (c : Dev nD) : FVec Ideal S4x512 .f32 := m ((c : Thread nD τ).loc main_arg5)
abbrev arg6 (c : Dev nD) : FVec Ideal S4x512 .f32 := m ((c : Thread nD τ).loc main_arg6)
abbrev arg7 (c : Dev nD) : FVec Ideal S4x1024x1024 .f32 := m ((c : Thread nD τ).loc main_arg7)

/-- An element of the rows by the arguments, over the row `x` of the activations. -/
def spec (c : Dev nD) (L : Fin 4) (r : Fin 49152) (x : EReal) (j : Fin 1024) : EReal :=
  mixed x (fun k => arg0 m c (ix3 ⟨k.val / 128, by omega⟩ r ⟨k.val % 128, by omega⟩)) (fun k => arg1 m c (ix2 r k)) (fun k => arg5 m c (ix2 L k))
    (fun k => arg6 m c (ix2 L k)) (fun k => arg7 m c (ix3 L k j))

variable (hO : Ok m) (c : Dev nD) (t : Fin (cfgM m hO).N) (L : Fin 4) (hl : (layer (F := Ideal) (tbl m 0)).toNat = L.val)

include hl in
/-- The rows that a point stores over the rows `x`, at an element. -/
theorem rowsAt_apply (x : Vec Ideal S512x1024 .f32) (y : S512x1024.Idx) (r : Fin 49152) (hr : r.val = t.val * 512 + (y 0).val) :
    (rowsAt m hO c t x y : EReal) = spec m c L r (x y) (y 1) := by
  have hy : (y 0).val < 512 := (y 0).isLt
  obtain ⟨pc, hpc, hmem⟩ := tiles (iblk m hO c 0 t) (iblk m hO c 1 t) x (iblk m hO c 4 t) (iblk m hO c 5 t) (iblk m hO c 6 t) y
  unfold rowsAt
  refine (congrFun (View.read_writes_junk_eq_canon _ _) y).trans ?_
  refine (View.canon_apply_of_pieces (fun i : S512x1024.Idx => rowAt (iblk m hO c 0 t) (iblk m hO c 1 t) x (iblk m hO c 4 t) (iblk m hO c 5 t) (iblk m hO c 6 t) (i 0) (i 1)) _
    (stores_value _ _ _ _ _ _) y ⟨pc, hpc, hmem⟩).trans ?_
  refine mixed_congr ?_ (fun k => ?_) (fun k => ?_) (fun k => ?_) (fun k => ?_) fun k => ?_
  · exact congrArg x (funext fun a => by match a with | ⟨0, _⟩ => rfl | ⟨1, _⟩ => rfl)
  · exact (iblk_0 m hO c t (ix3 ⟨k.val / 128, by omega⟩ (y 0) ⟨k.val % 128, by omega⟩) (ix3 ⟨k.val / 128, by omega⟩ r ⟨k.val % 128, by omega⟩) rfl hr rfl).trans
      (congrFun (V_main_arg0 m c) _)
  · exact (iblk_1 m hO c t (ix2 (y 0) k) (ix2 r k) hr rfl).trans (congrFun (V_main_arg1 m c) _)
  · exact (iblk_4 m hO c t (ix3 0 0 k) (ix3 L 0 k) hl.symm rfl rfl).trans (V_gd m c L k)
  · exact (iblk_5 m hO c t (ix3 0 0 k) (ix3 L 0 k) hl.symm rfl rfl).trans (V_gn m c L k)
  · exact (iblk_6 m hO c t (ix3 0 k (y 1)) (ix3 L k (y 1)) hl.symm rfl rfl).trans (V_w m c L k (y 1))

include hl in
/-- The first output's block after a point, at an element. -/
theorem out11_apply (y : S512x1024.Idx) (r : Fin 32768) (hr : r.val = min t.val 63 * 512 + (y 0).val) :
    (out11 m hO c t y : EReal) = spec m c L ⟨r.val, by omega⟩ (arg2 m c (ix2 r (y 1))) (y 1) := by
  unfold out11
  refine (rowsAt_apply m hO c (upTo m hO t) L hl _ y ⟨r.val, by omega⟩ hr).trans ?_
  refine congrArg (fun x => spec m c L ⟨r.val, by omega⟩ x (y 1)) ?_
  refine (iblk_2 m hO c (upTo m hO t) y (ix2 r (y 1)) ?_ rfl).trans (congrFun (V_main_arg2 m c) _)
  show r.val = min (min t.val 63) 63 * 512 + (y 0).val
  rw [min_eq_left (min_le_right _ _)]
  exact hr

include hl in
/-- The second output's block after a point from the 64th on, at an element. -/
theorem out12_apply (y : S512x1024.Idx) (r : Fin 16384) (ht : 64 ≤ t.val) (hr : r.val = (t.val - 64) * 512 + (y 0).val) :
    (out12 m hO c t y : EReal) = spec m c L ⟨32768 + r.val, by omega⟩ (arg3 m c (ix2 r (y 1))) (y 1) := by
  unfold out12
  refine (rowsAt_apply m hO c t L hl _ y ⟨32768 + r.val, by omega⟩ (by show 32768 + r.val = t.val * 512 + (y 0).val; omega)).trans ?_
  refine congrArg (fun x => spec m c L ⟨32768 + r.val, by omega⟩ x (y 1)) ?_
  exact (iblk_3 m hO c t y (ix2 r (y 1)) hr rfl).trans (congrFun (V_main_arg3 m c) _)

omit t
include hl in
/-- The first output array after the run, at an element. -/
theorem arrAt_11 (r : Fin 32768) (j : Fin 1024) :
    ((dats m hO 0 c).arrAt 11 (cfgM m hO).N (ix2 r j : S32768x1024.Idx) : EReal) = spec m c L ⟨r.val, by omega⟩ (arg2 m c (ix2 r j)) j := by
  let P : S32768x1024.Idx → EReal → Prop := fun y v => ∀ (r : Fin 32768) (j : Fin 1024), y = ix2 r j →
    v = spec m c L ⟨r.val, by omega⟩ (arg2 m c (ix2 r j)) j
  have hr := r.isLt
  let t : Fin (cfgM m hO).N := ⟨if r.val / 512 < 63 then r.val / 512 else 95, by show (if r.val / 512 < 63 then r.val / 512 else 95) < 96; split <;> omega⟩
  have ht : t.val < 63 ∨ t.val = 95 := by
    show (if r.val / 512 < 63 then r.val / 512 else 95) < 63 ∨ (if r.val / 512 < 63 then r.val / 512 else 95) = 95
    split <;> omega
  have hb : min t.val 63 = r.val / 512 := by
    show min (if r.val / 512 < 63 then r.val / 512 else 95) 63 = r.val / 512
    split <;> omega
  have hmem : (ix2 r j : S32768x1024.Idx) ∈ (((cfgM m hO).win 11).blk t).view.set := by
    have e := emb_11 m hO t (ix2 ⟨r.val % 512, by omega⟩ j) (ix2 r j) (by show r.val = min t.val 63 * 512 + r.val % 512; rw [hb]; omega) rfl
    rw [← e]
    exact View.emb_mem_set _ _
  refine (dats m hO 0 c).arrAt_forall_of_flushed 11 P ?_ (cfgM m hO).N t _ t.isLt ((flush_11 m hO t).mpr ht) hmem r j rfl
  have key : ∀ (t' : Fin (cfgM m hO).N) (y : S512x1024.Idx), P ((((cfgM m hO).win 11).blk t').view.emb y) (out11 m hO c t' y) := by
    intro t' y r' j' hy
    have ht' : t'.val < 96 := t'.isLt
    have hb : (y 0).val < 512 := (y 0).isLt
    have e := (emb_11 m hO t' y (ix2 ⟨min t'.val 63 * 512 + (y 0).val, by omega⟩ (y 1)) rfl rfl).symm.trans hy
    have hr' : r'.val = min t'.val 63 * 512 + (y 0).val := (congrArg (fun q : S32768x1024.Idx => (q 0).val) e).symm
    have hj' : (y 1 : Fin 1024) = j' := congrArg (fun q : S32768x1024.Idx => q 1) e
    exact (out11_apply m hO c t' L hl y r' hr').trans (congrArg (fun j => spec m c L ⟨r'.val, by omega⟩ (arg2 m c (ix2 r' j)) j) hj')
  exact fun t' _ y => (Eq.to_iff (congrArg (P _) (congrFun (after_11 m hO c t') y))).mpr (key t' y)

include hl in
/-- The second output array after the run, at an element. -/
theorem arrAt_12 (r : Fin 16384) (j : Fin 1024) :
    ((dats m hO 0 c).arrAt 12 (cfgM m hO).N (ix2 r j : S16384x1024.Idx) : EReal) = spec m c L ⟨32768 + r.val, by omega⟩ (arg3 m c (ix2 r j)) j := by
  let P : S16384x1024.Idx → EReal → Prop := fun y v => ∀ (r : Fin 16384) (j : Fin 1024), y = ix2 r j →
    v = spec m c L ⟨32768 + r.val, by omega⟩ (arg3 m c (ix2 r j)) j
  have hr := r.isLt
  let t : Fin (cfgM m hO).N := ⟨64 + r.val / 512, by show 64 + r.val / 512 < 96; omega⟩
  have hmem : (ix2 r j : S16384x1024.Idx) ∈ (((cfgM m hO).win 12).blk t).view.set := by
    have e := emb_12 m hO t (ix2 ⟨r.val % 512, by omega⟩ j) (ix2 r j) (by show r.val = (64 + r.val / 512 - 64) * 512 + r.val % 512; omega) rfl
    rw [← e]
    exact View.emb_mem_set _ _
  refine (dats m hO 0 c).arrAt_forall_of_flushed 12 P ?_ (cfgM m hO).N t _ t.isLt ((flush_12 m hO t).mpr (by show 64 ≤ 64 + r.val / 512; omega)) hmem r j rfl
  have key : ∀ (t' : Fin (cfgM m hO).N) (y : S512x1024.Idx), 64 ≤ t'.val → P ((((cfgM m hO).win 12).blk t').view.emb y) (out12 m hO c t' y) := by
    intro t' y h64 r' j' hy
    have ht' : t'.val < 96 := t'.isLt
    have hb : (y 0).val < 512 := (y 0).isLt
    have e := (emb_12 m hO t' y (ix2 ⟨(t'.val - 64) * 512 + (y 0).val, by omega⟩ (y 1)) rfl rfl).symm.trans hy
    have hr' : r'.val = (t'.val - 64) * 512 + (y 0).val := (congrArg (fun q : S16384x1024.Idx => (q 0).val) e).symm
    have hj' : (y 1 : Fin 1024) = j' := congrArg (fun q : S16384x1024.Idx => q 1) e
    exact (out12_apply m hO c t' L hl y r' h64 hr').trans (congrArg (fun j => spec m c L ⟨32768 + r'.val, by omega⟩ (arg3 m c (ix2 r' j)) j) hj')
  exact fun t' hf y => (Eq.to_iff (congrArg (P _) (congrFun (after_12 m hO c t') y))).mpr (key t' y ((flush_12 m hO t').mp hf))

end Cert.Kernel3Ideal.OutProj

end
-- ==== Proof.Reference3IdealValue.lean ====
/- What the reference of the output projection computes: at every row the two halves normed, projected under the layer's
   weights and added to the row. -/
module

public import proofs.«01_k».proof.Proof.Gen.Reference3Ideal.Run
public import proofs.«01_k».proof.Proof.Reference2IdealValue
public import proofs.«01_k».proof.Proof.OutRows

@[expose] public section

set_option maxRecDepth 16384

noncomputable section

namespace Cert.Reference3Ideal.OutProj

open Cert.Reference3Ideal Cert.Reference3Ideal.Gen Cert.Reference3Ideal.Value Cert.OutRows
open Idealize.ShloMosaic Idealize.ShloMosaic.TcCoe
open Idealize.SL.Sem

/-- The layer's number as the lines that pick weights read it. -/
def layerLines (l : IVec S1 32) : IVec S1 32 := broadcastInDim S1 ![] bcast_S_S1 (shapeCast S_ l shapeCasts_S1_S_)

theorem layerLines_apply (l : IVec S1 32) : layerLines l (ix1 0) = l (ix1 0) := by
  unfold layerLines
  pointwise []

/-- The lines of a norm of rows. -/
def normLines (Y : FVec Ideal S49152x512 .f32) (G : FVec Ideal S512 .f32) : FVec Ideal S49152x512 .f32 :=
  mulf (mulf Y (broadcastInDim S49152x512 ![0, 1] bcast_S49152x1_S49152x512_0_1 (Host.rsqrt (addf (Host.divf (broadcastInDim S49152x1 ![0] bcast_S49152_S49152x1_0 (Host.reduceAdd (mulf Y Y) (constant S_ .f32 0x00000000#32) reducesTo_S49152x512_S49152_d1 h_S_)) (broadcastInDim S49152x1 ![] bcast_S_S49152x1 (constant S_ .f32 0x44000000#32))) (broadcastInDim S49152x1 ![] bcast_S_S49152x1 (constant S_ .f32 0x358637BD#32)))))) (broadcastInDim S49152x512 ![0, 1] bcast_S1x512_S49152x512_0_1 (broadcastInDim S1x512 ![1] bcast_S512_S1x512_1 G))

theorem normLines_apply (Y : FVec Ideal S49152x512 .f32) (G : FVec Ideal S512 .f32) (r : Fin 49152) (k : Fin 512) :
    (normLines Y G (ix2 r k) : EReal) = halfNorm (fun k => Y (ix2 r k)) (fun k => G (ix1 k)) k := by
  unfold halfNorm normLines
  pointwise []

/-- The heads of a row put side by side. -/
def flatLines (Y : FVec Ideal S4x49152x128 .f32) : FVec Ideal S49152x512 .f32 :=
  shapeCast S49152x512 (transpose S49152x4x128 [1, 0, 2] Y transposes_S4x49152x128_S49152x4x128_1_0_2) shapeCasts_S49152x4x128_S49152x512

theorem flatLines_apply (Y : FVec Ideal S4x49152x128 .f32) (r : Fin 49152) (k : Fin 512) :
    (flatLines Y (ix2 r k) : EReal) = Y (ix3 ⟨k.val / 128, by omega⟩ r ⟨k.val % 128, by omega⟩) := by
  unfold flatLines
  pointwise []

/-- The rows and the product of the halves put side by side. -/
def sumLines (X : FVec Ideal S49152x1024 .f32) (A B : FVec Ideal S49152x512 .f32) (W : FVec Ideal S1024x1024 .f32) : FVec Ideal S49152x1024 .f32 :=
  addf X (Host.dotGeneral dot_S49152x1024_S1024x1024_S49152x1024_1_0_0_1_n_n none (concatenate S49152x1024 1 [⟨S49152x512, A⟩, ⟨S49152x512, B⟩] concatenates_S49152x512_S49152x512_S49152x1024_d1) W)

theorem sumLines_eq (X : FVec Ideal S49152x1024 .f32) (A B : FVec Ideal S49152x512 .f32) (W : FVec Ideal S1024x1024 .f32) (r : Fin 49152) (j : Fin 1024) :
    (sumLines X A B W (ix2 r j) : EReal)
      = X (ix2 r j) + ∑ k : Fin 1024, (if h : k.val < 512 then (A (ix2 r ⟨k.val, h⟩) : EReal) else B (ix2 r ⟨k.val - 512, by omega⟩)) * W (ix2 k j) := by
  unfold sumLines
  pointwise []

theorem sumLines_apply (X : FVec Ideal S49152x1024 .f32) (A B : FVec Ideal S49152x512 .f32) (W : FVec Ideal S1024x1024 .f32) (r : Fin 49152) (j : Fin 1024) :
    (sumLines X A B W (ix2 r j) : EReal)
      = X (ix2 r j) + (∑ k : Fin 512, A (ix2 r k) * W (ix2 ⟨k.val, by omega⟩ j) + ∑ k : Fin 512, B (ix2 r k) * W (ix2 ⟨512 + k.val, by omega⟩ j)) := by
  refine (sumLines_eq X A B W r j).trans (congrArg (fun s => (X (ix2 r j) : EReal) + s) ((sum_halves _).trans ?_))
  refine congrArg₂ (· + ·) (Finset.sum_congr rfl fun k _ => ?_) (Finset.sum_congr rfl fun k _ => ?_)
  · exact congrArg (· * (W (ix2 ⟨k.val, by omega⟩ j) : EReal)) (dif_pos k.isLt)
  · refine congrArg (· * (W (ix2 ⟨512 + k.val, by omega⟩ j) : EReal)) ((dif_neg (by show ¬512 + k.val < 512; omega)).trans ?_)
    exact congrArg (fun k' => (B (ix2 r k') : EReal)) (Fin.ext (by show 512 + k.val - 512 = k.val; omega))

/-- The rows of the two batches one after another. -/
def rowLines (X : FVec Ideal S32768x1024 .f32) (Y : FVec Ideal S16384x1024 .f32) : FVec Ideal S49152x1024 .f32 :=
  concatenate S49152x1024 0 [⟨S32768x1024, X⟩, ⟨S16384x1024, Y⟩] concatenates_S32768x1024_S16384x1024_S49152x1024_d0

theorem rowLines_eq (X : FVec Ideal S32768x1024 .f32) (Y : FVec Ideal S16384x1024 .f32) (r : Fin 49152) (j : Fin 1024) :
    (rowLines X Y (ix2 r j) : EReal) = if h : r.val < 32768 then (X (ix2 ⟨r.val, h⟩ j) : EReal) else Y (ix2 ⟨r.val - 32768, by omega⟩ j) := by
  unfold rowLines
  pointwise []

/-- The lines of the whole reference before its result is cut in two. -/
def allLines (a0 : FVec Ideal S4x49152x128 .f32) (a1 : FVec Ideal S49152x512 .f32) (a2 : FVec Ideal S32768x1024 .f32) (a3 : FVec Ideal S16384x1024 .f32)
    (a4 : IVec S1 32) (a5 a6 : FVec Ideal S4x512 .f32) (a7 : FVec Ideal S4x1024x1024 .f32) : FVec Ideal S49152x1024 .f32 :=
  sumLines (rowLines a2 a3) (normLines (flatLines a0) (Host.gather gather_S4x512_S1_S512_0_0_n_n_0_0_1512 a5 (layerLines a4)))
    (normLines a1 (Host.gather gather_S4x512_S1_S512_0_0_n_n_0_0_1512 a6 (layerLines a4)))
    (Host.gather gather_S4x1024x1024_S1_S1024x1024_01_0_n_n_0_0_110241024 a7 (layerLines a4))

theorem cut0 (X : FVec Ideal S49152x1024 .f32) (r : Fin 32768) (j : Fin 1024) :
    (extractStridedSlice S32768x1024 ![0, 0] X slices_S49152x1024_S32768x1024_0_0 (ix2 r j) : EReal) = X (ix2 ⟨r.val, by omega⟩ j) := by
  pointwise []

theorem cut1 (X : FVec Ideal S49152x1024 .f32) (r : Fin 16384) (j : Fin 1024) :
    (extractStridedSlice S16384x1024 ![32768, 0] X slices_S49152x1024_S16384x1024_32768_0 (ix2 r j) : EReal) = X (ix2 ⟨32768 + r.val, by omega⟩ j) := by
  pointwise []

section
variable (a0 : FVec Ideal S4x49152x128 .f32) (a1 : FVec Ideal S49152x512 .f32) (a2 : FVec Ideal S32768x1024 .f32) (a3 : FVec Ideal S16384x1024 .f32)
  (a4 : IVec S1 32) (a5 a6 : FVec Ideal S4x512 .f32) (a7 : FVec Ideal S4x1024x1024 .f32) (L : Fin 4) (hl : (a4 (ix1 0)).toNat = L.val)

/-- The first result. -/
def result0 : FVec Ideal S32768x1024 .f32 := extractStridedSlice S32768x1024 ![0, 0] (allLines a0 a1 a2 a3 a4 a5 a6 a7) slices_S49152x1024_S32768x1024_0_0
/-- The second result. -/
def result1 : FVec Ideal S16384x1024 .f32 := extractStridedSlice S16384x1024 ![32768, 0] (allLines a0 a1 a2 a3 a4 a5 a6 a7) slices_S49152x1024_S16384x1024_32768_0

include hl

theorem allLines_apply (r : Fin 49152) (j : Fin 1024) :
    (allLines a0 a1 a2 a3 a4 a5 a6 a7 (ix2 r j) : EReal)
      = mixed (rowLines a2 a3 (ix2 r j)) (fun k => a0 (ix3 ⟨k.val / 128, by omega⟩ r ⟨k.val % 128, by omega⟩)) (fun k => a1 (ix2 r k))
        (fun k => a5 (ix2 L k)) (fun k => a6 (ix2 L k)) (fun k => a7 (ix3 L k j)) := by
  have hL : (layerLines a4 (ix1 0)).toNat = L.val := (congrArg BitVec.toNat (layerLines_apply a4)).trans hl
  have hg : ∀ (g : FVec Ideal S4x512 .f32) (k : Fin 512), (Host.gather gather_S4x512_S1_S512_0_0_n_n_0_0_1512 g (layerLines a4) (ix1 k) : EReal) = g (ix2 L k) :=
    fun g k => Cert.Reference2Ideal.InProj.vec_apply gather_S4x512_S1_S512_0_0_n_n_0_0_1512.wf g _ L (by omega) hL k
  have hw : ∀ (k : Fin 1024), (Host.gather gather_S4x1024x1024_S1_S1024x1024_01_0_n_n_0_0_110241024 a7 (layerLines a4) (ix2 k j) : EReal) = a7 (ix3 L k j) :=
    fun k => Cert.Reference2Ideal.InProj.mat_apply gather_S4x1024x1024_S1_S1024x1024_01_0_n_n_0_0_110241024.wf a7 _ L (by omega) hL k j
  unfold allLines mixed
  refine (sumLines_apply _ _ _ _ r j).trans (congrArg (fun s => (rowLines a2 a3 (ix2 r j) : EReal) + s) ?_)
  refine congrArg₂ (· + ·) (Finset.sum_congr rfl fun k _ => ?_) (Finset.sum_congr rfl fun k _ => ?_)
  · refine congrArg₂ (· * ·) ((normLines_apply _ _ r k).trans ?_) (hw _)
    exact congrArg₂ (fun y g => halfNorm y g k) (funext fun k => flatLines_apply a0 r k) (funext fun k => hg a5 k)
  · refine congrArg₂ (· * ·) ((normLines_apply _ _ r k).trans ?_) (hw _)
    exact congrArg (fun g => halfNorm (fun k => a1 (ix2 r k)) g k) (funext fun k => hg a6 k)

theorem result0_apply (r : Fin 32768) (j : Fin 1024) :
    (result0 a0 a1 a2 a3 a4 a5 a6 a7 (ix2 r j) : EReal)
      = mixed (a2 (ix2 r j)) (fun k => a0 (ix3 ⟨k.val / 128, by omega⟩ ⟨r.val, by omega⟩ ⟨k.val % 128, by omega⟩)) (fun k => a1 (ix2 ⟨r.val, by omega⟩ k))
        (fun k => a5 (ix2 L k)) (fun k => a6 (ix2 L k)) (fun k => a7 (ix3 L k j)) := by
  unfold result0
  refine (cut0 _ r j).trans ((allLines_apply a0 a1 a2 a3 a4 a5 a6 a7 L hl _ j).trans ?_)
  refine mixed_congr ?_ (fun _ => rfl) (fun _ => rfl) (fun _ => rfl) (fun _ => rfl) fun _ => rfl
  exact (rowLines_eq a2 a3 _ j).trans (dif_pos r.isLt)

theorem result1_apply (r : Fin 16384) (j : Fin 1024) :
    (result1 a0 a1 a2 a3 a4 a5 a6 a7 (ix2 r j) : EReal)
      = mixed (a3 (ix2 r j)) (fun k => a0 (ix3 ⟨k.val / 128, by omega⟩ ⟨32768 + r.val, by omega⟩ ⟨k.val % 128, by omega⟩)) (fun k => a1 (ix2 ⟨32768 + r.val, by omega⟩ k))
        (fun k => a5 (ix2 L k)) (fun k => a6 (ix2 L k)) (fun k => a7 (ix3 L k j)) := by
  unfold result1
  refine (cut1 _ r j).trans ((allLines_apply a0 a1 a2 a3 a4 a5 a6 a7 L hl _ j).trans ?_)
  refine mixed_congr ?_ (fun _ => rfl) (fun _ => rfl) (fun _ => rfl) (fun _ => rfl) fun _ => rfl
  refine (rowLines_eq a2 a3 _ j).trans ((dif_neg (by show ¬32768 + r.val < 32768; omega)).trans ?_)
  exact congrArg (fun r' => (a3 (ix2 r' j) : EReal)) (Fin.ext (by show 32768 + r.val - 32768 = r.val; omega))

end

theorem result0_congr {a0 a0' : FVec Ideal S4x49152x128 .f32} {a1 a1' : FVec Ideal S49152x512 .f32} {a2 a2' : FVec Ideal S32768x1024 .f32} {a3 a3' : FVec Ideal S16384x1024 .f32} {a4 a4' : IVec S1 32} {a5 a5' : FVec Ideal S4x512 .f32} {a6 a6' : FVec Ideal S4x512 .f32} {a7 a7' : FVec Ideal S4x1024x1024 .f32}
    (h0 : a0 = a0') (h1 : a1 = a1') (h2 : a2 = a2') (h3 : a3 = a3') (h4 : a4 = a4') (h5 : a5 = a5') (h6 : a6 = a6') (h7 : a7 = a7') :
    result0 a0 a1 a2 a3 a4 a5 a6 a7 = result0 a0' a1' a2' a3' a4' a5' a6' a7' := by
  subst h0 h1 h2 h3 h4 h5 h6 h7; rfl

theorem result1_congr {a0 a0' : FVec Ideal S4x49152x128 .f32} {a1 a1' : FVec Ideal S49152x512 .f32} {a2 a2' : FVec Ideal S32768x1024 .f32} {a3 a3' : FVec Ideal S16384x1024 .f32} {a4 a4' : IVec S1 32} {a5 a5' : FVec Ideal S4x512 .f32} {a6 a6' : FVec Ideal S4x512 .f32} {a7 a7' : FVec Ideal S4x1024x1024 .f32}
    (h0 : a0 = a0') (h1 : a1 = a1') (h2 : a2 = a2') (h3 : a3 = a3') (h4 : a4 = a4') (h5 : a5 = a5') (h6 : a6 = a6') (h7 : a7 = a7') :
    result1 a0 a1 a2 a3 a4 a5 a6 a7 = result1 a0' a1' a2' a3' a4' a5' a6' a7' := by
  subst h0 h1 h2 h3 h4 h5 h6 h7; rfl

end Cert.Reference3Ideal.OutProj

end
-- ==== Proof.OutProj.lean ====
/- The claims of `out_proj_route`: the kernel and its idealization run and leave every semaphore at zero, the reference runs,
   and the idealized kernel's first two outputs are the reference's results. -/
module

public import proofs.«01_k».proof.Defs
public import proofs.«01_k».proof.Proof.Gen.Pre_layer_in_range_too
public import proofs.«01_k».proof.Proof.Kernel3Frame
public import proofs.«01_k».proof.Proof.Kernel3Layer
public import proofs.«01_k».proof.Proof.Kernel3IdealLayer
public import proofs.«01_k».proof.Proof.Kernel3IdealOutput
public import proofs.«01_k».proof.Proof.Reference3IdealValue
public import proofs.«01_k».proof.Proof.Tables

@[expose] public section

namespace Cert.OutProj

open Idealize.ShloMosaic Idealize.ShloMosaic.TcCoe Idealize.SL.Sem

/-- The precondition, all ones, bounds the layer. -/
theorem in_range {F : FTy → Type} [FloatOps F] (a0 : FVec F Cert.Pre_layer_in_range_too.S4x49152x128 .f32)
    (a1 : FVec F Cert.Pre_layer_in_range_too.S49152x512 .f32)
    (a2 : FVec F Cert.Pre_layer_in_range_too.S32768x1024 .f32)
    (a3 : FVec F Cert.Pre_layer_in_range_too.S16384x1024 .f32)
    (a4 : IVec Cert.Pre_layer_in_range_too.S1 32)
    (a5 : FVec F Cert.Pre_layer_in_range_too.S4x512 .f32)
    (a6 : FVec F Cert.Pre_layer_in_range_too.S4x512 .f32)
    (a7 : FVec F Cert.Pre_layer_in_range_too.S4x1024x1024 .f32)
    (a8 : FVec F Cert.Pre_layer_in_range_too.S4x1024 .f32)
    (a9 : FVec F Cert.Pre_layer_in_range_too.S4x1024x256 .bf16)
    (a10 : FVec F Cert.Pre_layer_in_range_too.S4x1x128 .f32)
    (a11 : FVec F Cert.Pre_layer_in_range_too.S512x512 .bf16)
    (h : Cert.Pre_layer_in_range_too.fn (F := F) a0 a1 a2 a3 a4 a5 a6 a7 a8 a9 a10 a11 = fun _ => 1#1) (j : Cert.Pre_layer_in_range_too.S1.Idx) :
    (a4 j).toNat < 4 := by
  haveI : Subsingleton Cert.Pre_layer_in_range_too.S_.Idx := ⟨fun a b => funext fun x => x.elim0⟩
  have h' := congrFun h (fun x => x.elim0)
  unfold Cert.Pre_layer_in_range_too.fn at h'
  exact Cert.Tables.below (k := 4) (by decide) _ (Host.reduce_andi_all _ _ _ _ _ h' j)

theorem ok_Kernel3 (m : (ℓ : Loc Cert.Kernel3.nD Cert.Kernel3.τ Cert.Kernel3.sig) → Buf (Elt Bits) ℓ) (h : Cert.Pre_Kernel3 m) :
    Cert.Kernel3.OutProj.Ok m :=
  Cert.Kernel3.OutProj.ok_of_range m fun j =>
    Nat.lt_of_le_of_lt (le_of_eq (congrArg (BitVec.toNat (w := 32)) (congrFun (Cert.Kernel3.OutProj.V_main_arg4 m 0) j))) (in_range _ _ _ _ _ _ _ _ _ _ _ _ (h 0) j)

theorem ok_Kernel3Ideal (m : (ℓ : Loc Cert.Kernel3Ideal.nD Cert.Kernel3Ideal.τ Cert.Kernel3Ideal.sig) → Buf (Elt Ideal) ℓ)
    (h : Cert.Pre_Kernel3Ideal m) : Cert.Kernel3Ideal.OutProj.Ok m :=
  Cert.Kernel3Ideal.OutProj.ok_of_range m fun j =>
    Nat.lt_of_le_of_lt (le_of_eq (congrArg (BitVec.toNat (w := 32)) (congrFun (Cert.Kernel3Ideal.OutProj.V_main_arg4 m 0) j))) (in_range _ _ _ _ _ _ _ _ _ _ _ _ (h 0) j)

theorem frame_Reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section
open Cert.Kernel3Ideal Cert.Kernel3Ideal.OutProj

variable (m : (ℓ : Loc nD τ sig) → Buf (Elt Ideal) ℓ)

/-- The prefetched layer is the argument's. -/
theorem layer_eq : (layer (F := Ideal) (tbl m 0)).toNat = (arg4 m 0 (ix1 0)).toNat := by
  refine congrArg (BitVec.toNat (w := 32)) ((congrFun (V_main_arg4 m 0) _).trans ?_)
  exact congrArg (arg4 m 0) (funext fun a => by match a with | ⟨0, _⟩ => rfl)

/-- The reference's results of the kernel's arguments. -/
noncomputable abbrev rows0 (c : Dev nD) : FVec Ideal S32768x1024 .f32 :=
  Cert.Reference3Ideal.OutProj.result0 (arg0 m c) (arg1 m c) (arg2 m c) (arg3 m c) (arg4 m c) (arg5 m c) (arg6 m c) (arg7 m c)
noncomputable abbrev rows1 (c : Dev nD) : FVec Ideal S16384x1024 .f32 :=
  Cert.Reference3Ideal.OutProj.result1 (arg0 m c) (arg1 m c) (arg2 m c) (arg3 m c) (arg4 m c) (arg5 m c) (arg6 m c) (arg7 m c)

variable (h : Cert.Pre_Kernel3Ideal m)

/-- The kernel's first output array is the reference's first result of the same arguments. -/
theorem output_eq_11 (c : Dev nD) : (dats m (ok_Kernel3Ideal m h) 0 c).arrAt 11 (cfgM m (ok_Kernel3Ideal m h)).N = rows0 m c := by
  obtain rfl : c = 0 := Subsingleton.elim _ _
  have hr : (arg4 m 0 (ix1 0)).toNat < 4 := in_range _ _ _ _ _ _ _ _ _ _ _ _ (h 0) (ix1 0)
  have key : ∀ (r : Fin 32768) (j : Fin 1024),
      (dats m (ok_Kernel3Ideal m h) 0 0).arrAt 11 (cfgM m (ok_Kernel3Ideal m h)).N (ix2 r j : S32768x1024.Idx) = rows0 m 0 (ix2 r j) := fun r j =>
    (arrAt_11 m (ok_Kernel3Ideal m h) 0 ⟨_, hr⟩ (layer_eq m) r j).trans
      (Cert.Reference3Ideal.OutProj.result0_apply (arg0 m 0) (arg1 m 0) (arg2 m 0) (arg3 m 0) (arg4 m 0) (arg5 m 0) (arg6 m 0) (arg7 m 0) ⟨_, hr⟩ rfl r j).symm
  have at_all : ∀ i : S32768x1024.Idx, (dats m (ok_Kernel3Ideal m h) 0 0).arrAt 11 (cfgM m (ok_Kernel3Ideal m h)).N i = rows0 m 0 i := fun i => by
    have e : i = (ix2 (i 0 : Fin 32768) (i 1 : Fin 1024) : S32768x1024.Idx) :=
      funext fun a => by match a with | ⟨0, _⟩ => rfl | ⟨1, _⟩ => rfl
    rw [e]
    exact key _ _
  exact funext at_all

/-- The kernel's second output array is the reference's second result of the same arguments. -/
theorem output_eq_12 (c : Dev nD) : (dats m (ok_Kernel3Ideal m h) 0 c).arrAt 12 (cfgM m (ok_Kernel3Ideal m h)).N = rows1 m c := by
  obtain rfl : c = 0 := Subsingleton.elim _ _
  have hr : (arg4 m 0 (ix1 0)).toNat < 4 := in_range _ _ _ _ _ _ _ _ _ _ _ _ (h 0) (ix1 0)
  have key : ∀ (r : Fin 16384) (j : Fin 1024),
      (dats m (ok_Kernel3Ideal m h) 0 0).arrAt 12 (cfgM m (ok_Kernel3Ideal m h)).N (ix2 r j : S16384x1024.Idx) = rows1 m 0 (ix2 r j) := fun r j =>
    (arrAt_12 m (ok_Kernel3Ideal m h) 0 ⟨_, hr⟩ (layer_eq m) r j).trans
      (Cert.Reference3Ideal.OutProj.result1_apply (arg0 m 0) (arg1 m 0) (arg2 m 0) (arg3 m 0) (arg4 m 0) (arg5 m 0) (arg6 m 0) (arg7 m 0) ⟨_, hr⟩ rfl r j).symm
  have at_all : ∀ i : S16384x1024.Idx, (dats m (ok_Kernel3Ideal m h) 0 0).arrAt 12 (cfgM m (ok_Kernel3Ideal m h)).N i = rows1 m 0 i := fun i => by
    have e : i = (ix2 (i 0 : Fin 16384) (i 1 : Fin 1024) : S16384x1024.Idx) :=
      funext fun a => by match a with | ⟨0, _⟩ => rfl | ⟨1, _⟩ => rfl
    rw [e]
    exact key _ _
  exact funext at_all

end

theorem algebraic : Cert.algebraic_Kernel3Ideal_Reference3Ideal := fun m ρ m' ρ' h hagree =>
  ⟨rows0 m, rows1 m,
  by
    refine (θ_run Cert.Kernel3Ideal.defs _ _).mono ?_
      (θ_run_and (Cert.Kernel3Ideal.OutProj.run_named m ρ (ok_Kernel3Ideal m h)) (Cert.Kernel3Ideal.OutProj.unchanged m ρ (ok_Kernel3Ideal m h)))
    exact fun r q c => ⟨((q.1 c).1 11 rfl).trans (output_eq_11 m h c), ((q.1 c).1 12 rfl).trans (output_eq_12 m h c), q.2 c⟩,
  by
    refine (θ_run Cert.Reference3Ideal.defs _ _).mono ?_ (Cert.Reference3Ideal.Value.run (F := Ideal) m' ρ')
    intro r q c
    obtain ⟨h0, h1, h2, h3, h4, h5, h6, h7, h8, h9, h10, h11⟩ := hagree c
    exact ⟨(q c).1.trans (Eq.trans rfl (Cert.Reference3Ideal.OutProj.result0_congr h0 h1 h2 h3 h4 h5 h6 h7)),
      (q c).2.1.trans (Eq.trans rfl (Cert.Reference3Ideal.OutProj.result1_congr h0 h1 h2 h3 h4 h5 h6 h7)), (q c).2.2⟩⟩

end Cert.OutProj
-- ==== Proof.ReferenceIdealValue.lean ====
/- What the reference computes: at every row of a block in use the gated MLP of the row, under the matrices of the block's
   expert, and zeros in the blocks past those. -/
module

public import proofs.«01_k».proof.Proof.Gen.ReferenceIdeal.Run
public import proofs.«01_k».proof.Proof.Mlp

@[expose] public section

set_option maxRecDepth 16384

noncomputable section

namespace Cert.ReferenceIdeal.Experts

open Cert.ReferenceIdeal Cert.ReferenceIdeal.Gen Cert.Mlp
open Idealize.ShloMosaic Idealize.ShloMosaic.TcCoe
open Idealize.SL.Sem

/-- The dimension numbers of taking one member of a stack of `A` arrays `[B, C, D]`. -/
abbrev memberDims (A B C D : Nat) (wf : GatherDims.WF ⟨4, ![A, B, C, D]⟩ ⟨1, ![1]⟩ ⟨3, ![B, C, D]⟩ [0, 1, 2] [0] [] [0] [] 0 ![1, B, C, D]) :
    GatherDims ⟨4, ![A, B, C, D]⟩ ⟨1, ![1]⟩ ⟨3, ![B, C, D]⟩ where
  offsetDims := [0, 1, 2]
  collapsedSliceDims := [0]
  operandBatchingDims := []
  startIndicesBatchingDims := []
  startIndexMap := [0]
  indexVectorDim := 0
  sliceSizes := ![1, B, C, D]
  wf := wf

/-- One member of a stack: its entries are the stack's under the index, when the index is one of the stack's. -/
theorem member_apply {α : Type} {A B C D : Nat} (wf : GatherDims.WF ⟨4, ![A, B, C, D]⟩ ⟨1, ![1]⟩ ⟨3, ![B, C, D]⟩ [0, 1, 2] [0] [] [0] [] 0 ![1, B, C, D])
    (x : (⟨4, ![A, B, C, D]⟩ : Shape).Idx → α) (idx : IVec ⟨1, ![1]⟩ 32) (a : Fin A) (hA : A < 2 ^ 31)
    (h : (idx (ix1 0)).toNat = a.val) (b : Fin B) (c : Fin C) (d : Fin D) :
    Host.gather (memberDims A B C D wf) x idx (ix3 b c d) = x (ix4 a b c d) := by
  unfold Host.gather
  refine congrArg x (funext fun k => Fin.ext ?_)
  show (memberDims A B C D wf).start (ix3 b c d) idx k + (memberDims A B C D wf).batchCoord (ix3 b c d) k
      + (memberDims A B C D wf).offCoord (ix3 b c d) k = _
  rw [GatherDims.batchCoord_eq_zero _ _ _ List.not_mem_nil]
  match k with
  | ⟨0, _⟩ =>
    have hk : (0 : Fin 4) ∈ (memberDims A B C D wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    refine (dif_pos hk).trans ?_
    have hsi : (memberDims A B C D wf).siIdx (ix3 b c d) ⟨List.idxOf (0 : Fin 4) (memberDims A B C D wf).startIndexMap,
        List.idxOf_lt_length_iff.2 hk⟩ = ix1 0 := by
      funext q; refine Fin.ext ?_
      match q with
      | ⟨0, _⟩ => rfl
    refine (congrArg (fun q => min (idx q).toInt.toNat (A - 1)) hsi).trans ?_
    have := a.isLt
    show min (idx (ix1 0)).toInt.toNat (A - 1) = a.val
    rw [BitVec.toInt_eq_toNat_of_lt (by omega), h]
    omega
  | ⟨1, _⟩ =>
    have hk : (1 : Fin 4) ∉ (memberDims A B C D wf).startIndexMap := fun h => absurd (congrArg Fin.val (List.mem_singleton.mp h)) (by show ¬(1 : ℕ) = 0; decide)
    have ho : (1 : Fin 4) ∈ (memberDims A B C D wf).sKept := (GatherDims.mem_sKept _ _).mpr ⟨fun h => absurd (congrArg Fin.val (List.mem_singleton.mp h)) (by show ¬(1 : ℕ) = 0; decide), List.not_mem_nil⟩
    unfold GatherDims.start GatherDims.offCoord
    refine (congrArg₂ (fun p q => p + 0 + q) (dif_neg hk) (dif_pos ho)).trans ?_
    exact (Nat.zero_add _).trans rfl
  | ⟨2, _⟩ =>
    have hk : (2 : Fin 4) ∉ (memberDims A B C D wf).startIndexMap := fun h => absurd (congrArg Fin.val (List.mem_singleton.mp h)) (by show ¬(2 : ℕ) = 0; decide)
    have ho : (2 : Fin 4) ∈ (memberDims A B C D wf).sKept := (GatherDims.mem_sKept _ _).mpr ⟨fun h => absurd (congrArg Fin.val (List.mem_singleton.mp h)) (by show ¬(2 : ℕ) = 0; decide), List.not_mem_nil⟩
    unfold GatherDims.start GatherDims.offCoord
    refine (congrArg₂ (fun p q => p + 0 + q) (dif_neg hk) (dif_pos ho)).trans ?_
    exact (Nat.zero_add _).trans rfl
  | ⟨3, _⟩ =>
    have hk : (3 : Fin 4) ∉ (memberDims A B C D wf).startIndexMap := fun h => absurd (congrArg Fin.val (List.mem_singleton.mp h)) (by show ¬(3 : ℕ) = 0; decide)
    have ho : (3 : Fin 4) ∈ (memberDims A B C D wf).sKept := (GatherDims.mem_sKept _ _).mpr ⟨fun h => absurd (congrArg Fin.val (List.mem_singleton.mp h)) (by show ¬(3 : ℕ) = 0; decide), List.not_mem_nil⟩
    unfold GatherDims.start GatherDims.offCoord
    refine (congrArg₂ (fun p q => p + 0 + q) (dif_neg hk) (dif_pos ho)).trans ?_
    exact (Nat.zero_add _).trans rfl

/-- The dimension numbers of taking `N` members of a stack of `B` matrices `[C, D]`. -/
abbrev membersDims (N B C D : Nat) (wf : GatherDims.WF ⟨3, ![B, C, D]⟩ ⟨2, ![N, 1]⟩ ⟨3, ![N, C, D]⟩ [1, 2] [0] [] [0] [] 1 ![1, C, D]) :
    GatherDims ⟨3, ![B, C, D]⟩ ⟨2, ![N, 1]⟩ ⟨3, ![N, C, D]⟩ where
  offsetDims := [1, 2]
  collapsedSliceDims := [0]
  operandBatchingDims := []
  startIndicesBatchingDims := []
  startIndexMap := [0]
  indexVectorDim := 1
  sliceSizes := ![1, C, D]
  wf := wf

/-- Members of a stack: the entries of member `n` are the stack's under the `n`-th index, when that is one of the stack's. -/
theorem members_apply {α : Type} {N B C D : Nat} (wf : GatherDims.WF ⟨3, ![B, C, D]⟩ ⟨2, ![N, 1]⟩ ⟨3, ![N, C, D]⟩ [1, 2] [0] [] [0] [] 1 ![1, C, D])
    (x : (⟨3, ![B, C, D]⟩ : Shape).Idx → α) (idx : IVec ⟨2, ![N, 1]⟩ 32) (n : Fin N) (b : Fin B) (hB : B < 2 ^ 31)
    (h : (idx (ix2 n 0)).toNat = b.val) (c : Fin C) (d : Fin D) :
    Host.gather (membersDims N B C D wf) x idx (ix3 n c d) = x (ix3 b c d) := by
  unfold Host.gather
  refine congrArg x (funext fun k => Fin.ext ?_)
  show (membersDims N B C D wf).start (ix3 n c d) idx k + (membersDims N B C D wf).batchCoord (ix3 n c d) k
      + (membersDims N B C D wf).offCoord (ix3 n c d) k = _
  rw [GatherDims.batchCoord_eq_zero _ _ _ List.not_mem_nil]
  match k with
  | ⟨0, _⟩ =>
    have hk : (0 : Fin 3) ∈ (membersDims N B C D wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    refine (dif_pos hk).trans ?_
    have hsi : (membersDims N B C D wf).siIdx (ix3 n c d) ⟨List.idxOf (0 : Fin 3) (membersDims N B C D wf).startIndexMap,
        List.idxOf_lt_length_iff.2 hk⟩ = ix2 n 0 := by
      funext q; refine Fin.ext ?_
      match q with
      | ⟨0, _⟩ => rfl
      | ⟨1, _⟩ => rfl
    refine (congrArg (fun q => min (idx q).toInt.toNat (B - 1)) hsi).trans ?_
    have := b.isLt
    show min (idx (ix2 n 0)).toInt.toNat (B - 1) = b.val
    rw [BitVec.toInt_eq_toNat_of_lt (by omega), h]
    omega
  | ⟨1, _⟩ =>
    have hk : (1 : Fin 3) ∉ (membersDims N B C D wf).startIndexMap := fun h => absurd (congrArg Fin.val (List.mem_singleton.mp h)) (by show ¬(1 : ℕ) = 0; decide)
    have ho : (1 : Fin 3) ∈ (membersDims N B C D wf).sKept := (GatherDims.mem_sKept _ _).mpr ⟨fun h => absurd (congrArg Fin.val (List.mem_singleton.mp h)) (by show ¬(1 : ℕ) = 0; decide), List.not_mem_nil⟩
    unfold GatherDims.start GatherDims.offCoord
    refine (congrArg₂ (fun p q => p + 0 + q) (dif_neg hk) (dif_pos ho)).trans ?_
    exact (Nat.zero_add _).trans rfl
  | ⟨2, _⟩ =>
    have hk : (2 : Fin 3) ∉ (membersDims N B C D wf).startIndexMap := fun h => absurd (congrArg Fin.val (List.mem_singleton.mp h)) (by show ¬(2 : ℕ) = 0; decide)
    have ho : (2 : Fin 3) ∈ (membersDims N B C D wf).sKept := (GatherDims.mem_sKept _ _).mpr ⟨fun h => absurd (congrArg Fin.val (List.mem_singleton.mp h)) (by show ¬(2 : ℕ) = 0; decide), List.not_mem_nil⟩
    unfold GatherDims.start GatherDims.offCoord
    refine (congrArg₂ (fun p q => p + 0 + q) (dif_neg hk) (dif_pos ho)).trans ?_
    exact (Nat.zero_add _).trans rfl

/-- The matrices of the layer and of every block's expert, of the two wide stacks. -/
def wide (w : FVec Ideal S4x32x1024x512 .f32) (l : IVec S1 32) (e : IVec S224 32) : FVec Ideal S224x1024x512 .f32 :=
  Host.gather gather_S32x1024x512_S224x1_S224x1024x512_12_0_n_n_0_1_11024512 (Host.gather gather_S4x32x1024x512_S1_S32x1024x512_012_0_n_n_0_0_1321024512 w (broadcastInDim S1 ![] bcast_S_S1 (shapeCast _ l shapeCasts_S1_S_))) (broadcastInDim S224x1 ![0] bcast_S224_S224x1_0 e)

/-- The same of the tall stack. -/
def tall (w : FVec Ideal S4x32x512x1024 .f32) (l : IVec S1 32) (e : IVec S224 32) : FVec Ideal S224x512x1024 .f32 :=
  Host.gather gather_S32x512x1024_S224x1_S224x512x1024_12_0_n_n_0_1_15121024 (Host.gather gather_S4x32x512x1024_S1_S32x512x1024_012_0_n_n_0_0_1325121024 w (broadcastInDim S1 ![] bcast_S_S1 (shapeCast _ l shapeCasts_S1_S_))) (broadcastInDim S224x1 ![0] bcast_S224_S224x1_0 e)

/-- The reference's result, as its lines write it. -/
def result (x : FVec Ideal S114688x1024 .bf16) (l : IVec S1 32) (e : IVec S224 32) (n : IVec S1 32)
    (g u : FVec Ideal S4x32x1024x512 .f32) (d : FVec Ideal S4x32x512x1024 .f32) : FVec Ideal S114688x1024 .bf16 :=
  truncf .bf16 (shapeCast S114688x1024 (select (cmpi .slt (iotaInDim S224x512x1024 32 0) (broadcastInDim S224x512x1024 ![] bcast_S_S224x512x1024 (shapeCast _ n shapeCasts_S1_S_))) (Host.dotGeneral dot_S224x512x512_S224x512x1024_S224x512x1024_2_1_1_2_0_0 none (mulf (mulf (Host.dotGeneral dot_S224x512x1024_S224x1024x512_S224x512x512_2_1_1_2_0_0 none (shapeCast _ (extf .f32 x bitsLt_bf16_f32) shapeCasts_S114688x1024_S224x512x1024) (wide g l e)) (Host.divf (broadcastInDim S224x512x512 ![] bcast_S_S224x512x512 (constant S_ .f32 0x3F800000#32)) (addf (broadcastInDim S224x512x512 ![] bcast_S_S224x512x512 (constant S_ .f32 0x3F800000#32)) (Host.exp (Host.negf (Host.dotGeneral dot_S224x512x1024_S224x1024x512_S224x512x512_2_1_1_2_0_0 none (shapeCast _ (extf .f32 x bitsLt_bf16_f32) shapeCasts_S114688x1024_S224x512x1024) (wide g l e))))))) (Host.dotGeneral dot_S224x512x1024_S224x1024x512_S224x512x512_2_1_1_2_0_0 none (shapeCast _ (extf .f32 x bitsLt_bf16_f32) shapeCasts_S114688x1024_S224x512x1024) (wide u l e))) (tall d l e)) (broadcastInDim S224x512x1024 ![] bcast_S_S224x512x1024 (constant S_ .f32 0x00000000#32))) shapeCasts_S224x512x1024_S114688x1024) bitsLt_bf16_f32

/-- The matrices taken, at an entry: the stack's under the layer and the block's expert. -/
theorem wide_apply (w : FVec Ideal S4x32x1024x512 .f32) (l : IVec S1 32) (e : IVec S224 32) (b : Fin 224) (L : Fin 4) (E : Fin 32)
    (hl : (l (ix1 0)).toNat = L.val) (he : (e (ix1 b)).toNat = E.val) (c : Fin 1024) (k : Fin 512) :
    wide w l e (ix3 b c k) = w (ix4 L E c k) := by
  refine (members_apply gather_S32x1024x512_S224x1_S224x1024x512_12_0_n_n_0_1_11024512.wf _ _ b E (by omega) ?_ c k).trans
    (member_apply gather_S4x32x1024x512_S1_S32x1024x512_012_0_n_n_0_0_1321024512.wf w _ L (by omega) ?_ E c k)
  · pointwise; exact he
  · pointwise; exact hl

theorem tall_apply (w : FVec Ideal S4x32x512x1024 .f32) (l : IVec S1 32) (e : IVec S224 32) (b : Fin 224) (L : Fin 4) (E : Fin 32)
    (hl : (l (ix1 0)).toNat = L.val) (he : (e (ix1 b)).toNat = E.val) (k : Fin 512) (c : Fin 1024) :
    tall w l e (ix3 b k c) = w (ix4 L E k c) := by
  refine (members_apply gather_S32x512x1024_S224x1_S224x512x1024_12_0_n_n_0_1_15121024.wf _ _ b E (by omega) ?_ k c).trans
    (member_apply gather_S4x32x512x1024_S1_S32x512x1024_012_0_n_n_0_0_1325121024.wf w _ L (by omega) ?_ E k c)
  · pointwise; exact he
  · pointwise; exact hl

/-- The reference's result at an element. -/
theorem result_apply (x : FVec Ideal S114688x1024 .bf16) (l : IVec S1 32) (e : IVec S224 32) (n : IVec S1 32)
    (g u : FVec Ideal S4x32x1024x512 .f32) (d : FVec Ideal S4x32x512x1024 .f32) (r : Fin 114688) (j : Fin 1024) (L : Fin 4) (E : Fin 32)
    (hl : (l (ix1 0)).toNat = L.val) (he : (e (ix1 ⟨r.val / 512, by omega⟩)).toNat = E.val) :
    result x l e n g u d (ix2 r j) = rowOut (r.val / 512) (n (ix1 0)) (fun c => x (ix2 r c)) (fun c k => g (ix4 L E c k))
      (fun c k => u (ix4 L E c k)) (fun k c => d (ix4 L E k c)) j := by
  have hg := fun c k => wide_apply g l e _ L E hl he c k
  have hu := fun c k => wide_apply u l e _ L E hl he c k
  have hd := fun k c => tall_apply d l e _ L E hl he k c
  unfold result rowOut mlp times Ideal.logistic
  pointwise
  simp only [hg, hu, hd]

end Cert.ReferenceIdeal.Experts

end
-- ==== Proof.lean ====
module

public import proofs.«01_k».proof.Defs
public import proofs.«01_k».proof.Proof.InProj
public import proofs.«01_k».proof.Proof.KernelFrame
public import proofs.«01_k».proof.Proof.KernelIdealValue
public import proofs.«01_k».proof.Proof.OutProj
public import proofs.«01_k».proof.Proof.ReferenceIdealValue
public import proofs.«01_k».proof.Proof.Tables

@[expose] public section

namespace Cert.Proof

open Idealize.ShloMosaic Idealize.ShloMosaic.TcCoe Idealize.SL.Sem

theorem ok_Kernel (m : (ℓ : Loc Cert.Kernel.nD Cert.Kernel.τ Cert.Kernel.sig) → Buf (Elt Bits) ℓ) (h : Cert.Pre_Kernel m) :
    Cert.Kernel.Experts.Ok m :=
  Cert.Kernel.Experts.ok_of_range m (Cert.Tables.in_range _ _ _ _ _ _ _ (h 0)).1 (Cert.Tables.in_range _ _ _ _ _ _ _ (h 0)).2

theorem ok_KernelIdeal (m : (ℓ : Loc Cert.KernelIdeal.nD Cert.KernelIdeal.τ Cert.KernelIdeal.sig) → Buf (Elt Ideal) ℓ)
    (h : Cert.Pre_KernelIdeal m) : Cert.KernelIdeal.Experts.Ok m :=
  Cert.KernelIdeal.Experts.ok_of_range m (Cert.Tables.in_range _ _ _ _ _ _ _ (h 0)).1 (Cert.Tables.in_range _ _ _ _ _ _ _ (h 0)).2

theorem frame_Reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's output array is the reference's result of the kernel's own arguments. -/
theorem output_eq (m : (ℓ : Loc Cert.KernelIdeal.nD Cert.KernelIdeal.τ Cert.KernelIdeal.sig) → Buf (Elt Ideal) ℓ)
    (h : Cert.Pre_KernelIdeal m) (c : Dev Cert.KernelIdeal.nD) :
    (Cert.KernelIdeal.Experts.dats m (ok_KernelIdeal m h) 0 c).arrAt 4 (Cert.KernelIdeal.Experts.cfgM m (ok_KernelIdeal m h)).N
      = Cert.ReferenceIdeal.Experts.result (m ((c.tc : Thread _ Cert.KernelIdeal.τ).loc Cert.KernelIdeal.main_arg0))
        (m ((c.tc : Thread _ Cert.KernelIdeal.τ).loc Cert.KernelIdeal.main_arg1)) (m ((c.tc : Thread _ Cert.KernelIdeal.τ).loc Cert.KernelIdeal.main_arg2))
        (m ((c.tc : Thread _ Cert.KernelIdeal.τ).loc Cert.KernelIdeal.main_arg3)) (m ((c.tc : Thread _ Cert.KernelIdeal.τ).loc Cert.KernelIdeal.main_arg4))
        (m ((c.tc : Thread _ Cert.KernelIdeal.τ).loc Cert.KernelIdeal.main_arg5)) (m ((c.tc : Thread _ Cert.KernelIdeal.τ).loc Cert.KernelIdeal.main_arg6)) := by
  obtain rfl : c = 0 := Subsingleton.elim _ _
  have hr := Cert.Tables.in_range _ _ _ _ _ _ _ (h 0)
  have key : ∀ (r : Fin 114688) (j : Fin 1024),
      (Cert.KernelIdeal.Experts.dats m (ok_KernelIdeal m h) 0 0).arrAt 4 (Cert.KernelIdeal.Experts.cfgM m (ok_KernelIdeal m h)).N (ix2 r j : Cert.KernelIdeal.S114688x1024.Idx)
      = Cert.ReferenceIdeal.Experts.result _ _ _ _ _ _ _ (ix2 r j) := fun r j => by
    have hb : r.val / 512 < 224 := by omega
    have hl := hr.1 (ix1 0)
    have he := hr.2 (ix1 ⟨r.val / 512, hb⟩)
    refine (Cert.KernelIdeal.Experts.arrAt_apply m (ok_KernelIdeal m h) 0 r j ⟨_, hl⟩ ⟨_, he⟩ ?_ ?_).trans
      (Cert.ReferenceIdeal.Experts.result_apply _ _ _ _ _ _ _ r j ⟨_, hl⟩ ⟨_, he⟩ rfl rfl).symm
    · exact congrArg (fun i => BitVec.toNat (w := 32) (m (((0 : Dev Cert.KernelIdeal.nD).tc : Thread _ Cert.KernelIdeal.τ).loc Cert.KernelIdeal.main_arg1) i))
        (funext fun a => by match a with | ⟨0, _⟩ => rfl)
    · exact congrArg (BitVec.toNat (w := 32)) (Cert.KernelIdeal.Experts.expert_of_lt _ _ hb (ix1 ⟨r.val / 512, hb⟩) rfl)
  have at_all : ∀ i : Cert.KernelIdeal.S114688x1024.Idx,
      (Cert.KernelIdeal.Experts.dats m (ok_KernelIdeal m h) 0 0).arrAt 4 (Cert.KernelIdeal.Experts.cfgM m (ok_KernelIdeal m h)).N i
      = Cert.ReferenceIdeal.Experts.result _ _ _ _ _ _ _ i := fun i => by
    have e : i = (ix2 (i 0 : Fin 114688) (i 1 : Fin 1024) : Cert.KernelIdeal.S114688x1024.Idx) :=
      funext fun a => by match a with | ⟨0, _⟩ => rfl | ⟨1, _⟩ => rfl
    rw [e]
    exact key _ _
  exact funext at_all

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_tables_in_range.Gen.facts, Cert.Pre_layer_in_range.Gen.facts, Cert.Pre_layer_in_range_too.Gen.facts,
    fun m ρ h => Cert.Kernel.Experts.frame m ρ (ok_Kernel m h),
    fun m ρ h => Cert.KernelIdeal.Experts.frame m ρ (ok_KernelIdeal m h),
    frame_Reference,
    fun m ρ h => Cert.Kernel2.InProj.frame m ρ (Cert.InProj.ok_Kernel2 m h),
    fun m ρ h => Cert.Kernel2Ideal.InProj.frame m ρ (Cert.InProj.ok_Kernel2Ideal m h),
    Cert.InProj.frame_Reference2,
    fun m ρ h => Cert.Kernel3.OutProj.frame m ρ (Cert.OutProj.ok_Kernel3 m h),
    fun m ρ h => Cert.Kernel3Ideal.OutProj.frame m ρ (Cert.OutProj.ok_Kernel3Ideal m h),
    Cert.OutProj.frame_Reference3, trivial,
    fun m ρ m' ρ' h hagree => ⟨_,
      (θ_run Cert.KernelIdeal.defs _ _).mono (fun r q c => ⟨(q.1 c).trans (output_eq m h c), q.2 c⟩)
        (θ_run_and ((θ_run Cert.KernelIdeal.defs _ _).mono (fun _ q c => (q c).1 4) (Cert.KernelIdeal.Experts.run_main m ρ (ok_KernelIdeal m h)))
          (Cert.KernelIdeal.Experts.unchanged m ρ (ok_KernelIdeal m h))),
      (θ_run Cert.ReferenceIdeal.defs _ _).mono (fun r q c => ⟨(q c).1.trans (by
          obtain ⟨h0, h1, h2, h3, h4, h5, h6⟩ := hagree c
          rw [← h0, ← h1, ← h2, ← h3, ← h4, ← h5, ← h6]; rfl), (q c).2⟩)
        (Cert.ReferenceIdeal.Value.run (F := Ideal) m' ρ')⟩,
    Cert.InProj.preserves, Cert.InProj.algebraic, trivial, Cert.OutProj.algebraic⟩

end Cert.Proof
